-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x1024x1024x32 : Shape := ⟨4, ![1, 1024, 1024, 32]⟩
abbrev S400x3 : Shape := ⟨2, ![400, 3]⟩
abbrev S1 : Shape := ⟨1, ![1]⟩
abbrev S32x32x3x3 : Shape := ⟨4, ![32, 32, 3, 3]⟩
abbrev S32 : Shape := ⟨1, ![32]⟩
abbrev S_ : Shape := ⟨0, ![]⟩

class Facts : Prop where
  bcast_S_S1x1024x1024x32 : S_.BroadcastsInDim S1x1024x1024x32 (![] : Fin 0 → Fin S1x1024x1024x32.rank)
  reducesTo_S1x1024x1024x32_S_d0_1_2_3 : S1x1024x1024x32.ReducesTo [0, 1, 2, 3] S_
  h_S_ : 0 < S_.numel
  bcast_S_S32x32x3x3 : S_.BroadcastsInDim S32x32x3x3 (![] : Fin 0 → Fin S32x32x3x3.rank)
  reducesTo_S32x32x3x3_S_d0_1_2_3 : S32x32x3x3.ReducesTo [0, 1, 2, 3] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v15 : IVec S32 1) (main_c_5 : IVec S_ 1) : IVec S_ 1 :=
  let main_v16 : IVec S_ 1 := (fun x v => Host.reduce IntOp.andi x v reducesTo_S32_S_d0 h_S_) main_v15 main_c_5
  let main_v17 : IVec S_ 1 := andi main_v13 main_v16
  main_v17

def fn {F : FTy → Type} [FloatOps F] (main_arg0 : FVec F S1x1024x1024x32 .f32) (main_arg1 : IVec S400x3 32) (main_arg2 : IVec S1 32) (main_arg3 : FVec F S32x32x3x3 .f32) (main_arg4 : FVec F S32 .f32) (main_arg5 : FVec F S32 .f32) (main_arg6 : FVec F S32 .f32) (main_arg7 : FVec F S32 .f32) (main_arg8 : FVec F S32 .f32) : IVec S_ 1 :=
  let main_v0 : FVec F S1x1024x1024x32 .f32 := Host.absf main_arg0
  let main_cst : FVec F S_ .f32 := constant S_ .f32 0x7F800000#32
  let main_v1 : FVec F S1x1024x1024x32 .f32 := broadcastInDim S1x1024x1024x32 ![] bcast_S_S1x1024x1024x32 main_cst
  let main_v2 : IVec S1x1024x1024x32 1 := cmpf .olt main_v0 main_v1
  let main_c : IVec S_ 1 := constantI S_ 1 1#1
  let main_v3 : IVec S_ 1 := (fun x v => Host.reduce IntOp.andi x v reducesTo_S1x1024x1024x32_S_d0_1_2_3 h_S_) main_v2 main_c
  let main_v4 : FVec F S32x32x3x3 .f32 := Host.absf main_arg3
  let main_cst_0 : FVec F S_ .f32 := constant S_ .f32 0x7F800000#32
  let main_v5 : FVec F S32x32x3x3 .f32 := broadcastInDim S32x32x3x3 ![] bcast_S_S32x32x3x3 main_cst_0
  let main_v6 : IVec S32x32x3x3 1 := cmpf .olt main_v4 main_v5
  let main_c_1 : IVec S_ 1 := constantI S_ 1 1#1
  let main_v7 : IVec S_ 1 := (fun x v => Host.reduce IntOp.andi x v reducesTo_S32x32x3x3_S_d0_1_2_3 h_S_) main_v6 main_c_1
  let main_v8 : IVec S_ 1 := andi main_v3 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_cst_4 : FVec F S_ .f32 := constant S_ .f32 0x00000000#32
  let main_v14 : FVec F S32 .f32 := broadcastInDim S32 ![] bcast_S_S32 main_cst_4
  let main_v15 : IVec S32 1 := cmpf .oge main_arg8 main_v14
  let main_c_5 : IVec S_ 1 := constantI S_ 1 1#1
  fn_part1 (F := F) main_v13 main_v15 main_c_5
-- ==== Kernel.lean ====
abbrev S1x1024x1024x32 : Shape := ⟨4, ![1, 1024, 1024, 32]⟩
abbrev S400x3 : Shape := ⟨2, ![400, 3]⟩
abbrev S1 : Shape := ⟨1, ![1]⟩
abbrev S32x32x3x3 : Shape := ⟨4, ![32, 32, 3, 3]⟩
abbrev S32 : Shape := ⟨1, ![32]⟩
abbrev S1024x32768 : Shape := ⟨2, ![1024, 32768]⟩
abbrev S1024x64x512 : Shape := ⟨3, ![1024, 64, 512]⟩
abbrev S400x1 : Shape := ⟨2, ![400, 1]⟩
abbrev S400 : Shape := ⟨1, ![400]⟩
abbrev S_ : Shape := ⟨0, ![]⟩
abbrev S1x400 : Shape := ⟨2, ![1, 400]⟩
abbrev S2x400 : Shape := ⟨2, ![2, 400]⟩
abbrev S65 : Shape := ⟨1, ![65]⟩
abbrev S65x1 : Shape := ⟨2, ![65, 1]⟩
abbrev S65x400 : Shape := ⟨2, ![65, 400]⟩
abbrev S3x3x32x32 : Shape := ⟨4, ![3, 3, 32, 32]⟩
abbrev S1x1x1x32 : Shape := ⟨4, ![1, 1, 1, 32]⟩
abbrev S512x512 : Shape := ⟨2, ![512, 512]⟩
abbrev S16x16 : Shape := ⟨2, ![16, 16]⟩
abbrev S1x1x32x32 : Shape := ⟨4, ![1, 1, 32, 32]⟩
abbrev S32x32 : Shape := ⟨2, ![32, 32]⟩
abbrev S16x1x16x1 : Shape := ⟨4, ![16, 1, 16, 1]⟩
abbrev S1x32x1x32 : Shape := ⟨4, ![1, 32, 1, 32]⟩
abbrev S16x32x16x32 : Shape := ⟨4, ![16, 32, 16, 32]⟩
abbrev S1536x512 : Shape := ⟨2, ![1536, 512]⟩
abbrev S1x32 : Shape := ⟨2, ![1, 32]⟩
abbrev S16x32 : Shape := ⟨2, ![16, 32]⟩
abbrev S512 : Shape := ⟨1, ![512]⟩
abbrev S1x512 : Shape := ⟨2, ![1, 512]⟩
abbrev S400x16x512 : Shape := ⟨3, ![400, 16, 512]⟩
abbrev S16x512 : Shape := ⟨2, ![16, 512]⟩
abbrev S1x1 : Shape := ⟨2, ![1, 1]⟩
abbrev S16x16x512 : Shape := ⟨3, ![16, 16, 512]⟩
abbrev S256x512 : Shape := ⟨2, ![256, 512]⟩
abbrev S255x512 : Shape := ⟨2, ![255, 512]⟩
abbrev S256x1 : Shape := ⟨2, ![256, 1]⟩
abbrev S256x1536 : Shape := ⟨2, ![256, 1536]⟩
abbrev S16x64x512 : Shape := ⟨3, ![16, 64, 512]⟩
abbrev S1x16x512 : Shape := ⟨3, ![1, 16, 512]⟩
abbrev S16x1x512 : Shape := ⟨3, ![16, 1, 512]⟩

abbrev nBuf : Space → Nat
  | .hbm => 259
  | .vmem => 41
  | .smem => 3
  | _ => 0

abbrev hbmTy0_0 (i : Nat) : BufTy := match i % 128 with
  | 0 => ⟨S1x1024x1024x32, .f32⟩
  | 1 => ⟨S400x3, .i32⟩
  | 2 => ⟨S1, .i32⟩
  | 3 => ⟨S32x32x3x3, .f32⟩
  | 4 => ⟨S32, .f32⟩
  | 5 => ⟨S32, .f32⟩
  | 6 => ⟨S32, .f32⟩
  | 7 => ⟨S32, .f32⟩
  | 8 => ⟨S32, .f32⟩
  | 9 => ⟨S1024x32768, .f32⟩
  | 10 => ⟨S1024x64x512, .f32⟩
  | 11 => ⟨S400x1, .i32⟩
  | 12 => ⟨S400, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S400, .i32⟩
  | 20 => ⟨S400, .i32⟩
  | 21 => ⟨S_, .i32⟩
  | 22 => ⟨S400, .i32⟩
  | 23 => ⟨S400, .i1⟩
  | 24 => ⟨S_, .i32⟩
  | 25 => ⟨S400, .i32⟩
  | 26 => ⟨S400, .i1⟩
  | 27 => ⟨S_, .i32⟩
  | 28 => ⟨S_, .i1⟩
  | 29 => ⟨S400, .i1⟩
  | 30 => ⟨S400, .i1⟩
  | 31 => ⟨S400, .i1⟩
  | 32 => ⟨S400, .i32⟩
  | 33 => ⟨S400, .i32⟩
  | 34 => ⟨S400, .i32⟩
  | 35 => ⟨S400x1, .i32⟩
  | 36 => ⟨S400, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S400, .i32⟩
  | 44 => ⟨S400, .i32⟩
  | 45 => ⟨S_, .i32⟩
  | 46 => ⟨S400, .i32⟩
  | 47 => ⟨S400, .i1⟩
  | 48 => ⟨S_, .i32⟩
  | 49 => ⟨S400, .i32⟩
  | 50 => ⟨S400, .i1⟩
  | 51 => ⟨S_, .i32⟩
  | 52 => ⟨S_, .i1⟩
  | 53 => ⟨S400, .i1⟩
  | 54 => ⟨S400, .i1⟩
  | 55 => ⟨S400, .i1⟩
  | 56 => ⟨S400, .i32⟩
  | 57 => ⟨S400, .i32⟩
  | 58 => ⟨S400, .i32⟩
  | 59 => ⟨S400, .i32⟩
  | 60 => ⟨S400, .i32⟩
  | 61 => ⟨S400, .i32⟩
  | 62 => ⟨S_, .i32⟩
  | 63 => ⟨S400, .i32⟩
  | 64 => ⟨S400, .i1⟩
  | 65 => ⟨S_, .i32⟩
  | 66 => ⟨S400, .i32⟩
  | 67 => ⟨S400, .i32⟩
  | 68 => ⟨S400, .i32⟩
  | 69 => ⟨S400x1, .i32⟩
  | 70 => ⟨S400, .i32⟩
  | 71 => ⟨S_, .i32⟩
  | 72 => ⟨S400, .i32⟩
  | 73 => ⟨S400, .i1⟩
  | 74 => ⟨S_, .i32⟩
  | 75 => ⟨S400, .i32⟩
  | 76 => ⟨S400, .i32⟩
  | 77 => ⟨S400, .i32⟩
  | 78 => ⟨S400x1, .i32⟩
  | 79 => ⟨S1x400, .i32⟩
  | 80 => ⟨S1x400, .i32⟩
  | 81 => ⟨S1x400, .i32⟩
  | 82 => ⟨S65, .i32⟩
  | 83 => ⟨S65x1, .i32⟩
  | 84 => ⟨S65x400, .i32⟩
  | 85 => ⟨S65x400, .i32⟩
  | 86 => ⟨S65x400, .i1⟩
  | 87 => ⟨S65x400, .i32⟩
  | 88 => ⟨S_, .i32⟩
  | 89 => ⟨S_, .f32⟩
  | 90 => ⟨S32, .f32⟩
  | 91 => ⟨S32, .f32⟩
  | 92 => ⟨S32, .f32⟩
  | 93 => ⟨S32, .f32⟩
  | 94 => ⟨S32, .f32⟩
  | 95 => ⟨S32, .f32⟩
  | 96 => ⟨S32, .f32⟩
  | 97 => ⟨S3x3x32x32, .f32⟩
  | 98 => ⟨S1x1x1x32, .f32⟩
  | 99 => ⟨S3x3x32x32, .f32⟩
  | 100 => ⟨S3x3x32x32, .f32⟩
  | 101 => ⟨S_, .f32⟩
  | 102 => ⟨S512x512, .f32⟩
  | 103 => ⟨S16x16, .i32⟩
  | 104 => ⟨S16x16, .i32⟩
  | 105 => ⟨S_, .i32⟩
  | 106 => ⟨S16x16, .i32⟩
  | 107 => ⟨S16x16, .i32⟩
  | 108 => ⟨S16x16, .i1⟩
  | 109 => ⟨S16x16, .f32⟩
  | 110 => ⟨S1x1x32x32, .f32⟩
  | 111 => ⟨S32x32, .f32⟩
  | 112 => ⟨S16x1x16x1, .f32⟩
  | 113 => ⟨S1x32x1x32, .f32⟩
  | 114 => ⟨S16x32x16x32, .f32⟩
  | 115 => ⟨S16x32x16x32, .f32⟩
  | 116 => ⟨S16x32x16x32, .f32⟩
  | 117 => ⟨S512x512, .f32⟩
  | 118 => ⟨S512x512, .f32⟩
  | 119 => ⟨S16x16, .i32⟩
  | 120 => ⟨S16x16, .i32⟩
  | 121 => ⟨S_, .i32⟩
  | 122 => ⟨S16x16, .i32⟩
  | 123 => ⟨S16x16, .i32⟩
  | 124 => ⟨S16x16, .i1⟩
  | 125 => ⟨S16x16, .f32⟩
  | 126 => ⟨S1x1x32x32, .f32⟩
  | 127 => ⟨S32x32, .f32⟩
  | _ => ⟨S1x1024x1024x32, .f32⟩

abbrev hbmTy0_1 (i : Nat) : BufTy := match i % 128 with
  | 0 => ⟨S16x1x16x1, .f32⟩
  | 1 => ⟨S1x32x1x32, .f32⟩
  | 2 => ⟨S16x32x16x32, .f32⟩
  | 3 => ⟨S16x32x16x32, .f32⟩
  | 4 => ⟨S16x32x16x32, .f32⟩
  | 5 => ⟨S512x512, .f32⟩
  | 6 => ⟨S512x512, .f32⟩
  | 7 => ⟨S16x16, .i32⟩
  | 8 => ⟨S16x16, .i32⟩
  | 9 => ⟨S_, .i32⟩
  | 10 => ⟨S16x16, .i32⟩
  | 11 => ⟨S16x16, .i32⟩
  | 12 => ⟨S16x16, .i1⟩
  | 13 => ⟨S16x16, .f32⟩
  | 14 => ⟨S1x1x32x32, .f32⟩
  | 15 => ⟨S32x32, .f32⟩
  | 16 => ⟨S16x1x16x1, .f32⟩
  | 17 => ⟨S1x32x1x32, .f32⟩
  | 18 => ⟨S16x32x16x32, .f32⟩
  | 19 => ⟨S16x32x16x32, .f32⟩
  | 20 => ⟨S16x32x16x32, .f32⟩
  | 21 => ⟨S512x512, .f32⟩
  | 22 => ⟨S512x512, .f32⟩
  | 23 => ⟨S_, .f32⟩
  | 24 => ⟨S512x512, .f32⟩
  | 25 => ⟨S16x16, .i32⟩
  | 26 => ⟨S16x16, .i32⟩
  | 27 => ⟨S_, .i32⟩
  | 28 => ⟨S16x16, .i32⟩
  | 29 => ⟨S16x16, .i32⟩
  | 30 => ⟨S16x16, .i1⟩
  | 31 => ⟨S16x16, .f32⟩
  | 32 => ⟨S1x1x32x32, .f32⟩
  | 33 => ⟨S32x32, .f32⟩
  | 34 => ⟨S16x1x16x1, .f32⟩
  | 35 => ⟨S1x32x1x32, .f32⟩
  | 36 => ⟨S16x32x16x32, .f32⟩
  | 37 => ⟨S16x32x16x32, .f32⟩
  | 38 => ⟨S16x32x16x32, .f32⟩
  | 39 => ⟨S512x512, .f32⟩
  | 40 => ⟨S512x512, .f32⟩
  | 41 => ⟨S16x16, .i32⟩
  | 42 => ⟨S16x16, .i32⟩
  | 43 => ⟨S_, .i32⟩
  | 44 => ⟨S16x16, .i32⟩
  | 45 => ⟨S16x16, .i32⟩
  | 46 => ⟨S16x16, .i1⟩
  | 47 => ⟨S16x16, .f32⟩
  | 48 => ⟨S1x1x32x32, .f32⟩
  | 49 => ⟨S32x32, .f32⟩
  | 50 => ⟨S16x1x16x1, .f32⟩
  | 51 => ⟨S1x32x1x32, .f32⟩
  | 52 => ⟨S16x32x16x32, .f32⟩
  | 53 => ⟨S16x32x16x32, .f32⟩
  | 54 => ⟨S16x32x16x32, .f32⟩
  | 55 => ⟨S512x512, .f32⟩
  | 56 => ⟨S512x512, .f32⟩
  | 57 => ⟨S16x16, .i32⟩
  | 58 => ⟨S16x16, .i32⟩
  | 59 => ⟨S_, .i32⟩
  | 60 => ⟨S16x16, .i32⟩
  | 61 => ⟨S16x16, .i32⟩
  | 62 => ⟨S16x16, .i1⟩
  | 63 => ⟨S16x16, .f32⟩
  | 64 => ⟨S1x1x32x32, .f32⟩
  | 65 => ⟨S32x32, .f32⟩
  | 66 => ⟨S16x1x16x1, .f32⟩
  | 67 => ⟨S1x32x1x32, .f32⟩
  | 68 => ⟨S16x32x16x32, .f32⟩
  | 69 => ⟨S16x32x16x32, .f32⟩
  | 70 => ⟨S16x32x16x32, .f32⟩
  | 71 => ⟨S512x512, .f32⟩
  | 72 => ⟨S512x512, .f32⟩
  | 73 => ⟨S_, .f32⟩
  | 74 => ⟨S512x512, .f32⟩
  | 75 => ⟨S16x16, .i32⟩
  | 76 => ⟨S16x16, .i32⟩
  | 77 => ⟨S_, .i32⟩
  | 78 => ⟨S16x16, .i32⟩
  | 79 => ⟨S16x16, .i32⟩
  | 80 => ⟨S16x16, .i1⟩
  | 81 => ⟨S16x16, .f32⟩
  | 82 => ⟨S1x1x32x32, .f32⟩
  | 83 => ⟨S32x32, .f32⟩
  | 84 => ⟨S16x1x16x1, .f32⟩
  | 85 => ⟨S1x32x1x32, .f32⟩
  | 86 => ⟨S16x32x16x32, .f32⟩
  | 87 => ⟨S16x32x16x32, .f32⟩
  | 88 => ⟨S16x32x16x32, .f32⟩
  | 89 => ⟨S512x512, .f32⟩
  | 90 => ⟨S512x512, .f32⟩
  | 91 => ⟨S16x16, .i32⟩
  | 92 => ⟨S16x16, .i32⟩
  | 93 => ⟨S_, .i32⟩
  | 94 => ⟨S16x16, .i32⟩
  | 95 => ⟨S16x16, .i32⟩
  | 96 => ⟨S16x16, .i1⟩
  | 97 => ⟨S16x16, .f32⟩
  | 98 => ⟨S1x1x32x32, .f32⟩
  | 99 => ⟨S32x32, .f32⟩
  | 100 => ⟨S16x1x16x1, .f32⟩
  | 101 => ⟨S1x32x1x32, .f32⟩
  | 102 => ⟨S16x32x16x32, .f32⟩
  | 103 => ⟨S16x32x16x32, .f32⟩
  | 104 => ⟨S16x32x16x32, .f32⟩
  | 105 => ⟨S512x512, .f32⟩
  | 106 => ⟨S512x512, .f32⟩
  | 107 => ⟨S16x16, .i32⟩
  | 108 => ⟨S16x16, .i32⟩
  | 109 => ⟨S_, .i32⟩
  | 110 => ⟨S16x16, .i32⟩
  | 111 => ⟨S16x16, .i32⟩
  | 112 => ⟨S16x16, .i1⟩
  | 113 => ⟨S16x16, .f32⟩
  | 114 => ⟨S1x1x32x32, .f32⟩
  | 115 => ⟨S32x32, .f32⟩
  | 116 => ⟨S16x1x16x1, .f32⟩
  | 117 => ⟨S1x32x1x32, .f32⟩
  | 118 => ⟨S16x32x16x32, .f32⟩
  | 119 => ⟨S16x32x16x32, .f32⟩
  | 120 => ⟨S16x32x16x32, .f32⟩
  | 121 => ⟨S512x512, .f32⟩
  | 122 => ⟨S512x512, .f32⟩
  | 123 => ⟨S1536x512, .f32⟩
  | 124 => ⟨S1x32, .f32⟩
  | 125 => ⟨S16x32, .f32⟩
  | 126 => ⟨S512, .f32⟩
  | 127 => ⟨S1x512, .f32⟩
  | _ => ⟨S1x1024x1024x32, .f32⟩

abbrev hbmTy0_2 (i : Nat) : BufTy := match i % 128 with
  | 0 => ⟨S400x16x512, .f32⟩
  | 1 => ⟨S1024x64x512, .f32⟩
  | 2 => ⟨S1x1024x1024x32, .f32⟩
  | _ => ⟨S1x1024x1024x32, .f32⟩

abbrev hbmTy (i : Nat) : BufTy := match i / 128 with
  | 0 => hbmTy0_0 i
  | 1 => hbmTy0_1 i
  | 2 => hbmTy0_2 i
  | _ => ⟨S1x1024x1024x32, .f32⟩

abbrev bufTy : (tb : Table) → Fin (tcTables nBuf tb) → BufTy
  | .hbm, ⟨i, _⟩ => hbmTy i
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S16x512, .f32⟩
  | .local _ .vmem, ⟨16, _⟩ => ⟨S16x512, .f32⟩
  | .local _ .vmem, ⟨17, _⟩ => ⟨S16x512, .f32⟩
  | .local _ .vmem, ⟨18, _⟩ => ⟨S16x512, .f32⟩
  | .local _ .vmem, ⟨19, _⟩ => ⟨S16x512, .f32⟩
  | .local _ .vmem, ⟨20, _⟩ => ⟨S16x512, .f32⟩
  | .local _ .vmem, ⟨21, _⟩ => ⟨S16x512, .f32⟩
  | .local _ .vmem, ⟨22, _⟩ => ⟨S16x512, .f32⟩
  | .local _ .vmem, ⟨23, _⟩ => ⟨S16x512, .f32⟩
  | .local _ .vmem, ⟨24, _⟩ => ⟨S16x512, .f32⟩
  | .local _ .vmem, ⟨25, _⟩ => ⟨S16x512, .f32⟩
  | .local _ .vmem, ⟨26, _⟩ => ⟨S16x512, .f32⟩
  | .local _ .vmem, ⟨27, _⟩ => ⟨S16x512, .f32⟩
  | .local _ .vmem, ⟨28, _⟩ => ⟨S16x512, .f32⟩
  | .local _ .vmem, ⟨29, _⟩ => ⟨S16x512, .f32⟩
  | .local _ .vmem, ⟨30, _⟩ => ⟨S16x512, .f32⟩
  | .local _ .vmem, ⟨31, _⟩ => ⟨S16x512, .f32⟩
  | .local _ .vmem, ⟨32, _⟩ => ⟨S1536x512, .f32⟩
  | .local _ .vmem, ⟨33, _⟩ => ⟨S1x512, .f32⟩
  | .local _ .vmem, ⟨34, _⟩ => ⟨S16x16x512, .f32⟩
  | .local _ .vmem, ⟨35, _⟩ => ⟨S16x16x512, .f32⟩
  | .local _ .vmem, ⟨36, _⟩ => ⟨S16x64x512, .f32⟩
  | .local _ .vmem, ⟨37, _⟩ => ⟨S16x64x512, .f32⟩
  | .local _ .vmem, ⟨38, _⟩ => ⟨S400x16x512, .f32⟩
  | .local _ .vmem, ⟨39, _⟩ => ⟨S16x64x512, .f32⟩
  | .local _ .vmem, ⟨40, _⟩ => ⟨S16x64x512, .f32⟩
  | .local _ .smem, ⟨0, _⟩ => ⟨S2x400, .i32⟩
  | .local _ .smem, ⟨1, _⟩ => ⟨S65, .i32⟩
  | .local _ .smem, ⟨2, _⟩ => ⟨S400, .i32⟩
  | _, _ => ⟨S1x1024x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v7 : Ref sig .tc := ⟨.hbm, 58, rfl⟩
abbrev main_call2_v0 : Ref sig .tc := ⟨.hbm, 59, rfl⟩
abbrev main_call2_v1_0 : Ref sig .tc := ⟨.hbm, 60, rfl⟩
abbrev main_v8 : Ref sig .tc := ⟨.hbm, 61, rfl⟩
abbrev main_c_1 : Ref sig .tc := ⟨.hbm, 62, rfl⟩
abbrev main_v9 : Ref sig .tc := ⟨.hbm, 63, rfl⟩
abbrev main_v10 : Ref sig .tc := ⟨.hbm, 64, rfl⟩
abbrev main_c_2 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_c_3 : Ref sig .tc := ⟨.hbm, 71, rfl⟩
abbrev main_v16 : Ref sig .tc := ⟨.hbm, 72, rfl⟩
abbrev main_v17 : Ref sig .tc := ⟨.hbm, 73, rfl⟩
abbrev main_c_4 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v23 : Ref sig .tc := ⟨.hbm, 79, rfl⟩
abbrev main_v24 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_c_5 : Ref sig .tc := ⟨.hbm, 88, rfl⟩
abbrev main_cst : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_6 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_c_7 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_c_8 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_c_9 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_v74 : Ref sig .tc := ⟨.hbm, 149, rfl⟩
abbrev main_v75 : Ref sig .tc := ⟨.hbm, 150, rfl⟩
abbrev main_cst_10 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_c_11 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_c_12 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_call7_v0 : Ref sig .tc := ⟨.hbm, 178, rfl⟩
abbrev main_call7_v1 : Ref sig .tc := ⟨.hbm, 179, rfl⟩
abbrev main_call7_v2 : Ref sig .tc := ⟨.hbm, 180, rfl⟩
abbrev main_call7_v3 : Ref sig .tc := ⟨.hbm, 181, rfl⟩
abbrev main_call7_v4 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_c_13 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_call8_v0 : Ref sig .tc := ⟨.hbm, 194, rfl⟩
abbrev main_call8_v1 : Ref sig .tc := ⟨.hbm, 195, rfl⟩
abbrev main_call8_v2 : Ref sig .tc := ⟨.hbm, 196, rfl⟩
abbrev main_call8_v3 : Ref sig .tc := ⟨.hbm, 197, rfl⟩
abbrev main_call8_v4 : Ref sig .tc := ⟨.hbm, 198, rfl⟩
abbrev main_v105 : Ref sig .tc := ⟨.hbm, 199, rfl⟩
abbrev main_v106 : Ref sig .tc := ⟨.hbm, 200, rfl⟩
abbrev main_cst_14 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_c_15 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_call9_v0 : Ref sig .tc := ⟨.hbm, 212, rfl⟩
abbrev main_call9_v1 : Ref sig .tc := ⟨.hbm, 213, rfl⟩
abbrev main_call9_v2 : Ref sig .tc := ⟨.hbm, 214, rfl⟩
abbrev main_call9_v3 : Ref sig .tc := ⟨.hbm, 215, rfl⟩
abbrev main_call9_v4 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_c_16 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_call10_v0 : Ref sig .tc := ⟨.hbm, 228, rfl⟩
abbrev main_call10_v1 : Ref sig .tc := ⟨.hbm, 229, rfl⟩
abbrev main_call10_v2 : Ref sig .tc := ⟨.hbm, 230, rfl⟩
abbrev main_call10_v3 : Ref sig .tc := ⟨.hbm, 231, rfl⟩
abbrev main_call10_v4 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_c_17 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_call11_v0 : Ref sig .tc := ⟨.hbm, 244, rfl⟩
abbrev main_call11_v1 : Ref sig .tc := ⟨.hbm, 245, rfl⟩
abbrev main_call11_v2 : Ref sig .tc := ⟨.hbm, 246, rfl⟩
abbrev main_call11_v3 : Ref sig .tc := ⟨.hbm, 247, rfl⟩
abbrev main_call11_v4 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v25 : Ref sig .tc := ⟨.smem, 0, rfl⟩
abbrev main_v33 : Ref sig .tc := ⟨.smem, 1, rfl⟩
abbrev main_v22 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg18_1 : Ref sig .tc := ⟨.vmem, 35, rfl⟩
abbrev cc1_stg0_0 : Ref sig .tc := ⟨.vmem, 36, rfl⟩
abbrev cc1_stg0_1 : Ref sig .tc := ⟨.vmem, 37, rfl⟩
abbrev cc1_stg1_0 : Ref sig .tc := ⟨.vmem, 38, rfl⟩
abbrev cc1_stg2_0 : Ref sig .tc := ⟨.vmem, 39, rfl⟩
abbrev cc1_stg2_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem18_1 : DmaSem sig := 35
abbrev cc1_sem0_0 : DmaSem sig := 36
abbrev cc1_sem0_1 : DmaSem sig := 37
abbrev cc1_sem1_0 : DmaSem sig := 38
abbrev cc1_sem2_0 : DmaSem sig := 39
abbrev cc1_sem2_1 : DmaSem sig := 40

abbrev nD : Nat := 1
abbrev τ : Topo := Topo.v7x

variable {F : FTy → Type} [FloatOps F]

abbrev grid0 : Pipeline.Grid := ⟨1, ![25], ![false]⟩

abbrev pre0 : Pipeline.Prefetch sig := ⟨1, ![main_v25.idx], fun | 0 => main_v25.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let c0 : Index := 0#32
  let c16_i32 : BitVec 32 := 16#32
  let arg0 : BitVec 32 := BitVec.ofNat 32 (i 0).val
  let v0 : BitVec 32 := Scalar.muli c16_i32 arg0
  let v1 : BitVec 32 := Scalar.addi v0 c0_i32
  let v2 : Index := Scalar.indexCast v1
  ![0, v2.toNat]
def k0_off2 (i : grid0.Coords) (c0_i32_1 : BitVec 32) : Fin 2 → Nat :=
  let c1 : Index := 1#32
  let c16_i32_0 : BitVec 32 := 16#32
  let arg0 : BitVec 32 := BitVec.ofNat 32 (i 0).val
  let v4 : BitVec 32 := Scalar.muli c16_i32_0 arg0
  let v5 : BitVec 32 := Scalar.addi v4 c0_i32_1
  let v6 : Index := Scalar.indexCast v5
  ![1, v6.toNat]
def cc0_transform_0 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c0_i32 : BitVec 32 := 0#32
  let v1 : BitVec 32 := Scalar.addi v0 c0_i32
  let c0 : Index := 0#32
  let v2 : Index := Scalar.indexCast v1
  let v3 : BitVec 32 := pf.at 0 (Rect.unit (s := S2x400) ![0, v2.toNat] S1x1.size (k0_off1_inb i 0)) numel1_S1x1
  let c16_i32_0 : BitVec 32 := 16#32
  let v4 : BitVec 32 := Scalar.muli c16_i32_0 arg0
  let c0_i32_1 : BitVec 32 := 0#32
  let v5 : BitVec 32 := Scalar.addi v4 c0_i32_1
  let c1 : Index := 1#32
  let v6 : Index := Scalar.indexCast v5
  let v7 : BitVec 32 := pf.at 0 (Rect.unit (s := S2x400) ![1, v6.toNat] S1x1.size (k0_off2_inb i 0)) numel1_S1x1
  let c0_i32_2 : BitVec 32 := 0#32
  ![v3.toNat, v7.toNat]

def cc0_transform_1 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c1_i32 : BitVec 32 := 1#32
  let v1 : BitVec 32 := Scalar.addi v0 c1_i32
  let c0 : Index := 0#32
  let v2 : Index := Scalar.indexCast v1
  let v3 : BitVec 32 := pf.at 0 (Rect.unit (s := S2x400) ![0, v2.toNat] S1x1.size (k0_off1_inb i 1)) numel1_S1x1
  let c16_i32_0 : BitVec 32 := 16#32
  let v4 : BitVec 32 := Scalar.muli c16_i32_0 arg0
  let c1_i32_1 : BitVec 32 := 1#32
  let v5 : BitVec 32 := Scalar.addi v4 c1_i32_1
  let c1 : Index := 1#32
  let v6 : Index := Scalar.indexCast v5
  let v7 : BitVec 32 := pf.at 0 (Rect.unit (s := S2x400) ![1, v6.toNat] S1x1.size (k0_off2_inb i 1)) numel1_S1x1
  let c0_i32 : BitVec 32 := 0#32
  ![v3.toNat, v7.toNat]

def cc0_transform_2 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c2_i32 : BitVec 32 := 2#32
  let v1 : BitVec 32 := Scalar.addi v0 c2_i32
  let c0 : Index := 0#32
  let v2 : Index := Scalar.indexCast v1
  let v3 : BitVec 32 := pf.at 0 (Rect.unit (s := S2x400) ![0, v2.toNat] S1x1.size (k0_off1_inb i 2)) numel1_S1x1
  let c16_i32_0 : BitVec 32 := 16#32
  let v4 : BitVec 32 := Scalar.muli c16_i32_0 arg0
  let c2_i32_1 : BitVec 32 := 2#32
  let v5 : BitVec 32 := Scalar.addi v4 c2_i32_1
  let c1 : Index := 1#32
  let v6 : Index := Scalar.indexCast v5
  let v7 : BitVec 32 := pf.at 0 (Rect.unit (s := S2x400) ![1, v6.toNat] S1x1.size (k0_off2_inb i 2)) numel1_S1x1
  let c0_i32 : BitVec 32 := 0#32
  ![v3.toNat, v7.toNat]

def cc0_transform_3 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c3_i32 : BitVec 32 := 3#32
  let v1 : BitVec 32 := Scalar.addi v0 c3_i32
  let c0 : Index := 0#32
  let v2 : Index := Scalar.indexCast v1
  let v3 : BitVec 32 := pf.at 0 (Rect.unit (s := S2x400) ![0, v2.toNat] S1x1.size (k0_off1_inb i 3)) numel1_S1x1
  let c16_i32_0 : BitVec 32 := 16#32
  let v4 : BitVec 32 := Scalar.muli c16_i32_0 arg0
  let c3_i32_1 : BitVec 32 := 3#32
  let v5 : BitVec 32 := Scalar.addi v4 c3_i32_1
  let c1 : Index := 1#32
  let v6 : Index := Scalar.indexCast v5
  let v7 : BitVec 32 := pf.at 0 (Rect.unit (s := S2x400) ![1, v6.toNat] S1x1.size (k0_off2_inb i 3)) numel1_S1x1
  let c0_i32 : BitVec 32 := 0#32
  ![v3.toNat, v7.toNat]

def cc0_transform_4 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c4_i32 : BitVec 32 := 4#32
  let v1 : BitVec 32 := Scalar.addi v0 c4_i32
  let c0 : Index := 0#32
  let v2 : Index := Scalar.indexCast v1
  let v3 : BitVec 32 := pf.at 0 (Rect.unit (s := S2x400) ![0, v2.toNat] S1x1.size (k0_off1_inb i 4)) numel1_S1x1
  let c16_i32_0 : BitVec 32 := 16#32
  let v4 : BitVec 32 := Scalar.muli c16_i32_0 arg0
  let c4_i32_1 : BitVec 32 := 4#32
  let v5 : BitVec 32 := Scalar.addi v4 c4_i32_1
  let c1 : Index := 1#32
  let v6 : Index := Scalar.indexCast v5
  let v7 : BitVec 32 := pf.at 0 (Rect.unit (s := S2x400) ![1, v6.toNat] S1x1.size (k0_off2_inb i 4)) numel1_S1x1
  let c0_i32 : BitVec 32 := 0#32
  ![v3.toNat, v7.toNat]

def cc0_transform_5 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c5_i32 : BitVec 32 := 5#32
  let v1 : BitVec 32 := Scalar.addi v0 c5_i32
  let c0 : Index := 0#32
  let v2 : Index := Scalar.indexCast v1
  let v3 : BitVec 32 := pf.at 0 (Rect.unit (s := S2x400) ![0, v2.toNat] S1x1.size (k0_off1_inb i 5)) numel1_S1x1
  let c16_i32_0 : BitVec 32 := 16#32
  let v4 : BitVec 32 := Scalar.muli c16_i32_0 arg0
  let c5_i32_1 : BitVec 32 := 5#32
  let v5 : BitVec 32 := Scalar.addi v4 c5_i32_1
  let c1 : Index := 1#32
  let v6 : Index := Scalar.indexCast v5
  let v7 : BitVec 32 := pf.at 0 (Rect.unit (s := S2x400) ![1, v6.toNat] S1x1.size (k0_off2_inb i 5)) numel1_S1x1
  let c0_i32 : BitVec 32 := 0#32
  ![v3.toNat, v7.toNat]

def cc0_transform_6 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c6_i32 : BitVec 32 := 6#32
  let v1 : BitVec 32 := Scalar.addi v0 c6_i32
  let c0 : Index := 0#32
  let v2 : Index := Scalar.indexCast v1
  let v3 : BitVec 32 := pf.at 0 (Rect.unit (s := S2x400) ![0, v2.toNat] S1x1.size (k0_off1_inb i 6)) numel1_S1x1
  let c16_i32_0 : BitVec 32 := 16#32
  let v4 : BitVec 32 := Scalar.muli c16_i32_0 arg0
  let c6_i32_1 : BitVec 32 := 6#32
  let v5 : BitVec 32 := Scalar.addi v4 c6_i32_1
  let c1 : Index := 1#32
  let v6 : Index := Scalar.indexCast v5
  let v7 : BitVec 32 := pf.at 0 (Rect.unit (s := S2x400) ![1, v6.toNat] S1x1.size (k0_off2_inb i 6)) numel1_S1x1
  let c0_i32 : BitVec 32 := 0#32
  ![v3.toNat, v7.toNat]

def cc0_transform_7 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c7_i32 : BitVec 32 := 7#32
  let v1 : BitVec 32 := Scalar.addi v0 c7_i32
  let c0 : Index := 0#32
  let v2 : Index := Scalar.indexCast v1
  let v3 : BitVec 32 := pf.at 0 (Rect.unit (s := S2x400) ![0, v2.toNat] S1x1.size (k0_off1_inb i 7)) numel1_S1x1
  let c16_i32_0 : BitVec 32 := 16#32
  let v4 : BitVec 32 := Scalar.muli c16_i32_0 arg0
  let c7_i32_1 : BitVec 32 := 7#32
  let v5 : BitVec 32 := Scalar.addi v4 c7_i32_1
  let c1 : Index := 1#32
  let v6 : Index := Scalar.indexCast v5
  let v7 : BitVec 32 := pf.at 0 (Rect.unit (s := S2x400) ![1, v6.toNat] S1x1.size (k0_off2_inb i 7)) numel1_S1x1
  let c0_i32 : BitVec 32 := 0#32
  ![v3.toNat, v7.toNat]

def cc0_transform_8 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c8_i32 : BitVec 32 := 8#32
  let v1 : BitVec 32 := Scalar.addi v0 c8_i32
  let c0 : Index := 0#32
  let v2 : Index := Scalar.indexCast v1
  let v3 : BitVec 32 := pf.at 0 (Rect.unit (s := S2x400) ![0, v2.toNat] S1x1.size (k0_off1_inb i 8)) numel1_S1x1
  let c16_i32_0 : BitVec 32 := 16#32
  let v4 : BitVec 32 := Scalar.muli c16_i32_0 arg0
  let c8_i32_1 : BitVec 32 := 8#32
  let v5 : BitVec 32 := Scalar.addi v4 c8_i32_1
  let c1 : Index := 1#32
  let v6 : Index := Scalar.indexCast v5
  let v7 : BitVec 32 := pf.at 0 (Rect.unit (s := S2x400) ![1, v6.toNat] S1x1.size (k0_off2_inb i 8)) numel1_S1x1
  let c0_i32 : BitVec 32 := 0#32
  ![v3.toNat, v7.toNat]

def cc0_transform_9 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c9_i32 : BitVec 32 := 9#32
  let v1 : BitVec 32 := Scalar.addi v0 c9_i32
  let c0 : Index := 0#32
  let v2 : Index := Scalar.indexCast v1
  let v3 : BitVec 32 := pf.at 0 (Rect.unit (s := S2x400) ![0, v2.toNat] S1x1.size (k0_off1_inb i 9)) numel1_S1x1
  let c16_i32_0 : BitVec 32 := 16#32
  let v4 : BitVec 32 := Scalar.muli c16_i32_0 arg0
  let c9_i32_1 : BitVec 32 := 9#32
  let v5 : BitVec 32 := Scalar.addi v4 c9_i32_1
  let c1 : Index := 1#32
  let v6 : Index := Scalar.indexCast v5
  let v7 : BitVec 32 := pf.at 0 (Rect.unit (s := S2x400) ![1, v6.toNat] S1x1.size (k0_off2_inb i 9)) numel1_S1x1
  let c0_i32 : BitVec 32 := 0#32
  ![v3.toNat, v7.toNat]

def cc0_transform_10 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c10_i32 : BitVec 32 := 10#32
  let v1 : BitVec 32 := Scalar.addi v0 c10_i32
  let c0 : Index := 0#32
  let v2 : Index := Scalar.indexCast v1
  let v3 : BitVec 32 := pf.at 0 (Rect.unit (s := S2x400) ![0, v2.toNat] S1x1.size (k0_off1_inb i 10)) numel1_S1x1
  let c16_i32_0 : BitVec 32 := 16#32
  let v4 : BitVec 32 := Scalar.muli c16_i32_0 arg0
  let c10_i32_1 : BitVec 32 := 10#32
  let v5 : BitVec 32 := Scalar.addi v4 c10_i32_1
  let c1 : Index := 1#32
  let v6 : Index := Scalar.indexCast v5
  let v7 : BitVec 32 := pf.at 0 (Rect.unit (s := S2x400) ![1, v6.toNat] S1x1.size (k0_off2_inb i 10)) numel1_S1x1
  let c0_i32 : BitVec 32 := 0#32
  ![v3.toNat, v7.toNat]

def cc0_transform_11 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c11_i32 : BitVec 32 := 11#32
  let v1 : BitVec 32 := Scalar.addi v0 c11_i32
  let c0 : Index := 0#32
  let v2 : Index := Scalar.indexCast v1
  let v3 : BitVec 32 := pf.at 0 (Rect.unit (s := S2x400) ![0, v2.toNat] S1x1.size (k0_off1_inb i 11)) numel1_S1x1
  let c16_i32_0 : BitVec 32 := 16#32
  let v4 : BitVec 32 := Scalar.muli c16_i32_0 arg0
  let c11_i32_1 : BitVec 32 := 11#32
  let v5 : BitVec 32 := Scalar.addi v4 c11_i32_1
  let c1 : Index := 1#32
  let v6 : Index := Scalar.indexCast v5
  let v7 : BitVec 32 := pf.at 0 (Rect.unit (s := S2x400) ![1, v6.toNat] S1x1.size (k0_off2_inb i 11)) numel1_S1x1
  let c0_i32 : BitVec 32 := 0#32
  ![v3.toNat, v7.toNat]

def cc0_transform_12 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c12_i32 : BitVec 32 := 12#32
  let v1 : BitVec 32 := Scalar.addi v0 c12_i32
  let c0 : Index := 0#32
  let v2 : Index := Scalar.indexCast v1
  let v3 : BitVec 32 := pf.at 0 (Rect.unit (s := S2x400) ![0, v2.toNat] S1x1.size (k0_off1_inb i 12)) numel1_S1x1
  let c16_i32_0 : BitVec 32 := 16#32
  let v4 : BitVec 32 := Scalar.muli c16_i32_0 arg0
  let c12_i32_1 : BitVec 32 := 12#32
  let v5 : BitVec 32 := Scalar.addi v4 c12_i32_1
  let c1 : Index := 1#32
  let v6 : Index := Scalar.indexCast v5
  let v7 : BitVec 32 := pf.at 0 (Rect.unit (s := S2x400) ![1, v6.toNat] S1x1.size (k0_off2_inb i 12)) numel1_S1x1
  let c0_i32 : BitVec 32 := 0#32
  ![v3.toNat, v7.toNat]

def cc0_transform_13 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c13_i32 : BitVec 32 := 13#32
  let v1 : BitVec 32 := Scalar.addi v0 c13_i32
  let c0 : Index := 0#32
  let v2 : Index := Scalar.indexCast v1
  let v3 : BitVec 32 := pf.at 0 (Rect.unit (s := S2x400) ![0, v2.toNat] S1x1.size (k0_off1_inb i 13)) numel1_S1x1
  let c16_i32_0 : BitVec 32 := 16#32
  let v4 : BitVec 32 := Scalar.muli c16_i32_0 arg0
  let c13_i32_1 : BitVec 32 := 13#32
  let v5 : BitVec 32 := Scalar.addi v4 c13_i32_1
  let c1 : Index := 1#32
  let v6 : Index := Scalar.indexCast v5
  let v7 : BitVec 32 := pf.at 0 (Rect.unit (s := S2x400) ![1, v6.toNat] S1x1.size (k0_off2_inb i 13)) numel1_S1x1
  let c0_i32 : BitVec 32 := 0#32
  ![v3.toNat, v7.toNat]

def cc0_transform_14 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c14_i32 : BitVec 32 := 14#32
  let v1 : BitVec 32 := Scalar.addi v0 c14_i32
  let c0 : Index := 0#32
  let v2 : Index := Scalar.indexCast v1
  let v3 : BitVec 32 := pf.at 0 (Rect.unit (s := S2x400) ![0, v2.toNat] S1x1.size (k0_off1_inb i 14)) numel1_S1x1
  let c16_i32_0 : BitVec 32 := 16#32
  let v4 : BitVec 32 := Scalar.muli c16_i32_0 arg0
  let c14_i32_1 : BitVec 32 := 14#32
  let v5 : BitVec 32 := Scalar.addi v4 c14_i32_1
  let c1 : Index := 1#32
  let v6 : Index := Scalar.indexCast v5
  let v7 : BitVec 32 := pf.at 0 (Rect.unit (s := S2x400) ![1, v6.toNat] S1x1.size (k0_off2_inb i 14)) numel1_S1x1
  let c0_i32 : BitVec 32 := 0#32
  ![v3.toNat, v7.toNat]

def cc0_transform_15 (k0_off1_inb : ∀ i : grid0.Coords, ∀ (r : Fin 16), ∀ a, (k0_off1 i (BitVec.ofNat 32 r.val)) a + S1x1.size a ≤ S2x400.size a) (numel1_S1x1 : S1x1.numel = 1) (k0_off2_inb : ∀ i : grid0.Coords, ∀ (r : Fin 16), ∀ a, (k0_off2 i (BitVec.ofNat 32 r.val)) a + S1x1.size a ≤ S2x400.size a) (pf : pre0.Contents (Elt F)) (i : grid0.Coords) : Fin 2 → Nat :=
  let arg0 : BitVec 32 := BitVec.ofNat 32 (i 0).val
  let c16_i32 : BitVec 32 := 16#32
  let v0 : BitVec 32 := Scalar.muli c16_i32 arg0
  let c15_i32 : BitVec 32 := 15#32
  let v1 : BitVec 32 := Scalar.addi v0 c15_i32
  let c0 : Index := 0#32
  let v2 : Index := Scalar.indexCast v1
  let v3 : BitVec 32 := pf.at 0 (Rect.unit (s := S2x400) ![0, v2.toNat] S1x1.size (k0_off1_inb i 15)) numel1_S1x1
  let c16_i32_0 : BitVec 32 := 16#32
  let v4 : BitVec 32 := Scalar.muli c16_i32_0 arg0
  let c15_i32_1 : BitVec 32 := 15#32
  let v5 : BitVec 32 := Scalar.addi v4 c15_i32_1
  let c1 : Index := 1#32
  let v6 : Index := Scalar.indexCast v5
  let v7 : BitVec 32 := pf.at 0 (Rect.unit (s := S2x400) ![1, v6.toNat] S1x1.size (k0_off2_inb i 15)) numel1_S1x1
  let c0_i32 : BitVec 32 := 0#32
  ![v3.toNat, v7.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1536x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S16x16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![64], ![false]⟩

abbrev pre1 : Pipeline.Prefetch sig := ⟨2, ![main_v33.idx, main_v22.idx], fun | 0 => main_v33.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v3 : Index := Scalar.indexCast arg0
  ![v3.toNat]
def k1_off2 (i : grid1.Coords) : Fin 1 → Nat :=
  let arg0 : BitVec 32 := BitVec.ofNat 32 (i 0).val
  let c1_i32 : BitVec 32 := 1#32
  let v5 : BitVec 32 := Scalar.addi arg0 c1_i32
  let v6 : Index := Scalar.indexCast v5
  ![v6.toNat]
@[reducible] def k1_t1_loop (v4 : BitVec 32) (v7 : BitVec 32) : Scf.Loop 32 :=
  let v8 : BitVec 32 := Scalar.subi v7 v4
  let c1_i32_5 : BitVec 32 := 1#32
  let v10 : BitVec 32 := Scalar.divsi v8 c1_i32_5
  let v11 : BitVec 32 := Scalar.muli v10 c1_i32_5
  let v12 : BitVec 32 := Scalar.addi v4 v11
  let c1_i32_6 : BitVec 32 := 1#32
  ⟨v4, v12, c1_i32_6⟩

def k1_off3 (v4 : BitVec 32) (v7 : BitVec 32) (k1_t1 : Fin (k1_t1_loop v4 v7).trips) : Fin 3 → Nat :=
  let c1_i32_6 : BitVec 32 := 1#32
  let arg6 : BitVec 32 := Scf.iv v4 c1_i32_6 k1_t1
  let v13 : Index := Scalar.indexCast arg6
  let c0_8 : Index := 0#32
  let c0_9 : Index := 0#32
  ![v13.toNat, 0, 0]
def k1_off4 (v4 : BitVec 32) (v7 : BitVec 32) (k1_t1 : Fin (k1_t1_loop v4 v7).trips) : Fin 1 → Nat :=
  let c1_i32_6 : BitVec 32 := 1#32
  let arg6 : BitVec 32 := Scf.iv v4 c1_i32_6 k1_t1
  let v16 : Index := Scalar.indexCast arg6
  ![v16.toNat]
def k1_off5 (v17 : BitVec 32) : Fin 3 → Nat :=
  let c0_10 : Index := 0#32
  let v18 : Index := Scalar.indexCast v17
  let c0_11 : Index := 0#32
  ![0, v18.toNat, 0]

def k1_chk2 (v17 : BitVec 32) : Prop :=
  (∀ a, (k1_off5 v17) a + S16x1x512.size a ≤ S16x64x512.size a)
theorem k1_off5_inb : ∀ (v17 : BitVec 32) (k1_hw2 : k1_chk2 v17), ∀ a, (k1_off5 v17) a + S16x1x512.size a ≤ S16x64x512.size a := fun v17 k1_hw2 => k1_hw2

@[reducible] def k1_t2_loop (v4 : BitVec 32) (v7 : BitVec 32) : Scf.Loop 32 :=
  let v8 : BitVec 32 := Scalar.subi v7 v4
  let c1_i32_5 : BitVec 32 := 1#32
  let v10 : BitVec 32 := Scalar.divsi v8 c1_i32_5
  let v11 : BitVec 32 := Scalar.muli v10 c1_i32_5
  let v12 : BitVec 32 := Scalar.addi v4 v11
  let v9 : BitVec 32 := Scalar.addi v4 v8
  let c1_i32_7 : BitVec 32 := 1#32
  ⟨v12, v9, c1_i32_7⟩
def k1_off6 (v4 : BitVec 32) (v7 : BitVec 32) (k1_t2 : Fin (k1_t2_loop v4 v7).trips) : Fin 3 → Nat :=
  let v8 : BitVec 32 := Scalar.subi v7 v4
  let c1_i32_5 : BitVec 32 := 1#32
  let v10 : BitVec 32 := Scalar.divsi v8 c1_i32_5
  let v11 : BitVec 32 := Scalar.muli v10 c1_i32_5
  let v12 : BitVec 32 := Scalar.addi v4 v11
  let c1_i32_7 : BitVec 32 := 1#32
  let arg6 : BitVec 32 := Scf.iv v12 c1_i32_7 k1_t2
  let v13 : Index := Scalar.indexCast arg6
  let c0_8 : Index := 0#32
  let c0_9 : Index := 0#32
  ![v13.toNat, 0, 0]
def k1_off7 (v4 : BitVec 32) (v7 : BitVec 32) (k1_t2 : Fin (k1_t2_loop v4 v7).trips) : Fin 1 → Nat :=
  let v8 : BitVec 32 := Scalar.subi v7 v4
  let c1_i32_5 : BitVec 32 := 1#32
  let v10 : BitVec 32 := Scalar.divsi v8 c1_i32_5
  let v11 : BitVec 32 := Scalar.muli v10 c1_i32_5
  let v12 : BitVec 32 := Scalar.addi v4 v11
  let c1_i32_7 : BitVec 32 := 1#32
  let arg6 : BitVec 32 := Scf.iv v12 c1_i32_7 k1_t2
  let v16 : Index := Scalar.indexCast arg6
  ![v16.toNat]

def k1_chk1 (v4 : BitVec 32) (v7 : BitVec 32) : Prop :=
  ((k1_t1_loop v4 v7).OK) ∧
  (∀ k1_t1 : Fin (k1_t1_loop v4 v7).trips, ∀ a, (k1_off3 v4 v7 k1_t1) a + S1x16x512.size a ≤ S400x16x512.size a) ∧
  (∀ k1_t1 : Fin (k1_t1_loop v4 v7).trips, ∀ a, (k1_off4 v4 v7 k1_t1) a + S1.size a ≤ S400.size a) ∧
  ((k1_t2_loop v4 v7).OK) ∧
  (∀ k1_t2 : Fin (k1_t2_loop v4 v7).trips, ∀ a, (k1_off6 v4 v7 k1_t2) a + S1x16x512.size a ≤ S400x16x512.size a) ∧
  (∀ k1_t2 : Fin (k1_t2_loop v4 v7).trips, ∀ a, (k1_off7 v4 v7 k1_t2) a + S1.size a ≤ S400.size a)
theorem k1_t1_ok : ∀ (v4 : BitVec 32) (v7 : BitVec 32) (k1_hw1 : k1_chk1 v4 v7), (k1_t1_loop v4 v7).OK := fun v4 v7 k1_hw1 => k1_hw1.1
theorem k1_off3_inb : ∀ (v4 : BitVec 32) (v7 : BitVec 32) (k1_hw1 : k1_chk1 v4 v7) (k1_t1 : Fin (k1_t1_loop v4 v7).trips), ∀ a, (k1_off3 v4 v7 k1_t1) a + S1x16x512.size a ≤ S400x16x512.size a := fun v4 v7 k1_hw1 k1_t1 => k1_hw1.2.1 k1_t1
theorem k1_off4_inb : ∀ (v4 : BitVec 32) (v7 : BitVec 32) (k1_hw1 : k1_chk1 v4 v7) (k1_t1 : Fin (k1_t1_loop v4 v7).trips), ∀ a, (k1_off4 v4 v7 k1_t1) a + S1.size a ≤ S400.size a := fun v4 v7 k1_hw1 k1_t1 => k1_hw1.2.2.1 k1_t1
theorem k1_t2_ok : ∀ (v4 : BitVec 32) (v7 : BitVec 32) (k1_hw1 : k1_chk1 v4 v7), (k1_t2_loop v4 v7).OK := fun v4 v7 k1_hw1 => k1_hw1.2.2.2.1
theorem k1_off6_inb : ∀ (v4 : BitVec 32) (v7 : BitVec 32) (k1_hw1 : k1_chk1 v4 v7) (k1_t2 : Fin (k1_t2_loop v4 v7).trips), ∀ a, (k1_off6 v4 v7 k1_t2) a + S1x16x512.size a ≤ S400x16x512.size a := fun v4 v7 k1_hw1 k1_t2 => k1_hw1.2.2.2.2.1 k1_t2
theorem k1_off7_inb : ∀ (v4 : BitVec 32) (v7 : BitVec 32) (k1_hw1 : k1_chk1 v4 v7) (k1_t2 : Fin (k1_t2_loop v4 v7).trips), ∀ a, (k1_off7 v4 v7 k1_t2) a + S1.size a ≤ S400.size a := fun v4 v7 k1_hw1 k1_t2 => k1_hw1.2.2.2.2.2 k1_t2

def k1_off8 (v17 : BitVec 32) : Fin 3 → Nat :=
  let c0_10 : Index := 0#32
  let v18 : Index := Scalar.indexCast v17
  let c0_11 : Index := 0#32
  ![0, v18.toNat, 0]

def k1_chk3 (v17 : BitVec 32) : Prop :=
  (∀ a, (k1_off8 v17) a + S16x1x512.size a ≤ S16x64x512.size a)
theorem k1_off8_inb : ∀ (v17 : BitVec 32) (k1_hw3 : k1_chk3 v17), ∀ a, (k1_off8 v17) a + S16x1x512.size a ≤ S16x64x512.size a := fun v17 k1_hw3 => k1_hw3

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S400x16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S1x1024x1024x32 : Shape := ⟨4, ![1, 1024, 1024, 32]⟩
abbrev S400x3 : Shape := ⟨2, ![400, 3]⟩
abbrev S1 : Shape := ⟨1, ![1]⟩
abbrev S32x32x3x3 : Shape := ⟨4, ![32, 32, 3, 3]⟩
abbrev S32 : Shape := ⟨1, ![32]⟩
abbrev S400x1 : Shape := ⟨2, ![400, 1]⟩
abbrev S400 : Shape := ⟨1, ![400]⟩
abbrev S_ : Shape := ⟨0, ![]⟩
abbrev S16 : Shape := ⟨1, ![16]⟩
abbrev S1x16 : Shape := ⟨2, ![1, 16]⟩
abbrev S400x16 : Shape := ⟨2, ![400, 16]⟩
abbrev S400x1x1 : Shape := ⟨3, ![400, 1, 1]⟩
abbrev S400x16x1 : Shape := ⟨3, ![400, 16, 1]⟩
abbrev S400x1x16 : Shape := ⟨3, ![400, 1, 16]⟩
abbrev S400x16x16 : Shape := ⟨3, ![400, 16, 16]⟩
abbrev S400x16x16x1 : Shape := ⟨4, ![400, 16, 16, 1]⟩
abbrev S400x16x16x3 : Shape := ⟨4, ![400, 16, 16, 3]⟩
abbrev S400x16x16x32 : Shape := ⟨4, ![400, 16, 16, 32]⟩
abbrev S400x18x18x32 : Shape := ⟨4, ![400, 18, 18, 32]⟩
abbrev S32x32x1x1 : Shape := ⟨4, ![32, 32, 1, 1]⟩
abbrev S32x32 : Shape := ⟨2, ![32, 32]⟩
abbrev S1x1x1x32 : Shape := ⟨4, ![1, 1, 1, 32]⟩

abbrev nBuf : Space → Nat
  | .hbm => 241
  | .vmem => 0
  | .smem => 0
  | _ => 0

abbrev hbmTy0_0 (i : Nat) : BufTy := match i % 128 with
  | 0 => ⟨S1x1024x1024x32, .f32⟩
  | 1 => ⟨S400x3, .i32⟩
  | 2 => ⟨S1, .i32⟩
  | 3 => ⟨S32x32x3x3, .f32⟩
  | 4 => ⟨S32, .f32⟩
  | 5 => ⟨S32, .f32⟩
  | 6 => ⟨S32, .f32⟩
  | 7 => ⟨S32, .f32⟩
  | 8 => ⟨S32, .f32⟩
  | 9 => ⟨S400x1, .i32⟩
  | 10 => ⟨S400, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S400, .i32⟩
  | 18 => ⟨S400, .i32⟩
  | 19 => ⟨S_, .i32⟩
  | 20 => ⟨S400, .i32⟩
  | 21 => ⟨S400, .i1⟩
  | 22 => ⟨S_, .i32⟩
  | 23 => ⟨S400, .i32⟩
  | 24 => ⟨S400, .i1⟩
  | 25 => ⟨S_, .i32⟩
  | 26 => ⟨S_, .i1⟩
  | 27 => ⟨S400, .i1⟩
  | 28 => ⟨S400, .i1⟩
  | 29 => ⟨S400, .i1⟩
  | 30 => ⟨S400, .i32⟩
  | 31 => ⟨S400, .i32⟩
  | 32 => ⟨S400, .i32⟩
  | 33 => ⟨S400x1, .i32⟩
  | 34 => ⟨S400, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S400, .i32⟩
  | 42 => ⟨S400, .i32⟩
  | 43 => ⟨S_, .i32⟩
  | 44 => ⟨S400, .i32⟩
  | 45 => ⟨S400, .i1⟩
  | 46 => ⟨S_, .i32⟩
  | 47 => ⟨S400, .i32⟩
  | 48 => ⟨S400, .i1⟩
  | 49 => ⟨S_, .i32⟩
  | 50 => ⟨S_, .i1⟩
  | 51 => ⟨S400, .i1⟩
  | 52 => ⟨S400, .i1⟩
  | 53 => ⟨S400, .i1⟩
  | 54 => ⟨S400, .i32⟩
  | 55 => ⟨S400, .i32⟩
  | 56 => ⟨S400, .i32⟩
  | 57 => ⟨S400x1, .i32⟩
  | 58 => ⟨S400, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S400, .i32⟩
  | 66 => ⟨S400, .i32⟩
  | 67 => ⟨S_, .i32⟩
  | 68 => ⟨S400, .i32⟩
  | 69 => ⟨S400, .i1⟩
  | 70 => ⟨S_, .i32⟩
  | 71 => ⟨S400, .i32⟩
  | 72 => ⟨S400, .i1⟩
  | 73 => ⟨S_, .i32⟩
  | 74 => ⟨S_, .i1⟩
  | 75 => ⟨S400, .i1⟩
  | 76 => ⟨S400, .i1⟩
  | 77 => ⟨S400, .i1⟩
  | 78 => ⟨S400, .i32⟩
  | 79 => ⟨S400, .i32⟩
  | 80 => ⟨S400, .i32⟩
  | 81 => ⟨S16, .i32⟩
  | 82 => ⟨S400x1, .i32⟩
  | 83 => ⟨S_, .i32⟩
  | 84 => ⟨S400x1, .i32⟩
  | 85 => ⟨S400x1, .i32⟩
  | 86 => ⟨S1x16, .i32⟩
  | 87 => ⟨S400x16, .i32⟩
  | 88 => ⟨S400x16, .i32⟩
  | 89 => ⟨S400x16, .i32⟩
  | 90 => ⟨S400x1, .i32⟩
  | 91 => ⟨S_, .i32⟩
  | 92 => ⟨S400x1, .i32⟩
  | 93 => ⟨S400x1, .i32⟩
  | 94 => ⟨S1x16, .i32⟩
  | 95 => ⟨S400x16, .i32⟩
  | 96 => ⟨S400x16, .i32⟩
  | 97 => ⟨S400x16, .i32⟩
  | 98 => ⟨S400x1x1, .i32⟩
  | 99 => ⟨S400x16x1, .i32⟩
  | 100 => ⟨S400x1x16, .i32⟩
  | 101 => ⟨S_, .i32⟩
  | 102 => ⟨S400x1x1, .i32⟩
  | 103 => ⟨S400x1x1, .i1⟩
  | 104 => ⟨S_, .i32⟩
  | 105 => ⟨S400x1x1, .i32⟩
  | 106 => ⟨S400x1x1, .i32⟩
  | 107 => ⟨S400x1x1, .i32⟩
  | 108 => ⟨S_, .i32⟩
  | 109 => ⟨S400x16x1, .i32⟩
  | 110 => ⟨S400x16x1, .i1⟩
  | 111 => ⟨S_, .i32⟩
  | 112 => ⟨S400x16x1, .i32⟩
  | 113 => ⟨S400x16x1, .i32⟩
  | 114 => ⟨S400x16x1, .i32⟩
  | 115 => ⟨S_, .i32⟩
  | 116 => ⟨S400x1x16, .i32⟩
  | 117 => ⟨S400x1x16, .i1⟩
  | 118 => ⟨S_, .i32⟩
  | 119 => ⟨S400x1x16, .i32⟩
  | 120 => ⟨S400x1x16, .i32⟩
  | 121 => ⟨S400x1x16, .i32⟩
  | 122 => ⟨S400x16x16, .i32⟩
  | 123 => ⟨S400x16x16, .i32⟩
  | 124 => ⟨S400x16x16, .i32⟩
  | 125 => ⟨S400x16x16x1, .i32⟩
  | 126 => ⟨S400x16x16x1, .i32⟩
  | 127 => ⟨S400x16x16x1, .i32⟩
  | _ => ⟨S1x1024x1024x32, .f32⟩

abbrev hbmTy0_1 (i : Nat) : BufTy := match i % 128 with
  | 0 => ⟨S400x16x16x3, .i32⟩
  | 1 => ⟨S400x16x16x32, .f32⟩
  | 2 => ⟨S_, .i32⟩
  | 3 => ⟨S_, .f32⟩
  | 4 => ⟨S400x18x18x32, .f32⟩
  | 5 => ⟨S_, .f32⟩
  | 6 => ⟨S400x16x16x32, .f32⟩
  | 7 => ⟨S400x16x16x32, .f32⟩
  | 8 => ⟨S32x32x1x1, .f32⟩
  | 9 => ⟨S32x32, .f32⟩
  | 10 => ⟨S32x32, .f32⟩
  | 11 => ⟨S400x16x16x32, .f32⟩
  | 12 => ⟨S400x16x16x32, .f32⟩
  | 13 => ⟨S400x16x16x32, .f32⟩
  | 14 => ⟨S32x32x1x1, .f32⟩
  | 15 => ⟨S32x32, .f32⟩
  | 16 => ⟨S32x32, .f32⟩
  | 17 => ⟨S400x16x16x32, .f32⟩
  | 18 => ⟨S400x16x16x32, .f32⟩
  | 19 => ⟨S400x16x16x32, .f32⟩
  | 20 => ⟨S32x32x1x1, .f32⟩
  | 21 => ⟨S32x32, .f32⟩
  | 22 => ⟨S32x32, .f32⟩
  | 23 => ⟨S400x16x16x32, .f32⟩
  | 24 => ⟨S400x16x16x32, .f32⟩
  | 25 => ⟨S400x16x16x32, .f32⟩
  | 26 => ⟨S32x32x1x1, .f32⟩
  | 27 => ⟨S32x32, .f32⟩
  | 28 => ⟨S32x32, .f32⟩
  | 29 => ⟨S400x16x16x32, .f32⟩
  | 30 => ⟨S400x16x16x32, .f32⟩
  | 31 => ⟨S400x16x16x32, .f32⟩
  | 32 => ⟨S32x32x1x1, .f32⟩
  | 33 => ⟨S32x32, .f32⟩
  | 34 => ⟨S32x32, .f32⟩
  | 35 => ⟨S400x16x16x32, .f32⟩
  | 36 => ⟨S400x16x16x32, .f32⟩
  | 37 => ⟨S400x16x16x32, .f32⟩
  | 38 => ⟨S32x32x1x1, .f32⟩
  | 39 => ⟨S32x32, .f32⟩
  | 40 => ⟨S32x32, .f32⟩
  | 41 => ⟨S400x16x16x32, .f32⟩
  | 42 => ⟨S400x16x16x32, .f32⟩
  | 43 => ⟨S400x16x16x32, .f32⟩
  | 44 => ⟨S32x32x1x1, .f32⟩
  | 45 => ⟨S32x32, .f32⟩
  | 46 => ⟨S32x32, .f32⟩
  | 47 => ⟨S400x16x16x32, .f32⟩
  | 48 => ⟨S400x16x16x32, .f32⟩
  | 49 => ⟨S400x16x16x32, .f32⟩
  | 50 => ⟨S32x32x1x1, .f32⟩
  | 51 => ⟨S32x32, .f32⟩
  | 52 => ⟨S32x32, .f32⟩
  | 53 => ⟨S400x16x16x32, .f32⟩
  | 54 => ⟨S400x16x16x32, .f32⟩
  | 55 => ⟨S400x16x16x32, .f32⟩
  | 56 => ⟨S32x32x1x1, .f32⟩
  | 57 => ⟨S32x32, .f32⟩
  | 58 => ⟨S32x32, .f32⟩
  | 59 => ⟨S400x16x16x32, .f32⟩
  | 60 => ⟨S400x16x16x32, .f32⟩
  | 61 => ⟨S1x1x1x32, .f32⟩
  | 62 => ⟨S400x16x16x32, .f32⟩
  | 63 => ⟨S400x16x16x32, .f32⟩
  | 64 => ⟨S_, .f32⟩
  | 65 => ⟨S32, .f32⟩
  | 66 => ⟨S32, .f32⟩
  | 67 => ⟨S32, .f32⟩
  | 68 => ⟨S1x1x1x32, .f32⟩
  | 69 => ⟨S400x16x16x32, .f32⟩
  | 70 => ⟨S400x16x16x32, .f32⟩
  | 71 => ⟨S32, .f32⟩
  | 72 => ⟨S1x1x1x32, .f32⟩
  | 73 => ⟨S400x16x16x32, .f32⟩
  | 74 => ⟨S400x16x16x32, .f32⟩
  | 75 => ⟨S1x1x1x32, .f32⟩
  | 76 => ⟨S400x16x16x32, .f32⟩
  | 77 => ⟨S400x16x16x32, .f32⟩
  | 78 => ⟨S_, .f32⟩
  | 79 => ⟨S400x16x16x32, .f32⟩
  | 80 => ⟨S400x16x16x32, .f32⟩
  | 81 => ⟨S400x1x1, .i32⟩
  | 82 => ⟨S400x16x1, .i32⟩
  | 83 => ⟨S400x1x16, .i32⟩
  | 84 => ⟨S_, .i32⟩
  | 85 => ⟨S400x1x1, .i32⟩
  | 86 => ⟨S400x1x1, .i1⟩
  | 87 => ⟨S_, .i32⟩
  | 88 => ⟨S400x1x1, .i32⟩
  | 89 => ⟨S400x1x1, .i32⟩
  | 90 => ⟨S400x1x1, .i32⟩
  | 91 => ⟨S_, .i32⟩
  | 92 => ⟨S400x16x1, .i32⟩
  | 93 => ⟨S400x16x1, .i1⟩
  | 94 => ⟨S_, .i32⟩
  | 95 => ⟨S400x16x1, .i32⟩
  | 96 => ⟨S400x16x1, .i32⟩
  | 97 => ⟨S400x16x1, .i32⟩
  | 98 => ⟨S_, .i32⟩
  | 99 => ⟨S400x1x16, .i32⟩
  | 100 => ⟨S400x1x16, .i1⟩
  | 101 => ⟨S_, .i32⟩
  | 102 => ⟨S400x1x16, .i32⟩
  | 103 => ⟨S400x1x16, .i32⟩
  | 104 => ⟨S400x1x16, .i32⟩
  | 105 => ⟨S400x16x16, .i32⟩
  | 106 => ⟨S400x16x16, .i32⟩
  | 107 => ⟨S400x16x16, .i32⟩
  | 108 => ⟨S400x16x16x1, .i32⟩
  | 109 => ⟨S400x16x16x1, .i32⟩
  | 110 => ⟨S400x16x16x1, .i32⟩
  | 111 => ⟨S400x16x16x3, .i32⟩
  | 112 => ⟨S1x1024x1024x32, .f32⟩
  | _ => ⟨S1x1024x1024x32, .f32⟩

abbrev hbmTy (i : Nat) : BufTy := match i / 128 with
  | 0 => hbmTy0_0 i
  | 1 => hbmTy0_1 i
  | _ => ⟨S1x1024x1024x32, .f32⟩

abbrev bufTy : (tb : Table) → Fin (tcTables nBuf tb) → BufTy
  | .hbm, ⟨i, _⟩ => hbmTy i
  | _, _ => ⟨S1x1024x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_c_1 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_c_2 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_c_3 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_c_4 : Ref sig .tc := ⟨.hbm, 101, rfl⟩
abbrev main_v27 : Ref sig .tc := ⟨.hbm, 102, rfl⟩
abbrev main_v28 : Ref sig .tc := ⟨.hbm, 103, rfl⟩
abbrev main_c_5 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_c_6 : Ref sig .tc := ⟨.hbm, 108, rfl⟩
abbrev main_v32 : Ref sig .tc := ⟨.hbm, 109, rfl⟩
abbrev main_v33 : Ref sig .tc := ⟨.hbm, 110, rfl⟩
abbrev main_c_7 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_c_8 : Ref sig .tc := ⟨.hbm, 115, rfl⟩
abbrev main_v37 : Ref sig .tc := ⟨.hbm, 116, rfl⟩
abbrev main_v38 : Ref sig .tc := ⟨.hbm, 117, rfl⟩
abbrev main_c_9 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_c_10 : Ref sig .tc := ⟨.hbm, 130, rfl⟩
abbrev main_call3_v0 : Ref sig .tc := ⟨.hbm, 131, rfl⟩
abbrev main_v50 : Ref sig .tc := ⟨.hbm, 132, rfl⟩
abbrev main_cst : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_cst_11 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_cst_12 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_c_13 : Ref sig .tc := ⟨.hbm, 212, rfl⟩
abbrev main_v127 : Ref sig .tc := ⟨.hbm, 213, rfl⟩
abbrev main_v128 : Ref sig .tc := ⟨.hbm, 214, rfl⟩
abbrev main_c_14 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_c_15 : Ref sig .tc := ⟨.hbm, 219, rfl⟩
abbrev main_v132 : Ref sig .tc := ⟨.hbm, 220, rfl⟩
abbrev main_v133 : Ref sig .tc := ⟨.hbm, 221, rfl⟩
abbrev main_c_16 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_c_17 : Ref sig .tc := ⟨.hbm, 226, rfl⟩
abbrev main_v137 : Ref sig .tc := ⟨.hbm, 227, rfl⟩
abbrev main_v138 : Ref sig .tc := ⟨.hbm, 228, rfl⟩
abbrev main_c_18 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩

abbrev nD : Nat := 1
abbrev τ : Topo := Topo.v7x

variable {F : FTy → Type} [FloatOps F]
-- ==== Proof.HostWords.lean ====
/-
  Words of the host part that no program needs: the remainder brought to the sign of the divisor 64, the permutation that a stable argsort of a
  table of 400 words applies, and counts of the words of a table that lie below a bound.
-/
module

public import Idealize.ShloMosaic.Lib.Tactic
public import Idealize.ShloMosaic.Lib.WordArith
public import Idealize.ShloMosaic.Lib.Affine
public import Idealize.ShloMosaic.Lib.SortFacts
public import Idealize.ShloMosaic.Lib.PointwiseCore
public import Idealize.ShloMosaic.Lib.StableHlo.Predicate
public import Idealize.ShloMosaic.Lib.Tactic.WordOmega

@[expose] public section

noncomputable section

namespace Cert.Proof

open Idealize.ShloMosaic

/-- The remainder by 64 that takes the divisor's sign, as jnp prints it. -/
def modW (x : BitVec 32) : BitVec 32 :=
  Scalar.select
    (IntOp.andi
      (IntOp.cmpi CmpIPredicate.ne (IntOp.cmpi CmpIPredicate.slt (IntOp.remsi ArithUnit.host x 64#32) 0#32) (IntOp.cmpi CmpIPredicate.slt (64#32 : BitVec 32) 0#32))
      (IntOp.cmpi CmpIPredicate.ne (IntOp.remsi ArithUnit.host x 64#32) 0#32))
    (IntOp.addi (IntOp.remsi ArithUnit.host x 64#32) 64#32)
    (IntOp.remsi ArithUnit.host x 64#32)

theorem modW_lt (x : BitVec 32) : (modW x).toNat < 64 := by
  unfold modW
  have h1 : IntOp.remsi ArithUnit.host x 64#32 = x.srem 64#32 := IntOp.remsi_of_pos _ (by decide)
  have h2 : (x.srem 64#32).toInt = x.toInt.tmod 64 := by rw [BitVec.toInt_srem]; rfl
  rw [h1]
  generalize x.srem 64#32 = r at h2 ⊢
  have h3 : r.toInt < 64 := by rw [h2]; exact Int.tmod_lt_of_pos _ (by decide)
  have h4 : -64 < r.toInt := by
    rw [h2]; have := Int.lt_tmod_of_pos x.toInt (b := 64) (by decide); omega
  clear h2 h1
  have hc : IntOp.cmpi CmpIPredicate.slt (64#32 : BitVec 32) 0#32 = 0#1 := by decide
  rw [hc]
  by_cases hn : r.toInt < 0
  · have e1 : IntOp.cmpi CmpIPredicate.slt r 0#32 = 1#1 := by
      simp [IntOp.cmpi, BitVec.slt, hn]
    have e2 : IntOp.cmpi CmpIPredicate.ne r 0#32 = 1#1 := by
      have : r ≠ 0#32 := fun h => by rw [h] at hn; simp at hn
      show BitVec.ofBool (r != 0#32) = 1#1
      rw [bne_iff_ne.2 this]; rfl
    rw [e1, e2]
    have hs : Scalar.select (IntOp.andi (IntOp.cmpi CmpIPredicate.ne (1#1 : BitVec 1) 0#1) 1#1) (IntOp.addi r 64#32) r = IntOp.addi r 64#32 := by
      have : IntOp.andi (IntOp.cmpi CmpIPredicate.ne (1#1 : BitVec 1) 0#1) 1#1 = 1#1 := by decide
      rw [this]; rfl
    rw [hs]
    show (r + 64#32).toNat < 64
    rw [BitVec.toNat_add]
    rw [BitVec.toInt_eq_toNat_cond] at h4 hn
    have := r.isLt
    simp only [BitVec.toNat_ofNat]
    split at hn <;> omega
  · have e1 : IntOp.cmpi CmpIPredicate.slt r 0#32 = 0#1 := by
      simp [IntOp.cmpi, BitVec.slt, hn]
    rw [e1]
    have hs : Scalar.select (IntOp.andi (IntOp.cmpi CmpIPredicate.ne (0#1 : BitVec 1) 0#1) (IntOp.cmpi CmpIPredicate.ne r 0#32)) (IntOp.addi r 64#32) r = r := by
      have : IntOp.andi (IntOp.cmpi CmpIPredicate.ne (0#1 : BitVec 1) 0#1) (IntOp.cmpi CmpIPredicate.ne r 0#32) = 0#1 := by
        have : IntOp.cmpi CmpIPredicate.ne (0#1 : BitVec 1) 0#1 = 0#1 := by decide
        rw [this]; simp [IntOp.andi]
      rw [this]; rfl
    rw [hs]
    rw [BitVec.toInt_eq_toNat_cond] at h3 hn
    have := r.isLt
    split at hn <;> omega

/-- Whether the sort puts entry `k` of the table strictly before entry `k'`. -/
def ordB (t : Fin 400 → BitVec 32) (k k' : Fin 400) : Bool := IntOp.cmpi .slt (t k) (t k') == 1#1

/-- The position that the stable argsort of the table puts at place `k`. -/
def ordP (t : Fin 400 → BitVec 32) (k : Fin 400) : Fin 400 := sortedFrom (ordB t) k

theorem ordP_surjective (t : Fin 400 → BitVec 32) : Function.Surjective (ordP t) := sortedFrom_surjective _
theorem ordP_injective (t : Fin 400 → BitVec 32) : Function.Injective (ordP t) := sortedFrom_injective _

theorem ordB_iff (t : Fin 400 → BitVec 32) (k k' : Fin 400) : ordB t k k' = true ↔ (t k).toInt < (t k').toInt := by
  unfold ordB IntOp.cmpi
  by_cases h : (t k).toInt < (t k').toInt
  · simp [BitVec.slt, h]
  · simp [BitVec.slt, h]

theorem ordP_sorted (t : Fin 400 → BitVec 32) (i j : Fin 400) (h : i ≤ j) : (t (ordP t i)).toInt ≤ (t (ordP t j)).toInt := by
  rcases Nat.lt_or_ge i.val j.val with hlt | hge
  · have := sortedFrom_noInversion (ordB t) (ordB t)
      (fun a b h => by rw [ordB_iff] at h; rw [Bool.eq_false_iff]; intro h'; rw [ordB_iff] at h'; omega)
      (fun a b h => h)
      (fun a b c h h' => by
        rw [Bool.eq_false_iff] at *; intro h''; rw [ne_eq, ordB_iff] at h h'; rw [ordB_iff] at h''; omega) i j hlt
    rw [Bool.eq_false_iff, ne_eq, ordB_iff] at this
    exact Int.not_lt.1 this
  · have : i = j := Fin.ext (Nat.le_antisymm h hge)
    rw [this]

/-- The second result of a stable two-operand sort of 400 words by the first operand. -/
theorem sort2_iota (cmp : BitVec 32 × BitVec 32 → BitVec 32 × BitVec 32 → BitVec 1)
    (hc : ∀ l r, cmp l r = IntOp.cmpi .slt l.1 r.1) (x : (⟨1, ![400]⟩ : Shape).Idx → BitVec 32) (k : Fin 400) :
    (Host.sort2 ⟨1, ![400]⟩ 0 cmp x (iotaInDim ⟨1, ![400]⟩ 32 0)).2 (ix1 k) = BitVec.ofNat 32 (ordP (fun k => x (ix1 k)) k).val := by
  unfold Host.sort2
  rw [dif_pos (by decide : (0 : Nat) < (⟨1, ![400]⟩ : Shape).rank)]
  obtain rfl : cmp = fun l r => IntOp.cmpi .slt l.1 r.1 := funext fun l => funext fun r => hc l r
  have hof : ∀ k : Fin 400, (Shape.Idx.ofFin k : (⟨1, ![400]⟩ : Shape).Idx) = ix1 k := fun k => by
    funext a; match a with | ⟨0, _⟩ => rfl
  have hal : ∀ (q : Fin 400), (ix1 k : (⟨1, ![400]⟩ : Shape).Idx).along (0 : Fin 1) q = ix1 q := fun q =>
    (Shape.Idx.along_rank1 _ q).trans (hof q)
  have hR : ordB (fun k => x (ix1 k)) = fun a b => IntOp.cmpi .slt (x ((ix1 k : (⟨1, ![400]⟩ : Shape).Idx).along (0 : Fin 1) a))
      (x ((ix1 k : (⟨1, ![400]⟩ : Shape).Idx).along (0 : Fin 1) b)) == 1#1 := by
    funext a b; rw [hal, hal]; rfl
  unfold ordP
  rw [hR]
  refine (congrArg (iotaInDim ⟨1, ![400]⟩ 32 0) (hal _)).trans ?_
  rfl

/-- The place that a table of positions holds, after jnp's wrap of negative positions. -/
theorem take400 (d : GatherDims ⟨1, ![400]⟩ ⟨2, ![400, 1]⟩ ⟨1, ![400]⟩)
    (hcoll : d.collapsedSliceDims = [0]) (hob : d.operandBatchingDims = [])
    (hsim : d.startIndexMap = [0]) (hivd : d.indexVectorDim = 1) {α : Type}
    (x : (⟨1, ![400]⟩ : Shape).Idx → α) (o : IVec ⟨1, ![400]⟩ 32) (z n : IVec ⟨1, ![400]⟩ 32) (hz : ∀ j, z j = 0#32)
    (hb : (⟨1, ![400]⟩ : Shape).BroadcastsInDim ⟨2, ![400, 1]⟩ (![0] : Fin 1 → Fin 2))
    (f : Fin 400 → Fin 400) (ho : ∀ k, o (ix1 k) = BitVec.ofNat 32 (f k).val) (k : Fin 400) :
    Host.gather d x (broadcastInDim ⟨2, ![400, 1]⟩ ![0] hb (select (cmpi .slt o z) (addi o n) o)) (ix1 k) = x (ix1 (f k)) := by
  have hk := StableHlo.Predicate.gather_take d hcoll hob hsim hivd x
    (broadcastInDim ⟨2, ![400, 1]⟩ ![0] hb (select (cmpi .slt o z) (addi o n) o)) k (by decide)
  have e1 : (Shape.Idx.ofFin k : (⟨1, ![400]⟩ : Shape).Idx) = ix1 k := by
    funext a; match a with | ⟨0, _⟩ => rfl
  have e2 : broadcastInDim ⟨2, ![400, 1]⟩ ![0] hb (select (cmpi .slt o z) (addi o n) o) (StableHlo.Predicate.ixP k) = BitVec.ofNat 32 (f k).val := by
    rw [broadcastInDim_apply _ hb _ _ (ix1 k) (fun a => by match a with | ⟨0, _⟩ => rfl)]
    show Scalar.select (IntOp.cmpi .slt (o (ix1 k)) (z (ix1 k))) _ (o (ix1 k)) = _
    rw [ho, hz]
    have hf := (f k).isLt
    have : IntOp.cmpi .slt (BitVec.ofNat 32 (f k).val) 0#32 = 0#1 := by
      have h0 : ¬ (BitVec.ofNat 32 (f k).val).toInt < 0 := by
        rw [BitVec.toInt_eq_toNat_cond, BitVec.toNat_ofNat, Nat.mod_eq_of_lt (by omega)]
        split <;> omega
      simp [IntOp.cmpi, BitVec.slt, h0]
    rw [this]; rfl
  rw [e1] at hk
  rw [hk]
  congr 1
  funext a
  match a with
  | ⟨0, _⟩ =>
    apply Fin.ext
    have hf := (f k).isLt
    show min (broadcastInDim ⟨2, ![400, 1]⟩ ![0] hb (select (cmpi .slt o z) (addi o n) o) (StableHlo.Predicate.ixP k)).toInt.toNat 399 = (f k).val
    rw [e2]
    rw [BitVec.toInt_eq_toNat_cond, BitVec.toNat_ofNat, Nat.mod_eq_of_lt (by omega)]
    split <;> omega

/-- How many words of the table lie below `v`. -/
def below (t : Fin 400 → BitVec 32) (v : Nat) : Nat := (Finset.univ.filter fun q : Fin 400 => (t q).toNat < v).card

theorem below_le (t : Fin 400 → BitVec 32) (v : Nat) : below t v ≤ 400 := by
  unfold below
  exact (Finset.card_le_univ _).trans (by simp)

theorem below_mono (t : Fin 400 → BitVec 32) {v w : Nat} (h : v ≤ w) : below t v ≤ below t w := by
  unfold below
  apply Finset.card_le_card
  intro q hq
  simp only [Finset.mem_filter, Finset.mem_univ, true_and] at hq ⊢
  omega

/-- The sum of comparisons of every entry of a table with every number up to 64 counts the entries below each. -/
theorem count_below (t : IVec ⟨1, ![400]⟩ 32) (hlt : ∀ k : Fin 400, (t (ix1 k)).toNat < 64)
    (b1 : (⟨1, ![400]⟩ : Shape).BroadcastsInDim ⟨2, ![1, 400]⟩ (![1] : Fin 1 → Fin 2))
    (b2 : (⟨2, ![1, 400]⟩ : Shape).BroadcastsInDim ⟨2, ![65, 400]⟩ (![0, 1] : Fin 2 → Fin 2))
    (b3 : (⟨1, ![65]⟩ : Shape).BroadcastsInDim ⟨2, ![65, 1]⟩ (![0] : Fin 1 → Fin 2))
    (b4 : (⟨2, ![65, 1]⟩ : Shape).BroadcastsInDim ⟨2, ![65, 400]⟩ (![0, 1] : Fin 2 → Fin 2))
    (hw : 1 < 32) (hr : (⟨2, ![65, 400]⟩ : Shape).ReducesTo [1] ⟨1, ![65]⟩) (hu : 0 < (⟨0, ![]⟩ : Shape).numel) (v : Fin 65) :
    (Host.reduce IntOp.addi (extui 32 (cmpi CmpIPredicate.slt
        (broadcastInDim ⟨2, ![65, 400]⟩ ![0, 1] b2 (broadcastInDim ⟨2, ![1, 400]⟩ ![1] b1 t))
        (broadcastInDim ⟨2, ![65, 400]⟩ ![0, 1] b4 (broadcastInDim ⟨2, ![65, 1]⟩ ![0] b3 (iotaInDim ⟨1, ![65]⟩ 32 0)))) hw)
      (constantI ⟨0, ![]⟩ 32 0#32) hr hu (ix1 v)).toNat = below (fun k => t (ix1 k)) v.val := by
  refine (StableHlo.Predicate.toNat_reduce_count_cols (by decide) _ hw hr hu (ix1 v)).trans ?_
  unfold below
  refine congrArg Finset.card (Finset.filter_congr fun q _ => ?_)
  have e : (StableHlo.Predicate.ij (n := 65) (m := 400) v q) = ix2 v q := by
    funext a; match a with | ⟨0, _⟩ => rfl | ⟨1, _⟩ => rfl
  have h1 := hlt q
  have h2 : (iotaInDim ⟨1, ![65]⟩ 32 0 (ix1 v)).toInt = v.val := by
    show (BitVec.ofNat 32 v.val).toInt = _
    have := v.isLt
    rw [BitVec.toInt_eq_toNat_cond, BitVec.toNat_ofNat, Nat.mod_eq_of_lt (by omega)]
    split <;> omega
  show IntOp.cmpi .slt (broadcastInDim ⟨2, ![65, 400]⟩ ![0, 1] b2 (broadcastInDim ⟨2, ![1, 400]⟩ ![1] b1 t) (StableHlo.Predicate.ij (n := 65) (m := 400) v q))
    (broadcastInDim ⟨2, ![65, 400]⟩ ![0, 1] b4 (broadcastInDim ⟨2, ![65, 1]⟩ ![0] b3 (iotaInDim ⟨1, ![65]⟩ 32 0)) (StableHlo.Predicate.ij (n := 65) (m := 400) v q)) = 1#1 ↔ (t (ix1 q)).toNat < v.val
  rw [e]
  rw [broadcastInDim_apply _ b2 _ (ix2 v q) (ix2 0 q) (fun a => by match a with | ⟨0, _⟩ => rfl | ⟨1, _⟩ => rfl),
    broadcastInDim_apply _ b1 _ (ix2 0 q) (ix1 q) (fun a => by match a with | ⟨0, _⟩ => rfl),
    broadcastInDim_apply _ b4 _ (ix2 v q) (ix2 v 0) (fun a => by match a with | ⟨0, _⟩ => rfl | ⟨1, _⟩ => rfl),
    broadcastInDim_apply _ b3 _ (ix2 v 0) (ix1 v) (fun a => by match a with | ⟨0, _⟩ => rfl)]
  rw [IntOp.cmpi_slt, h2]
  generalize t (ix1 q) = w at h1 ⊢
  rw [BitVec.toInt_eq_toNat_cond]
  split <;> omega

end Cert.Proof

end
-- ==== Proof.KIBase.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)
/-- The resource algebra: the pipeline library's own. -/
abbrev UU : Type := UR sig nD τ

local notation "𝕄" => MT nD τ sig Unit (Elt F) ℕ UU ℕ

/-- A memref's buffer on core `c`: its contents type. -/
abbrev Bf (c : Dev nD) {sp : Space} {S : Shape} {e : EltTy} (M : Memref sig .tc sp S e) : Type := Buf (Elt F) (M.view.loc (c : Thread nD τ))
/-- A memref's buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f
end Cert.Proof.KernelIdeal

end
-- ==== Proof.KIConv.lean ====
module

public import proofs.«01_k».proof.Proof.KIBase
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)

local notation "𝕄" => MT nD τ sig Unit (Elt F) ℕ UU ℕ

noncomputable def convRun (c : Dev nD) (i : grid0.Coords) (M1 : Memref sig .tc .smem S2x400 .i32) (h1 : M1.IsWhole) (M2 : Memref sig .tc .vmem S16x512 .f32) (h2 : M2.IsWhole) (M3 : Memref sig .tc .vmem S16x512 .f32) (h3 : M3.IsWhole) (M4 : Memref sig .tc .vmem S16x512 .f32) (h4 : M4.IsWhole) (M5 : Memref sig .tc .vmem S16x512 .f32) (h5 : M5.IsWhole) (M6 : Memref sig .tc .vmem S16x512 .f32) (h6 : M6.IsWhole) (M7 : Memref sig .tc .vmem S16x512 .f32) (h7 : M7.IsWhole) (M8 : Memref sig .tc .vmem S16x512 .f32) (h8 : M8.IsWhole) (M9 : Memref sig .tc .vmem S16x512 .f32) (h9 : M9.IsWhole) (M10 : Memref sig .tc .vmem S16x512 .f32) (h10 : M10.IsWhole) (M11 : Memref sig .tc .vmem S16x512 .f32) (h11 : M11.IsWhole) (M12 : Memref sig .tc .vmem S16x512 .f32) (h12 : M12.IsWhole) (M13 : Memref sig .tc .vmem S16x512 .f32) (h13 : M13.IsWhole) (M14 : Memref sig .tc .vmem S16x512 .f32) (h14 : M14.IsWhole) (M15 : Memref sig .tc .vmem S16x512 .f32) (h15 : M15.IsWhole) (M16 : Memref sig .tc .vmem S16x512 .f32) (h16 : M16.IsWhole) (M17 : Memref sig .tc .vmem S16x512 .f32) (h17 : M17.IsWhole) (M18 : Memref sig .tc .vmem S1536x512 .f32) (h18 : M18.IsWhole) (M19 : Memref sig .tc .vmem S1x512 .f32) (h19 : M19.IsWhole) (M20 : Memref sig .tc .vmem S16x16x512 .f32) (h20 : M20.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) :
    { W : Bf (F := F) c M20 // ∀ (f20 : Bf (F := F) c M20) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 W) -∗ Q ⟨⟩))
          ⊢ wp frame (wpE (defs₀ (F := F)) Variants.none c none) E (cc0__conv_body i M1 h1 M2 h2 M3 h3 M4 h4 M5 h5 M6 h6 M7 h7 M8 h8 M9 h9 M10 h10 M11 h11 M12 h12 M13 h13 M14 h14 M15 h15 M16 h16 M17 h17 M18 h18 M19 h19 M20 h20) Q } := by
  refine ⟨?_, fun f20 E Q => ?run⟩
  case run =>
    rw [Gen.cc0__conv_body_eq_skeleton]
    unfold Gen.cc0__conv_body_skel
    iintro ⟨H2, H3, H4, H5, H6, H7, H8, H9, H10, H11, H12, H13, H14, H15, H16, H17, H18, H19, H20, Hk⟩
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- What the convolution body computes from its sixteen tiles, the stacked matrix and the bias row. -/
def convTile (X : Fin 16 → Vec F S16x512 .f32) (A : Vec F S1536x512 .f32) (b : Vec F S1x512 .f32) : FVec F S16x16x512 .f32 :=
  Gen.k0_pay1 (Gen.k0_pay16 (X 0) (X 1) (X 2) (X 3) (X 4) (X 5) (X 6) (X 7) (X 8) (X 9) (X 10) (X 11) (X 12) (X 13) (X 14) (X 15) A) b

theorem rd16 (c : Dev nD) (M : Memref sig .tc .vmem S16x512 .f32) (f : Bf (F := F) c M) (h) :
    View.readAt (Elt F) M.view (Rect.unit (s := S16x512) ![0, 0] S16x512.size h).toLoadRect f = M.view.read (Elt F) f := View.readAt_full _ _ h

theorem convRun_read (c : Dev nD) (i : grid0.Coords) (M1 : Memref sig .tc .smem S2x400 .i32) (h1 : M1.IsWhole) (M2 : Memref sig .tc .vmem S16x512 .f32) (h2 : M2.IsWhole) (M3 : Memref sig .tc .vmem S16x512 .f32) (h3 : M3.IsWhole) (M4 : Memref sig .tc .vmem S16x512 .f32) (h4 : M4.IsWhole) (M5 : Memref sig .tc .vmem S16x512 .f32) (h5 : M5.IsWhole) (M6 : Memref sig .tc .vmem S16x512 .f32) (h6 : M6.IsWhole) (M7 : Memref sig .tc .vmem S16x512 .f32) (h7 : M7.IsWhole) (M8 : Memref sig .tc .vmem S16x512 .f32) (h8 : M8.IsWhole) (M9 : Memref sig .tc .vmem S16x512 .f32) (h9 : M9.IsWhole) (M10 : Memref sig .tc .vmem S16x512 .f32) (h10 : M10.IsWhole) (M11 : Memref sig .tc .vmem S16x512 .f32) (h11 : M11.IsWhole) (M12 : Memref sig .tc .vmem S16x512 .f32) (h12 : M12.IsWhole) (M13 : Memref sig .tc .vmem S16x512 .f32) (h13 : M13.IsWhole) (M14 : Memref sig .tc .vmem S16x512 .f32) (h14 : M14.IsWhole) (M15 : Memref sig .tc .vmem S16x512 .f32) (h15 : M15.IsWhole) (M16 : Memref sig .tc .vmem S16x512 .f32) (h16 : M16.IsWhole) (M17 : Memref sig .tc .vmem S16x512 .f32) (h17 : M17.IsWhole) (M18 : Memref sig .tc .vmem S1536x512 .f32) (h18 : M18.IsWhole) (M19 : Memref sig .tc .vmem S1x512 .f32) (h19 : M19.IsWhole) (M20 : Memref sig .tc .vmem S16x16x512 .f32) (h20 : M20.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19)
    (X : Fin 16 → Vec F S16x512 .f32) (A : Vec F S1536x512 .f32) (b : Vec F S1x512 .f32) (e2 : M2.view.read (Elt F) f2 = X 0) (e3 : M3.view.read (Elt F) f3 = X 1) (e4 : M4.view.read (Elt F) f4 = X 2) (e5 : M5.view.read (Elt F) f5 = X 3) (e6 : M6.view.read (Elt F) f6 = X 4) (e7 : M7.view.read (Elt F) f7 = X 5) (e8 : M8.view.read (Elt F) f8 = X 6) (e9 : M9.view.read (Elt F) f9 = X 7) (e10 : M10.view.read (Elt F) f10 = X 8) (e11 : M11.view.read (Elt F) f11 = X 9) (e12 : M12.view.read (Elt F) f12 = X 10) (e13 : M13.view.read (Elt F) f13 = X 11) (e14 : M14.view.read (Elt F) f14 = X 12) (e15 : M15.view.read (Elt F) f15 = X 13) (e16 : M16.view.read (Elt F) f16 = X 14) (e17 : M17.view.read (Elt F) f17 = X 15)
    (eA : M18.view.read (Elt F) f18 = A) (eb : M19.view.read (Elt F) f19 = b) :
    M20.view.read (Elt F) (convRun c i M1 h1 M2 h2 M3 h3 M4 h4 M5 h5 M6 h6 M7 h7 M8 h8 M9 h9 M10 h10 M11 h11 M12 h12 M13 h13 M14 h14 M15 h15 M16 h16 M17 h17 M18 h18 M19 h19 M20 h20 f2 f3 f4 f5 f6 f7 f8 f9 f10 f11 f12 f13 f14 f15 f16 f17 f18 f19).1
      = convTile X A b := by
  have g2 : convRun.sl.v1 c M2 f2 = X 0 := by
    unfold convRun.sl.v1
    exact (shapeCast_self _ _).trans ((rd16 c M2 f2 _).trans e2)
  have g3 : convRun.sl.v3 c M3 f3 = X 1 := by
    unfold convRun.sl.v3
    exact (shapeCast_self _ _).trans ((rd16 c M3 f3 _).trans e3)
  have g4 : convRun.sl.v5 c M4 f4 = X 2 := by
    unfold convRun.sl.v5
    exact (shapeCast_self _ _).trans ((rd16 c M4 f4 _).trans e4)
  have g5 : convRun.sl.v7 c M5 f5 = X 3 := by
    unfold convRun.sl.v7
    exact (shapeCast_self _ _).trans ((rd16 c M5 f5 _).trans e5)
  have g6 : convRun.sl.v9 c M6 f6 = X 4 := by
    unfold convRun.sl.v9
    exact (shapeCast_self _ _).trans ((rd16 c M6 f6 _).trans e6)
  have g7 : convRun.sl.v11 c M7 f7 = X 5 := by
    unfold convRun.sl.v11
    exact (shapeCast_self _ _).trans ((rd16 c M7 f7 _).trans e7)
  have g8 : convRun.sl.v13 c M8 f8 = X 6 := by
    unfold convRun.sl.v13
    exact (shapeCast_self _ _).trans ((rd16 c M8 f8 _).trans e8)
  have g9 : convRun.sl.v15 c M9 f9 = X 7 := by
    unfold convRun.sl.v15
    exact (shapeCast_self _ _).trans ((rd16 c M9 f9 _).trans e9)
  have g10 : convRun.sl.v17 c M10 f10 = X 8 := by
    unfold convRun.sl.v17
    exact (shapeCast_self _ _).trans ((rd16 c M10 f10 _).trans e10)
  have g11 : convRun.sl.v19 c M11 f11 = X 9 := by
    unfold convRun.sl.v19
    exact (shapeCast_self _ _).trans ((rd16 c M11 f11 _).trans e11)
  have g12 : convRun.sl.v21 c M12 f12 = X 10 := by
    unfold convRun.sl.v21
    exact (shapeCast_self _ _).trans ((rd16 c M12 f12 _).trans e12)
  have g13 : convRun.sl.v23 c M13 f13 = X 11 := by
    unfold convRun.sl.v23
    exact (shapeCast_self _ _).trans ((rd16 c M13 f13 _).trans e13)
  have g14 : convRun.sl.v25 c M14 f14 = X 12 := by
    unfold convRun.sl.v25
    exact (shapeCast_self _ _).trans ((rd16 c M14 f14 _).trans e14)
  have g15 : convRun.sl.v27 c M15 f15 = X 13 := by
    unfold convRun.sl.v27
    exact (shapeCast_self _ _).trans ((rd16 c M15 f15 _).trans e15)
  have g16 : convRun.sl.r c M16 f16 = X 14 := by
    unfold convRun.sl.r
    exact (rd16 c M16 f16 _).trans e16
  have g17 := (rd16 c M17 f17 Gen.inb_S16x512_S16x512_0_0).trans e17
  have gA : View.readAt (Elt F) M18.view (Rect.unit (s := S1536x512) ![0, 0] S1536x512.size Gen.inb_S1536x512_S1536x512_0_0).toLoadRect f18 = A :=
    (View.readAt_full M18.view f18 Gen.inb_S1536x512_S1536x512_0_0).trans eA
  have gb : View.readAt (Elt F) M19.view (Rect.unit (s := S1x512) ![0, 0] S1x512.size Gen.inb_S1x512_S1x512_0_0).toLoadRect f19 = b :=
    (View.readAt_full M19.view f19 Gen.inb_S1x512_S1x512_0_0).trans eb
  unfold convRun
  dsimp only
  unfold convRun.sl.H20_1 convRun.sl.r_1
  rw [View.read_writes_full]
  unfold convTile
  rw [g2, g3, g4, g5, g6, g7, g8, g9, g10, g11, g12, g13, g14, g15, g16, g17, gA, gb]

end Cert.Proof.KernelIdeal

end
-- ==== Proof.KIBand.lean ====
module

public import proofs.«01_k».proof.Proof.KIBase
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)

local notation "𝕄" => MT nD τ sig Unit (Elt F) ℕ UU ℕ

/-! ## The words of the band kernel's loops -/

theorem loop1_eq (v4 v7 : BitVec 32) : k1_t1_loop v4 v7 = ⟨v4, v7, 1#32⟩ := by
  unfold k1_t1_loop
  simp [Scalar.divsi, Scalar.subi, Scalar.muli, Scalar.addi, WordArith.divsi_one, IntOp.subi, IntOp.muli, IntOp.addi, BitVec.add_sub_cancel, add_sub_cancel]

theorem loop2_eq (v4 v7 : BitVec 32) : k1_t2_loop v4 v7 = ⟨v7, v7, 1#32⟩ := by
  unfold k1_t2_loop
  simp [Scalar.divsi, Scalar.subi, Scalar.muli, Scalar.addi, WordArith.divsi_one, IntOp.subi, IntOp.muli, IntOp.addi, BitVec.add_sub_cancel, add_sub_cancel]

theorem toInt_small {x : BitVec 32} (h : x.toNat ≤ 400) : x.toInt = (x.toNat : Int) := by
  rw [BitVec.toInt_eq_toNat_cond, if_pos (by omega)]

theorem trips1 {v4 v7 : BitVec 32} (h1 : v4.toNat ≤ v7.toNat) (h2 : v7.toNat ≤ 400) :
    Scf.trips v4 v7 1#32 = v7.toNat - v4.toNat := by
  unfold Scf.trips
  rw [toInt_small h2, toInt_small (h1.trans h2)]
  have : (1#32 : BitVec 32).toInt = 1 := by decide
  rw [this]; omega

theorem t1_trips {v4 v7 : BitVec 32} (h1 : v4.toNat ≤ v7.toNat) (h2 : v7.toNat ≤ 400) :
    (k1_t1_loop v4 v7).trips = v7.toNat - v4.toNat := by
  rw [loop1_eq]; exact trips1 h1 h2

theorem t2_trips {v4 v7 : BitVec 32} (h2 : v7.toNat ≤ 400) : (k1_t2_loop v4 v7).trips = 0 := by
  rw [loop2_eq]; exact (trips1 le_rfl h2).trans (Nat.sub_self _)

theorem iv_toNat {v : BitVec 32} {k : ℕ} (h : v.toNat + k ≤ 400) : (Scf.iv v 1#32 k).toNat = v.toNat + k := by
  unfold Scf.iv
  simp only [BitVec.mul_one, BitVec.toNat_add, BitVec.toNat_ofNat]
  omega

theorem ok_loop {v4 v7 : BitVec 32} (h1 : v4.toNat ≤ v7.toNat) (h2 : v7.toNat ≤ 400) : (Scf.Loop.mk v4 v7 1#32).OK := by
  show Scf.OK v4 v7 1#32
  unfold Scf.OK
  rw [trips1 h1 h2, toInt_small (h1.trans h2)]
  have : (1#32 : BitVec 32).toInt = 1 := by decide
  rw [this]; constructor <;> omega

/-- The side condition of the two bounds holds for bounds in order and at most 400. -/
theorem chk1_of {v4 v7 : BitVec 32} (h1 : v4.toNat ≤ v7.toNat) (h2 : v7.toNat ≤ 400) : k1_chk1 v4 v7 := by
  have hk : ∀ k : Fin (k1_t1_loop v4 v7).trips, (Scf.iv v4 1#32 k.val).toNat < 400 := fun k => by
    have := k.isLt.trans_eq (t1_trips h1 h2)
    rw [iv_toNat (by omega)]; omega
  refine ⟨by rw [loop1_eq]; exact ok_loop h1 h2, fun k => ?_, fun k => ?_, by rw [loop2_eq]; exact ok_loop le_rfl h2, fun k => ?_, fun k => ?_⟩
  · intro a
    have := hk k
    unfold k1_off3
    fin_cases a
    · show (Scf.iv v4 1#32 k.val).toNat + 1 ≤ 400; omega
    · show 0 + 16 ≤ 16; omega
    · show 0 + 512 ≤ 512; omega
  · intro a
    have := hk k
    unfold k1_off4
    fin_cases a
    show (Scf.iv v4 1#32 k.val).toNat + 1 ≤ 400; omega
  · exact absurd (k.isLt.trans_eq (t2_trips h2)) (Nat.not_lt_zero _)
  · exact absurd (k.isLt.trans_eq (t2_trips h2)) (Nat.not_lt_zero _)

theorem chk2_of {v : BitVec 32} (h : v.toNat < 64) : k1_chk2 v := by
  unfold k1_chk2 k1_off5
  intro a
  fin_cases a
  · show 0 + 16 ≤ 16; omega
  · show v.toNat + 1 ≤ 64; omega
  · show 0 + 512 ≤ 512; omega

/-! ## The band kernel's body -/

/-- A rank-three index from its coordinates. -/
def mk3 {n : Fin 3 → ℕ} (p : Fin (n 0)) (q : Fin (n 1)) (r : Fin (n 2)) : (a : Fin 3) → Fin (n a)
  | ⟨0, _⟩ => p
  | ⟨1, _⟩ => q
  | ⟨2, _⟩ => r

/-- A rank-two index from its coordinates. -/
def mk2 {n : Fin 2 → ℕ} (p : Fin (n 0)) (q : Fin (n 1)) : (a : Fin 2) → Fin (n a)
  | ⟨0, _⟩ => p
  | ⟨1, _⟩ => q

theorem mk3_ext {n : Fin 3 → ℕ} {x y : (a : Fin 3) → Fin (n a)} (h0 : (x 0 : ℕ) = y 0) (h1 : (x 1 : ℕ) = y 1) (h2 : (x 2 : ℕ) = y 2) : x = y := by
  funext a
  fin_cases a
  · exact Fin.ext h0
  · exact Fin.ext h1
  · exact Fin.ext h2

/-- The block number `k` among the 400. -/
def n400 (k : ℕ) : Fin 400 := ⟨k % 400, Nat.mod_lt _ (by decide)⟩

/-- The table index of block `k`. -/
def i400 (k : ℕ) : S400.Idx
  | ⟨0, _⟩ => n400 k

/-- What the band holds once `k` blocks from number `lb` on have been placed over `X`: block number `j` goes into
    the column of tiles the table names. -/
def bandSt {α : Type} (lb : ℕ) (T : S400.Idx → BitVec 32) (D : S400x16x512.Idx → α) (X : S16x64x512.Idx → α) : ℕ → S16x64x512.Idx → α
  | 0 => X
  | k + 1 => fun y => if (y 1).val = (T (i400 (lb + k))).toNat then D (mk3 (n400 (lb + k)) (y 0) (y 2)) else bandSt lb T D X k y

theorem bandSt_zero {α : Type} (lb : ℕ) (T : S400.Idx → BitVec 32) (D : S400x16x512.Idx → α) (X : S16x64x512.Idx → α) :
    bandSt lb T D X 0 = X := rfl

/-- The table entry of band `b`. -/
def i65 (b : Fin 65) : S65.Idx
  | ⟨0, _⟩ => b

/-- A block laid as a column of tiles, entry by entry. -/
theorem pay2_apply (V : Vec F S1x16x512 .f32) (y : S16x1x512.Idx) :
    Gen.k1_pay2 V y = V (mk3 (n := S1x16x512.size) (0 : Fin 1) (y 0) (y 2)) := by
  unfold Gen.k1_pay2
  rw [shapeCast_apply _ _ _ (k := (mk2 (n := S16x512.size) (y 0) (y 2))) (by
    have h1 : (y 1).val = 0 := by have := (y 1).isLt; change _ < 1 at this; omega
    rw [Shape.rowMajor_val_two, Shape.rowMajor_val_three, h1]
    show (y 0).val * 512 + (y 2).val = ((y 0).val * 1 + 0) * 512 + (y 2).val
    omega)]
  rw [shapeCast_apply _ _ _ (k := (mk3 (n := S1x16x512.size) (0 : Fin 1) (y 0) (y 2) : S1x16x512.Idx)) (by
    rw [Shape.rowMajor_val_two, Shape.rowMajor_val_three]
    show (0 * 16 + (y 0).val) * 512 + (y 2).val = (y 0).val * 512 + (y 2).val
    omega)]

/-- The lower bound of a band's run of blocks. -/
def loW (T : S65.Idx → BitVec 32) (i : grid1.Coords) : BitVec 32 := T (i65 ⟨(i 0).val, lt_trans (i 0).isLt (by decide)⟩)
/-- The upper bound. -/
def hiW (T : S65.Idx → BitVec 32) (i : grid1.Coords) : BitVec 32 := T (i65 ⟨(i 0).val + 1, by have := (i 0).isLt; change _ < 64 at this; omega⟩)

theorem lo_read (c : Dev nD) (i : grid1.Coords) (T1 : Bf (F := F) c (Memref.whole main_v33)) (h) (x) :
    View.readAt (Elt F) (Memref.whole main_v33).view (Rect.unit (s := S65) (k1_off1 i) S1.size h).toLoadRect T1 x = loW T1 i := by
  refine congrArg T1 (funext fun a => Fin.ext ?_)
  fin_cases a
  have hx : (x 0).val = 0 := by have := (x 0).isLt; change _ < 1 at this; omega
  have hi := (i 0).isLt
  change _ < 64 at hi
  show (BitVec.ofNat 32 (i 0).val).toNat + 1 * (x 0).val = (i 0).val
  rw [hx, BitVec.toNat_ofNat]
  omega

theorem hi_read (c : Dev nD) (i : grid1.Coords) (T1 : Bf (F := F) c (Memref.whole main_v33)) (h) (x) :
    View.readAt (Elt F) (Memref.whole main_v33).view (Rect.unit (s := S65) (k1_off2 i) S1.size h).toLoadRect T1 x = hiW T1 i := by
  refine congrArg T1 (funext fun a => Fin.ext ?_)
  fin_cases a
  have hx : (x 0).val = 0 := by have := (x 0).isLt; change _ < 1 at this; omega
  have hi := (i 0).isLt
  change _ < 64 at hi
  show (BitVec.ofNat 32 (i 0).val + 1#32).toNat + 1 * (x 0).val = (i 0).val + 1
  rw [hx, BitVec.toNat_add, BitVec.toNat_ofNat]
  have : (1#32 : BitVec 32).toNat = 1 := rfl
  omega

/-- The column word of trip `k`. -/
theorem col_read (c : Dev nD) {v4 v7 : BitVec 32} (h1 : v4.toNat ≤ v7.toNat) (h2 : v7.toNat ≤ 400) (k : Fin (k1_t1_loop v4 v7).trips)
    (T2 : Bf (F := F) c (Memref.whole main_v22)) (h) (x) :
    View.readAt (Elt F) (Memref.whole main_v22).view (Rect.unit (s := S400) (k1_off4 v4 v7 k) S1.size h).toLoadRect T2 x = T2 (i400 (v4.toNat + k.val)) := by
  refine congrArg T2 (funext fun a => Fin.ext ?_)
  fin_cases a
  have hx : (x 0).val = 0 := by have := (x 0).isLt; change _ < 1 at this; omega
  have hk := k.isLt.trans_eq (t1_trips h1 h2)
  show (Scf.iv v4 1#32 k.val).toNat + 1 * (x 0).val = (v4.toNat + k.val) % 400
  rw [hx, iv_toNat (by omega), Nat.mod_eq_of_lt (by omega)]
  omega

/-- The block of trip `k`. -/
theorem blk_read (c : Dev nD) {v4 v7 : BitVec 32} (h1 : v4.toNat ≤ v7.toNat) (h2 : v7.toNat ≤ 400) (k : Fin (k1_t1_loop v4 v7).trips)
    (M4 : Memref sig .tc .vmem S400x16x512 .f32) (f4 : Bf (F := F) c M4) (h) (p : Fin 16) (r : Fin 512) :
    View.readAt (Elt F) M4.view (Rect.unit (s := S400x16x512) (k1_off3 v4 v7 k) S1x16x512.size h).toLoadRect f4 (mk3 (n := S1x16x512.size) (0 : Fin 1) p r)
      = M4.view.read (Elt F) f4 (mk3 (n := S400x16x512.size) (n400 (v4.toNat + k.val)) p r) := by
  rw [View.readAt_eq_ld]
  refine congrArg (M4.view.read (Elt F) f4) (mk3_ext (n := S400x16x512.size) ?_ ?_ ?_)
  · have hk := k.isLt.trans_eq (t1_trips h1 h2)
    show (Scf.iv v4 1#32 k.val).toNat + 1 * 0 = (v4.toNat + k.val) % 400
    rw [iv_toNat (by omega), Nat.mod_eq_of_lt (by omega)]; rfl
  · show 0 + 1 * p.val = p.val; omega
  · show 0 + 1 * r.val = r.val; omega

/-- One trip's store. -/
theorem step_read (c : Dev nD) (M5 : Memref sig .tc .vmem S16x64x512 .f32) (f5 : Bf (F := F) c M5) (w : BitVec 32) (h) (V : Vec F S1x16x512 .f32) :
    M5.view.read (Elt F) (M5.view.writes (Elt F) f5 [⟨Rect.unit (s := S16x64x512) (k1_off5 w) S16x1x512.size h, Gen.k1_pay2 V⟩])
      = fun y => if (y 1).val = w.toNat then V (mk3 (n := S1x16x512.size) (0 : Fin 1) (y 0) (y 2)) else M5.view.read (Elt F) f5 y := by
  funext y
  by_cases hy : (y 1).val = w.toNat
  · rw [if_pos hy, View.read_writes_cons_unit_of_mem M5.view f5 h _ [] y (mk3 (n := S16x1x512.size) (y 0) (0 : Fin 1) (y 2)) (off' := ![0, w.toNat, 0]) rfl (fun a => by
      fin_cases a
      · exact (Nat.zero_add _).symm
      · exact hy
      · exact (Nat.zero_add _).symm)]
    exact pay2_apply V _
  · rw [if_neg hy, View.read_writes_cons_unit_of_not_mem M5.view f5 h _ [] y (off' := ![0, w.toNat, 0]) rfl 1 (by
      show (y 1).val < w.toNat ∨ w.toNat + 1 ≤ (y 1).val
      omega)]
    rfl

/-- The first store of a band: the whole of it. -/
theorem first_read (c : Dev nD) (M3 M5 : Memref sig .tc .vmem S16x64x512 .f32) (f3 : Bf (F := F) c M3) (f5 : Bf (F := F) c M5) (h h') :
    M5.view.read (Elt F) (M5.view.writes (Elt F) f5 [⟨Rect.unit (s := S16x64x512) ![0, 0, 0] S16x64x512.size h,
        Gen.k1_pay1 (View.readAt (Elt F) M3.view (Rect.unit (s := S16x64x512) ![0, 0, 0] S16x64x512.size h').toLoadRect f3)⟩])
      = M3.view.read (Elt F) f3 := by
  refine (View.read_writes_full M5.view f5 h _ []).trans ?_
  unfold Gen.k1_pay1
  dsimp only
  rw [shapeCast_self, View.readAt_full]

/-- What holds before trip `k` of a band's loop. -/
def bandInv (c : Dev nD) (lb : ℕ) (M3 : Memref sig .tc .vmem S16x64x512 .f32) (M4 : Memref sig .tc .vmem S400x16x512 .f32) (M5 : Memref sig .tc .vmem S16x64x512 .f32)
    (T2 : Bf (F := F) c (Memref.whole main_v22)) (f3 : Bf (F := F) c M3) (f4 : Bf (F := F) c M4) (k : ℕ) (_ : Unit) : sProp 𝕄 :=
  iprop(pt c (Memref.whole main_v22) T2 ∗ pt c M4 f4 ∗
    ∃ f5 : Bf (F := F) c M5, ⌜M5.view.read (Elt F) f5 = bandSt lb T2 (M4.view.read (Elt F) f4) (M3.view.read (Elt F) f3) k⌝ ∗ pt c M5 f5)

theorem bandRun (c : Dev nD) (i : grid1.Coords)
    (M3 : Memref sig .tc .vmem S16x64x512 .f32) (h3 : M3.IsWhole) (M4 : Memref sig .tc .vmem S400x16x512 .f32) (h4 : M4.IsWhole)
    (M5 : Memref sig .tc .vmem S16x64x512 .f32) (h5 : M5.IsWhole)
    (T1 : Bf (F := F) c (Memref.whole main_v33)) (T2 : Bf (F := F) c (Memref.whole main_v22)) (f3 : Bf (F := F) c M3) (f4 : Bf (F := F) c M4) (f5 : Bf (F := F) c M5)
    (h1 : (loW T1 i).toNat ≤ (hiW T1 i).toNat) (h2 : (hiW T1 i).toNat ≤ 400) (hcol : ∀ k, (T2 k : BitVec 32).toNat < 64) (Q : PUnit → sProp 𝕄) :
        iprop(pt c (Memref.whole main_v33) T1 ∗ pt c (Memref.whole main_v22) T2 ∗ pt c M3 f3 ∗ pt c M4 f4 ∗ pt c M5 f5 ∗
          (iprop(pt c (Memref.whole main_v33) T1 ∗ pt c (Memref.whole main_v22) T2 ∗ pt c M3 f3 ∗ pt c M4 f4 ∗
            ∃ g5 : Bf (F := F) c M5, ⌜M5.view.read (Elt F) g5 = bandSt (loW T1 i).toNat T2 (M4.view.read (Elt F) f4) (M3.view.read (Elt F) f3) ((hiW T1 i).toNat - (loW T1 i).toNat)⌝ ∗ pt c M5 g5) -∗ Q ⟨⟩))
          ⊢ wp frame (wpE (defs₀ (F := F)) Variants.none c none) Set.univ (cc1__band_body i (Memref.whole main_v33) (Memref.isWhole_whole _) (Memref.whole main_v22) (Memref.isWhole_whole _) M3 h3 M4 h4 M5 h5) Q := by
    rw [Gen.cc1__band_body_eq_skeleton]
    unfold Gen.cc1__band_body_skel
    iintro ⟨H1, H2, H3, H4, H5, Hk⟩
    sl_exec
    have e1 : bandRun.sl.r c i T1 = loW T1 i := lo_read c i T1 _ _
    have e2 : bandRun.sl.r_1 c i T1 = hiW T1 i := hi_read c i T1 _ _
    rw [e1, e2]
    generalize hlo : loW T1 i = v4 at *
    generalize hhi : hiW T1 i = v7 at *
    have hchk := chk1_of h1 h2
    have ht2 := t2_trips (v4 := v4) h2
    sl_exec
    have hF := (first_read c M3 M5 f3 M5.view.junk Gen.inb_S16x64x512_S16x64x512_0_0_0 Gen.inb_S16x64x512_S16x64x512_0_0_0).trans
      (bandSt_zero (v4.toNat) T2 (M4.view.read (Elt F) f4) (M3.view.read (Elt F) f3)).symm
    sl_for (bandInv c v4.toNat M3 M4 M5 T2 f3 f4) $$ [H2 H4 H5]
    case region =>
      intro k a
      unfold bandInv
      iintro ⟨H2, H4, H5⟩
      icases H5 with ⟨%f5, %h, H5⟩
      have hc2 : ∀ w, (∃ k, w = T2 k) → k1_chk2 w := fun w hw => by obtain ⟨k, rfl⟩ := hw; exact chk2_of (hcol k)
      sl_exec (disch := (exact hc2 _ ⟨_, rfl⟩))
      have e3 : bandRun.sl.r_2 c T2 v4 v7 hchk k = T2 (i400 (v4.toNat + k.val)) := col_read c h1 h2 k T2 _ _
      sl_step
      isplitl [H2]; · iexact H2
      isplitl [H4]; · iexact H4
      iexists _
      isplitr [H5]
      rotate_left
      · iexact H5
      · ipureintro
        rw [step_read, e3, h]
        funext y
        exact if_congr Iff.rfl (blk_read c h1 h2 k M4 f4 _ (y 0) (y 2)) rfl
    · unfold bandInv
      isplitl [H2]; · iexact H2
      isplitl [H4]; · iexact H4
      iexists _
      isplitr [H5]
      rotate_left
      · iexact H5
      · ipureintro
        exact hF
    iintro %acc HI
    unfold bandInv
    icases HI with ⟨H2, H4, H5⟩
    icases H5 with ⟨%g5, %h, H5⟩
    have ht : Scf.trips (k1_t1_loop v4 v7).lb (k1_t1_loop v4 v7).ub (k1_t1_loop v4 v7).st = v7.toNat - v4.toNat := t1_trips h1 h2
    rw [ht] at h
    sl_exec
    sl_step
    iapply Hk
    isplitl [H1]; · iexact H1
    isplitl [H2]; · iexact H2
    isplitl [H3]; · iexact H3
    isplitl [H4]; · iexact H4
    iexists g5
    isplitr [H5]
    · ipureintro; exact h
    · iexact H5
end Cert.Proof.KernelIdeal

end
-- ==== Proof.KIOwn.lean ====
module

public import proofs.«01_k».proof.Proof.KIConv
public import proofs.«01_k».proof.Proof.KIBand
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)

local notation "𝕄" => MT nD τ sig Unit (Elt F) ℕ UU ℕ

/-- A whole memref owned at contents that it reads as `X`. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns
  rw [hM.set_eq_univ]

set_option maxHeartbeats 4000000 in
/-- The convolution body over its blocks. -/
theorem conv_owns (c : Dev nD) (i : grid0.Coords) (M1 : Memref sig .tc .smem S2x400 .i32) (h1 : M1.IsWhole) (M2 : Memref sig .tc .vmem S16x512 .f32) (h2 : M2.IsWhole) (M3 : Memref sig .tc .vmem S16x512 .f32) (h3 : M3.IsWhole) (M4 : Memref sig .tc .vmem S16x512 .f32) (h4 : M4.IsWhole) (M5 : Memref sig .tc .vmem S16x512 .f32) (h5 : M5.IsWhole) (M6 : Memref sig .tc .vmem S16x512 .f32) (h6 : M6.IsWhole) (M7 : Memref sig .tc .vmem S16x512 .f32) (h7 : M7.IsWhole) (M8 : Memref sig .tc .vmem S16x512 .f32) (h8 : M8.IsWhole) (M9 : Memref sig .tc .vmem S16x512 .f32) (h9 : M9.IsWhole) (M10 : Memref sig .tc .vmem S16x512 .f32) (h10 : M10.IsWhole) (M11 : Memref sig .tc .vmem S16x512 .f32) (h11 : M11.IsWhole) (M12 : Memref sig .tc .vmem S16x512 .f32) (h12 : M12.IsWhole) (M13 : Memref sig .tc .vmem S16x512 .f32) (h13 : M13.IsWhole) (M14 : Memref sig .tc .vmem S16x512 .f32) (h14 : M14.IsWhole) (M15 : Memref sig .tc .vmem S16x512 .f32) (h15 : M15.IsWhole) (M16 : Memref sig .tc .vmem S16x512 .f32) (h16 : M16.IsWhole) (M17 : Memref sig .tc .vmem S16x512 .f32) (h17 : M17.IsWhole) (M18 : Memref sig .tc .vmem S1536x512 .f32) (h18 : M18.IsWhole) (M19 : Memref sig .tc .vmem S1x512 .f32) (h19 : M19.IsWhole) (M20 : Memref sig .tc .vmem S16x16x512 .f32) (h20 : M20.IsWhole)
    (Y2 : Vec F S16x512 .f32) (Y3 : Vec F S16x512 .f32) (Y4 : Vec F S16x512 .f32) (Y5 : Vec F S16x512 .f32) (Y6 : Vec F S16x512 .f32) (Y7 : Vec F S16x512 .f32) (Y8 : Vec F S16x512 .f32) (Y9 : Vec F S16x512 .f32) (Y10 : Vec F S16x512 .f32) (Y11 : Vec F S16x512 .f32) (Y12 : Vec F S16x512 .f32) (Y13 : Vec F S16x512 .f32) (Y14 : Vec F S16x512 .f32) (Y15 : Vec F S16x512 .f32) (Y16 : Vec F S16x512 .f32) (Y17 : Vec F S16x512 .f32) (Y18 : Vec F S1536x512 .f32) (Y19 : Vec F S1x512 .f32) (Y20 : Vec F S16x16x512 .f32) (Q : PUnit → sProp 𝕄) :
    iprop(owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare Y7 ∗ owns (c : Thread nD τ) M8 fullShare Y8 ∗ owns (c : Thread nD τ) M9 fullShare Y9 ∗ owns (c : Thread nD τ) M10 fullShare Y10 ∗ owns (c : Thread nD τ) M11 fullShare Y11 ∗ owns (c : Thread nD τ) M12 fullShare Y12 ∗ owns (c : Thread nD τ) M13 fullShare Y13 ∗ owns (c : Thread nD τ) M14 fullShare Y14 ∗ owns (c : Thread nD τ) M15 fullShare Y15 ∗ owns (c : Thread nD τ) M16 fullShare Y16 ∗ owns (c : Thread nD τ) M17 fullShare Y17 ∗ owns (c : Thread nD τ) M18 fullShare Y18 ∗ owns (c : Thread nD τ) M19 fullShare Y19 ∗ owns (c : Thread nD τ) M20 fullShare Y20 ∗
      (iprop(owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare Y7 ∗ owns (c : Thread nD τ) M8 fullShare Y8 ∗ owns (c : Thread nD τ) M9 fullShare Y9 ∗ owns (c : Thread nD τ) M10 fullShare Y10 ∗ owns (c : Thread nD τ) M11 fullShare Y11 ∗ owns (c : Thread nD τ) M12 fullShare Y12 ∗ owns (c : Thread nD τ) M13 fullShare Y13 ∗ owns (c : Thread nD τ) M14 fullShare Y14 ∗ owns (c : Thread nD τ) M15 fullShare Y15 ∗ owns (c : Thread nD τ) M16 fullShare Y16 ∗ owns (c : Thread nD τ) M17 fullShare Y17 ∗ owns (c : Thread nD τ) M18 fullShare Y18 ∗ owns (c : Thread nD τ) M19 fullShare Y19 ∗ owns (c : Thread nD τ) M20 fullShare (convTile (![Y2, Y3, Y4, Y5, Y6, Y7, Y8, Y9, Y10, Y11, Y12, Y13, Y14, Y15, Y16, Y17]) Y18 Y19)) -∗ Q ⟨⟩))
      ⊢ wp frame (wpE (defs₀ (F := F)) Variants.none c none) Set.univ (cc0__conv_body i M1 h1 M2 h2 M3 h3 M4 h4 M5 h5 M6 h6 M7 h7 M8 h8 M9 h9 M10 h10 M11 h11 M12 h12 M13 h13 M14 h14 M15 h15 M16 h16 M17 h17 M18 h18 M19 h19 M20 h20) Q := by
  rw [owns_pt c M2 h2, owns_pt c M3 h3, owns_pt c M4 h4, owns_pt c M5 h5, owns_pt c M6 h6, owns_pt c M7 h7, owns_pt c M8 h8, owns_pt c M9 h9, owns_pt c M10 h10, owns_pt c M11 h11, owns_pt c M12 h12, owns_pt c M13 h13, owns_pt c M14 h14, owns_pt c M15 h15, owns_pt c M16 h16, owns_pt c M17 h17, owns_pt c M18 h18, owns_pt c M19 h19, owns_pt c M20 h20, owns_pt c M20 h20]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, Hk⟩
  iapply ((convRun c i M1 h1 M2 h2 M3 h3 M4 h4 M5 h5 M6 h6 M7 h7 M8 h8 M9 h9 M10 h10 M11 h11 M12 h12 M13 h13 M14 h14 M15 h15 M16 h16 M17 h17 M18 h18 M19 h19 M20 h20 f2 f3 f4 f5 f6 f7 f8 f9 f10 f11 f12 f13 f14 f15 f16 f17 f18 f19).2 f20 Set.univ Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, H12, H13, H14, H15, H16, H17, H18, H19, H20⟩
  iapply Hk
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  isplitl [H15]
  · iexists f15; isplitr; · ipureintro; exact e15
    iexact H15
  isplitl [H16]
  · iexists f16; isplitr; · ipureintro; exact e16
    iexact H16
  isplitl [H17]
  · iexists f17; isplitr; · ipureintro; exact e17
    iexact H17
  isplitl [H18]
  · iexists f18; isplitr; · ipureintro; exact e18
    iexact H18
  isplitl [H19]
  · iexists f19; isplitr; · ipureintro; exact e19
    iexact H19
  iexists _; isplitr; swap; (· iexact H20); ipureintro
  exact convRun_read c i M1 h1 M2 h2 M3 h3 M4 h4 M5 h5 M6 h6 M7 h7 M8 h8 M9 h9 M10 h10 M11 h11 M12 h12 M13 h13 M14 h14 M15 h15 M16 h16 M17 h17 M18 h18 M19 h19 M20 h20 f2 f3 f4 f5 f6 f7 f8 f9 f10 f11 f12 f13 f14 f15 f16 f17 f18 f19 (![Y2, Y3, Y4, Y5, Y6, Y7, Y8, Y9, Y10, Y11, Y12, Y13, Y14, Y15, Y16, Y17]) Y18 Y19 e2 e3 e4 e5 e6 e7 e8 e9 e10 e11 e12 e13 e14 e15 e16 e17 e18 e19

/-- The band body over its blocks. -/
theorem band_owns (c : Dev nD) (i : grid1.Coords)
    (M3 : Memref sig .tc .vmem S16x64x512 .f32) (h3 : M3.IsWhole) (M4 : Memref sig .tc .vmem S400x16x512 .f32) (h4 : M4.IsWhole)
    (M5 : Memref sig .tc .vmem S16x64x512 .f32) (h5 : M5.IsWhole)
    (T1 : Bf (F := F) c (Memref.whole main_v33)) (T2 : Bf (F := F) c (Memref.whole main_v22))
    (X : Vec F S16x64x512 .f32) (D : Vec F S400x16x512 .f32) (Y : Vec F S16x64x512 .f32)
    (h1 : (loW T1 i).toNat ≤ (hiW T1 i).toNat) (h2 : (hiW T1 i).toNat ≤ 400) (hcol : ∀ k, (T2 k : BitVec 32).toNat < 64) (Q : PUnit → sProp 𝕄) :
    iprop(pt c (Memref.whole main_v33) T1 ∗ pt c (Memref.whole main_v22) T2 ∗
      owns (c : Thread nD τ) M3 fullShare X ∗ owns (c : Thread nD τ) M4 fullShare D ∗ owns (c : Thread nD τ) M5 fullShare Y ∗
      (iprop(pt c (Memref.whole main_v33) T1 ∗ pt c (Memref.whole main_v22) T2 ∗
        owns (c : Thread nD τ) M3 fullShare X ∗ owns (c : Thread nD τ) M4 fullShare D ∗
        owns (c : Thread nD τ) M5 fullShare (bandSt (loW T1 i).toNat T2 D X ((hiW T1 i).toNat - (loW T1 i).toNat))) -∗ Q ⟨⟩))
      ⊢ wp frame (wpE (defs₀ (F := F)) Variants.none c none) Set.univ (cc1__band_body i (Memref.whole main_v33) (Memref.isWhole_whole _) (Memref.whole main_v22) (Memref.isWhole_whole _) M3 h3 M4 h4 M5 h5) Q := by
  rw [owns_pt c M3 h3, owns_pt c M4 h4, owns_pt c M5 h5, owns_pt c M5 h5]
  iintro ⟨H1, H2, ⟨%f3, %e3, H3⟩, ⟨%f4, %e4, H4⟩, ⟨%f5, -, H5⟩, Hk⟩
  iapply (bandRun c i M3 h3 M4 h4 M5 h5 T1 T2 f3 f4 f5 h1 h2 hcol Q)
  isplitl [H1]; · iexact H1
  isplitl [H2]; · iexact H2
  isplitl [H3]; · iexact H3
  isplitl [H4]; · iexact H4
  isplitl [H5]; · iexact H5
  iintro ⟨H1, H2, H3, H4, ⟨%g5, %e5, H5⟩⟩
  iapply Hk
  isplitl [H1]; · iexact H1
  isplitl [H2]; · iexact H2
  isplitl [H3]
  · iexists f3; isplitr; · ipureintro; exact e3
    iexact H3
  isplitl [H4]
  · iexists f4; isplitr; · ipureintro; exact e4
    iexact H4
  iexists g5; isplitr
  · ipureintro; rw [e5, e3, e4]
  iexact H5

end Cert.Proof.KernelIdeal

end
-- ==== Proof.KIRun0.lean ====
module

public import proofs.«01_k».proof.Proof.KIOwn
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)

local notation "𝕄" => MT nD τ sig Unit (Elt F) ℕ UU ℕ

/-- A block at two table entries below 64 lies inside the array. -/
theorem inb0 (x y : BitVec 32) (hx : x.toNat < 64) (hy : y.toNat < 64) (a : Fin 2) :
    ((![x.toNat, y.toNat] : Fin 2 → ℕ) a + 1) * S16x512.size a ≤ S1024x32768.size a := by
  match a with
  | 0 => show (x.toNat + 1) * 16 ≤ 1024; omega
  | 1 => show (y.toNat + 1) * 512 ≤ 32768; omega

/-- Tables whose entries lie below 64 are admissible for the convolution. -/
theorem ok0_of (pf : pre0.Contents (Elt F)) (h : ∀ x, (pf 0 x : BitVec 32).toNat < 64) : ok0 pf :=
  ⟨fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩, fun i => ⟨inb0 _ _ (h _) (h _), Or.inl rfl⟩⟩

variable (a : (p : Fin 2) → (pcfgs (F := F) p).Adm) (V : Dev nD → Valuation τ sig (Elt F))

abbrev C0 := Pipeline.pin (pcfgs (F := F)) a 0
abbrev C1 := Pipeline.pin (pcfgs (F := F)) a 1

/-- The convolution's window `w` at grid point `t`: the block of its array. -/
def blk0 (c : Dev nD) (w : Fin 19) (t : Fin grid0.N) : ((C0 a).win w).block.Idx → Elt F ((C0 a).win w).elt :=
  (((C0 a).win w).blk t).view.read (Elt F) (V c (Pipeline.arrRef spec0 w))

/-- The tile the convolution leaves at grid point `t`. -/
def tile0 (c : Dev nD) (t : Fin grid0.N) : Vec F S16x16x512 .f32 :=
  convTile ![blk0 a V c 0 t, blk0 a V c 1 t, blk0 a V c 2 t, blk0 a V c 3 t, blk0 a V c 4 t, blk0 a V c 5 t, blk0 a V c 6 t, blk0 a V c 7 t, blk0 a V c 8 t, blk0 a V c 9 t, blk0 a V c 10 t, blk0 a V c 11 t, blk0 a V c 12 t, blk0 a V c 13 t, blk0 a V c 14 t, blk0 a V c 15 t] (blk0 a V c 16 t) (blk0 a V c 17 t)

theorem tile_ty (w : Fin 19) (h : w = 18) : Vec F S16x16x512 .f32 = (((C0 a).win w).block.Idx → Elt F ((C0 a).win w).elt) := by
  subst h; rfl

/-- The convolution's proof data. -/
def dat0 (c : Dev nD) : Dat τ (Elt F) Unit ℕ UU ℕ (C0 a) c where
  A w := V c (Pipeline.arrRef spec0 w)
  after w t := if h : w = 18 then cast (tile_ty a w h) (tile0 a V c t) else blk0 a V c w t
  Φ _ := iprop(Pipeline.scopedRest spec0 c ∗ Pipeline.prefHeld pre0 c (fun _ => fullShare) (a 0).1)
  q w := Pipeline.shareOf spec0 w
  owed _ := 0

theorem after0_in (c : Dev nD) (w : Fin 19) (hw : w ≠ 18) (t : Fin grid0.N) : (dat0 a V c).after w t = blk0 a V c w t := by
  dsimp only [dat0]; exact dif_neg hw
theorem after0_out (c : Dev nD) (t : Fin grid0.N) : (dat0 a V c).after 18 t = tile0 a V c t := by
  dsimp only [dat0]; exact dif_pos rfl
theorem isOut0 : ∀ w : Fin 19, w ≠ 18 → (spec0 w).isOut = false := by decide

theorem fetched0 (c : Dev nD) (t : Fin grid0.N) : ∀ (w : Fin 19) (d), (dat0 a V c).fetched w t d = blk0 a V c w t
  | ⟨0, _⟩, d => rfl
  | ⟨1, _⟩, d => rfl
  | ⟨2, _⟩, d => rfl
  | ⟨3, _⟩, d => rfl
  | ⟨4, _⟩, d => rfl
  | ⟨5, _⟩, d => rfl
  | ⟨6, _⟩, d => rfl
  | ⟨7, _⟩, d => rfl
  | ⟨8, _⟩, d => rfl
  | ⟨9, _⟩, d => rfl
  | ⟨10, _⟩, d => rfl
  | ⟨11, _⟩, d => rfl
  | ⟨12, _⟩, d => rfl
  | ⟨13, _⟩, d => rfl
  | ⟨14, _⟩, d => rfl
  | ⟨15, _⟩, d => rfl
  | ⟨16, _⟩, d => rfl
  | ⟨17, _⟩, d => rfl
  | ⟨18, _⟩, d => rfl
  | ⟨_ + 19, h⟩, _ => absurd h (Nat.not_lt.2 (Nat.le_add_left _ _))
theorem before0 (c : Dev nD) (w : Fin 19) (hw : w ≠ 18) (t : Fin grid0.N) (d) : (dat0 a V c).before w t d = blk0 a V c w t :=
  ((dat0 a V c).before_in_eq_fetched w (isOut0 w hw) (fun _ => rfl) (fun _ _ _ => rfl) (fun t => after0_in a V c w hw t) t d).trans (fetched0 a V c t w d)

end Cert.Proof.KernelIdeal

end
-- ==== Proof.KIRun1.lean ====
module

public import proofs.«01_k».proof.Proof.KIRun0
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)

local notation "𝕄" => MT nD τ sig Unit (Elt F) ℕ UU ℕ

variable (a : (p : Fin 2) → (pcfgs (F := F) p).Adm) (V : Dev nD → Valuation τ sig (Elt F))

set_option maxHeartbeats 4000000 in
/-- The convolution's body meets its obligation. -/
theorem body0 (c : Dev nD) : BodyObligation (dat0 a V c) (defs₀ (F := F)) Variants.none () Set.univ := fun t => by
  rw [Gen.bigSep_W0, Gen.bigSep_W0]
  dsimp only
  unfold defs₀
  rw [Defs.onTc_tc]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  rw [before0 a V c 0 (by decide) t d0, before0 a V c 1 (by decide) t d1, before0 a V c 2 (by decide) t d2, before0 a V c 3 (by decide) t d3, before0 a V c 4 (by decide) t d4, before0 a V c 5 (by decide) t d5, before0 a V c 6 (by decide) t d6, before0 a V c 7 (by decide) t d7, before0 a V c 8 (by decide) t d8, before0 a V c 9 (by decide) t d9, before0 a V c 10 (by decide) t d10, before0 a V c 11 (by decide) t d11, before0 a V c 12 (by decide) t d12, before0 a V c 13 (by decide) t d13, before0 a V c 14 (by decide) t d14, before0 a V c 15 (by decide) t d15, before0 a V c 16 (by decide) t d16, before0 a V c 17 (by decide) t d17]
  iapply (conv_owns c (grid0.coords t) (Memref.whole main_v25) (Memref.isWhole_whole _) (spec0_0.stage ((C0 a).slots t 0)) (Facts₀.hstage0_0 (((C0 a).slots t 0).cast Facts₀.nbuf0_0)) (spec0_1.stage ((C0 a).slots t 1)) (Facts₀.hstage0_1 (((C0 a).slots t 1).cast Facts₀.nbuf0_1)) (spec0_2.stage ((C0 a).slots t 2)) (Facts₀.hstage0_2 (((C0 a).slots t 2).cast Facts₀.nbuf0_2)) (spec0_3.stage ((C0 a).slots t 3)) (Facts₀.hstage0_3 (((C0 a).slots t 3).cast Facts₀.nbuf0_3)) (spec0_4.stage ((C0 a).slots t 4)) (Facts₀.hstage0_4 (((C0 a).slots t 4).cast Facts₀.nbuf0_4)) (spec0_5.stage ((C0 a).slots t 5)) (Facts₀.hstage0_5 (((C0 a).slots t 5).cast Facts₀.nbuf0_5)) (spec0_6.stage ((C0 a).slots t 6)) (Facts₀.hstage0_6 (((C0 a).slots t 6).cast Facts₀.nbuf0_6)) (spec0_7.stage ((C0 a).slots t 7)) (Facts₀.hstage0_7 (((C0 a).slots t 7).cast Facts₀.nbuf0_7)) (spec0_8.stage ((C0 a).slots t 8)) (Facts₀.hstage0_8 (((C0 a).slots t 8).cast Facts₀.nbuf0_8)) (spec0_9.stage ((C0 a).slots t 9)) (Facts₀.hstage0_9 (((C0 a).slots t 9).cast Facts₀.nbuf0_9)) (spec0_10.stage ((C0 a).slots t 10)) (Facts₀.hstage0_10 (((C0 a).slots t 10).cast Facts₀.nbuf0_10)) (spec0_11.stage ((C0 a).slots t 11)) (Facts₀.hstage0_11 (((C0 a).slots t 11).cast Facts₀.nbuf0_11)) (spec0_12.stage ((C0 a).slots t 12)) (Facts₀.hstage0_12 (((C0 a).slots t 12).cast Facts₀.nbuf0_12)) (spec0_13.stage ((C0 a).slots t 13)) (Facts₀.hstage0_13 (((C0 a).slots t 13).cast Facts₀.nbuf0_13)) (spec0_14.stage ((C0 a).slots t 14)) (Facts₀.hstage0_14 (((C0 a).slots t 14).cast Facts₀.nbuf0_14)) (spec0_15.stage ((C0 a).slots t 15)) (Facts₀.hstage0_15 (((C0 a).slots t 15).cast Facts₀.nbuf0_15)) (spec0_16.stage ((C0 a).slots t 16)) (Facts₀.hstage0_16 (((C0 a).slots t 16).cast Facts₀.nbuf0_16)) (spec0_17.stage ((C0 a).slots t 17)) (Facts₀.hstage0_17 (((C0 a).slots t 17).cast Facts₀.nbuf0_17)) (spec0_18.stage ((C0 a).slots t 18)) (Facts₀.hstage0_18 (((C0 a).slots t 18).cast Facts₀.nbuf0_18)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H0, H1, H2, H3, H4, H5, H6, H7, H8, H9, H10, H11, H12, H13, H14, H15, H16, H17, H18⟩
  rw [show (dat0 a V c).Φ t.succ = (dat0 a V c).Φ t.castSucc from rfl, show (dat0 a V c).owesAt () t.succ = (dat0 a V c).owesAt () t.castSucc from rfl]
  isplitl [HΦ]; · iexact HΦ
  isplitl [HO]; · iexact HO
  rw [after0_in a V c 0 (by decide) t, after0_in a V c 1 (by decide) t, after0_in a V c 2 (by decide) t, after0_in a V c 3 (by decide) t, after0_in a V c 4 (by decide) t, after0_in a V c 5 (by decide) t, after0_in a V c 6 (by decide) t, after0_in a V c 7 (by decide) t, after0_in a V c 8 (by decide) t, after0_in a V c 9 (by decide) t, after0_in a V c 10 (by decide) t, after0_in a V c 11 (by decide) t, after0_in a V c 12 (by decide) t, after0_in a V c 13 (by decide) t, after0_in a V c 14 (by decide) t, after0_in a V c 15 (by decide) t, after0_in a V c 16 (by decide) t, after0_in a V c 17 (by decide) t, after0_out a V c t]
  unfold tile0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Proof.KernelIdeal

end
-- ==== Proof.KIRun2.lean ====
module

public import proofs.«01_k».proof.Proof.KIRun0
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)

local notation "𝕄" => MT nD τ sig Unit (Elt F) ℕ UU ℕ

variable (a : (p : Fin 2) → (pcfgs (F := F) p).Adm) (V : Dev nD → Valuation τ sig (Elt F))

/-- The band kernel's window `w` at grid point `t`: the block of its array. -/
def blk1 (c : Dev nD) (w : Fin 3) (t : Fin grid1.N) : ((C1 a).win w).block.Idx → Elt F ((C1 a).win w).elt :=
  (((C1 a).win w).blk t).view.read (Elt F) (V c (Pipeline.arrRef spec1 w))

/-- The first and last entries of the sorted blocks in each band, and the blocks' columns. -/
abbrev rowT : S65.Idx → BitVec 32 := (a 1).1 0
abbrev colT : S400.Idx → BitVec 32 := (a 1).1 1

/-- The band the kernel leaves at grid point `t`. -/
def band1 (c : Dev nD) (t : Fin grid1.N) : Vec F S16x64x512 .f32 :=
  bandSt (loW (rowT a) (grid1.coords t)).toNat (colT a) (blk1 a V c 1 t) (blk1 a V c 0 t)
    ((hiW (rowT a) (grid1.coords t)).toNat - (loW (rowT a) (grid1.coords t)).toNat)

/-- The band kernel's proof data. -/
def dat1 (c : Dev nD) : Dat τ (Elt F) Unit ℕ UU ℕ (C1 a) c where
  A w := V c (Pipeline.arrRef spec1 w)
  after w t := match w with
    | ⟨0, _⟩ => blk1 a V c 0 t
    | ⟨1, _⟩ => blk1 a V c 1 t
    | ⟨2, _⟩ => band1 a V c t
    | ⟨_ + 3, h⟩ => absurd h (Nat.not_lt.2 (Nat.le_add_left _ _))
  Φ _ := iprop(Pipeline.scopedRest spec1 c ∗ Pipeline.prefHeld pre1 c (fun _ => fullShare) (a 1).1)
  q w := Pipeline.shareOf spec1 w
  owed _ := 0

theorem before1_0 (c : Dev nD) (t : Fin grid1.N) (d) : (dat1 a V c).before 0 t d = blk1 a V c 0 t :=
  (dat1 a V c).before_in_eq_fetched 0 rfl (fun _ => rfl) (fun _ _ _ => rfl) (fun _ => rfl) t d
theorem before1_1 (c : Dev nD) (t : Fin grid1.N) (d) : (dat1 a V c).before 1 t d = blk1 a V c 1 t :=
  (dat1 a V c).before_in_eq_fetched 1 rfl (fun _ => rfl) (fun _ _ _ => rfl) (fun _ => rfl) t d

theorem after1_0 (c : Dev nD) (t : Fin grid1.N) : (dat1 a V c).after 0 t = blk1 a V c 0 t := rfl
theorem after1_1 (c : Dev nD) (t : Fin grid1.N) : (dat1 a V c).after 1 t = blk1 a V c 1 t := rfl
theorem after1_2 (c : Dev nD) (t : Fin grid1.N) : (dat1 a V c).after 2 t = band1 a V c t := rfl

/-- Both tables held are the two of them held. -/
theorem pref1 (c : Dev nD) : (Pipeline.prefHeld pre1 c (fun _ => fullShare) (a 1).1 : sProp 𝕄)
    = iprop(pt c (Memref.whole main_v33) (rowT a) ∗ pt c (Memref.whole main_v22) (colT a)) :=
  bigSep_univ_eq_bigSepL (M := 𝕄) [(0 : Fin 2), (1 : Fin 2)] (by decide) (by decide) _

/-- The band kernel's body meets its obligation. -/
theorem body1 (hlo : ∀ i : grid1.Coords, (loW (rowT a) i).toNat ≤ (hiW (rowT a) i).toNat)
    (hhi : ∀ i : grid1.Coords, (hiW (rowT a) i).toNat ≤ 400) (hcol : ∀ k, (colT a k).toNat < 64) (c : Dev nD) :
    BodyObligation (dat1 a V c) (defs₀ (F := F)) Variants.none () Set.univ := fun t => by
  rw [Gen.bigSep_W1, Gen.bigSep_W1]
  dsimp only
  unfold defs₀
  rw [Defs.onTc_tc]
  rw [show (dat1 a V c).Φ t.succ = (dat1 a V c).Φ t.castSucc from rfl, show (dat1 a V c).owesAt () t.succ = (dat1 a V c).owesAt () t.castSucc from rfl,
    show (dat1 a V c).Φ t.castSucc = iprop(Pipeline.scopedRest spec1 c ∗ Pipeline.prefHeld pre1 c (fun _ => fullShare) (a 1).1) from rfl, pref1 a c]
  iintro ⟨⟨HΦ, HT1, HT2⟩, HO, ⟨%d0, H0⟩, ⟨%d1, H1⟩, ⟨%d2, H2⟩⟩
  rw [before1_0 a V c t d0, before1_1 a V c t d1]
  iapply (band_owns c (grid1.coords t) (spec1_0.stage ((C1 a).slots t 0)) (Facts₀.hstage1_0 (((C1 a).slots t 0).cast Facts₀.nbuf1_0))
    (spec1_1.stage ((C1 a).slots t 1)) (Facts₀.hstage1_1 (((C1 a).slots t 1).cast Facts₀.nbuf1_1))
    (spec1_2.stage ((C1 a).slots t 2)) (Facts₀.hstage1_2 (((C1 a).slots t 2).cast Facts₀.nbuf1_2))
    (rowT a) (colT a) (blk1 a V c 0 t) (blk1 a V c 1 t) _ (hlo _) (hhi _) hcol _)
  isplitl [HT1]; · iexact HT1
  isplitl [HT2]; · iexact HT2
  isplitl [H0]; · iexact H0
  isplitl [H1]; · iexact H1
  isplitl [H2]; · iexact H2
  iintro ⟨HT1, HT2, H0, H1, H2⟩
  isplitl [HΦ HT1 HT2]
  · isplitl [HΦ]; · iexact HΦ
    isplitl [HT1]; · iexact HT1
    iexact HT2
  isplitl [HO]; · iexact HO
  rw [after1_0, after1_1, after1_2]
  unfold band1
  isplitl [H0]; · iexact H0
  isplitl [H1]; · iexact H1
  iexact H2
end Cert.Proof.KernelIdeal

end
-- ==== Proof.KIRun3.lean ====
module

public import proofs.«01_k».proof.Proof.KIRun1
public import proofs.«01_k».proof.Proof.KIRun2
public import Idealize.ShloMosaic.Lib.Pipeline.RegionArraysT
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)

local notation "𝕄" => MT nD τ sig Unit (Elt F) ℕ UU ℕ

variable (a : (p : Fin 2) → (pcfgs (F := F) p).Adm) (Va Vb : Dev nD → Valuation τ sig (Elt F))

/-- Both regions' proof data. -/
def pdats : (p : Fin 2) → (c : Dev nD) → Dat τ (Elt F) Unit ℕ UU ℕ (Pipeline.pin (pcfgs (F := F)) a p) c := fun
  | ⟨0, _⟩ => dat0 a Va
  | ⟨1, _⟩ => dat1 a Vb

/-- One level for everything a TensorCore counts. -/
abbrev lvS : GSem nD τ sig → Finset Unit := fun g => if g.1.2 = .tc then {()} else ∅
abbrev lvN : GSem nD τ sig → Unit → ℕ := fun _ _ => 0

theorem cut (p : Fin 2) : Pipeline.LevelCut (pcfgs (F := F)) a () lvS lvN p (fun _ => (0 : CellTallies nD τ sig Unit)) (fun _ => 0) where
  hι _ _ _ := by simp [lvS]
  hιb _ _ _ := le_refl _
  hD _ _ _ h := absurd h (lt_irrefl _)

/-- The buffers a region leaves alone. -/
abbrev restOf (p : Fin 2) : Finset (DevRef τ sig) :=
  (Pipeline.ucRefs τ sig \ Pipeline.arrRefs (pcfgs (F := F) p).spec) \ Pipeline.tblRefs (pcfgs (F := F) p).pre

set_option backward.isDefEq.respectTransparency.types false in
/-- Every unscoped buffer held is a region's arrays, its tables and the rest. -/
theorem split_bufs (p : Fin 2) (kit : Pipeline.PLaunchFacts₀ (nD := nD) (τ := τ) (pcfgs (F := F)) p) (c : Dev nD)
    (dat : Dat τ (Elt F) Unit ℕ UU ℕ (Pipeline.pin (pcfgs (F := F)) a p) c)
    (hq : ∀ w, ((pcfgs (F := F) p).spec w).isOut = false → dat.q w = Pipeline.shareOf (pcfgs (F := F) p).spec w)
    (W : Valuation τ sig (Elt F))
    (A : (w : Fin (pcfgs (F := F) p).W) → Buf (Elt F) (((pcfgs (F := F) p).spec w).arr.view.loc (c.tc : Thread nD τ)))
    (hA : ∀ w, A w = W (Proc.devRef .tc (Pipeline.arrRef (pcfgs (F := F) p).spec w)))
    (hG : ∀ k, (a p).1 k = W (Proc.devRef .tc ((pcfgs (F := F) p).pre.ref k))) :
    (StableHlo.held (c : Thread nD τ) (Pipeline.ucRefs τ sig) W : sProp 𝕄)
      = iprop(dat.arrays A ∗ Pipeline.prefHeld (pcfgs (F := F) p).pre c (fun _ => fullShare) (a p).1 ∗ StableHlo.held (c : Thread nD τ) (restOf (F := F) p) W) := by
  rw [StableHlo.held_sub_split (c : Thread nD τ) (Pipeline.arrRefs_sub_ucRefs (pcfgs (F := F) p).spec kit.win.arr_unscoped) W,
    StableHlo.held_sub_split (c : Thread nD τ) (Pipeline.tblRefs_sub_ucRefs_sdiff (pcfgs (F := F) p).spec (pcfgs (F := F) p).pre kit.pre.unscoped kit.pre.disj) W,
    Pipeline.prefHeld_held (pcfgs (F := F) p).pre kit.pre.inj c (a p).1 W hG,
    ← dat.arrBufs_eq_arrays kit.sharedIn kit.arr_whole hq (fun b => W (Proc.devRef .tc b)) A hA]
  congr 1
  unfold StableHlo.held Pipeline.arrBufs Pipeline.arrRefs
  rw [bigSep_map]
  rfl

/-- What a thread owes between two items: nothing. -/
abbrev idle (_ : Fin 3) (c : Dev nD) : sProp 𝕄 := iprop(∃ W, owes (c : Thread nD τ) (0 : CellTallies nD τ sig Unit) W)

set_option backward.isDefEq.respectTransparency.types false in
/-- The convolution's region. -/
def reg0 : RegionSeg (pcfgs (F := F)) a (pdats a Va Vb) () defs₀ Variants.none lvS lvN 0 :=
  RegionSeg.ofArraysT (pcfgs (F := F)) a (pdats a Va Vb) () defs₀ Variants.none lvS lvN 0 (fun _ => 0) (fun _ => BI.emp) (fun _ => BI.emp)
    Gen.launch₀0 (fun c => (body0 a Va c).loose) (fun _ _ => rfl) (fun _ => rfl)
    (fun c => by
      rw [show (pdats a Va Vb 0 c).Φ 0 = iprop(Pipeline.scopedRest spec0 c ∗ Pipeline.prefHeld pre0 c (fun _ => fullShare) (a 0).1) from rfl]
      iintro ⟨⟨H, -⟩, HT⟩
      isplitl [H]; · iexact H
      iexact HT)
    (fun c => by
      rw [show (pdats a Va Vb 0 c).Φ (Fin.last _) = iprop(Pipeline.scopedRest spec0 c ∗ Pipeline.prefHeld pre0 c (fun _ => fullShare) (a 0).1) from rfl]
      iintro ⟨H, HT⟩
      isplitl [H]
      · isplitl [H]; · iexact H
        iempintro
      iexact HT)
    (fun _ => 0) (cut a 0) (fun c => StableHlo.held (c : Thread nD τ) (restOf (F := F) 0) (Va c))

set_option backward.isDefEq.respectTransparency.types false in
/-- The band kernel's region. -/
def reg1 (hlo : ∀ i : grid1.Coords, (loW (rowT a) i).toNat ≤ (hiW (rowT a) i).toNat)
    (hhi : ∀ i : grid1.Coords, (hiW (rowT a) i).toNat ≤ 400) (hcol : ∀ k, (colT a k).toNat < 64) :
    RegionSeg (pcfgs (F := F)) a (pdats a Va Vb) () defs₀ Variants.none lvS lvN 1 :=
  RegionSeg.ofArraysT (pcfgs (F := F)) a (pdats a Va Vb) () defs₀ Variants.none lvS lvN 1 (fun _ => 0) (fun _ => BI.emp) (fun _ => BI.emp)
    Gen.launch1.to₀ (fun c => (body1 a Vb hlo hhi hcol c).loose) (fun _ _ => rfl) (fun _ => rfl)
    (fun c => by
      rw [show (pdats a Va Vb 1 c).Φ 0 = iprop(Pipeline.scopedRest spec1 c ∗ Pipeline.prefHeld pre1 c (fun _ => fullShare) (a 1).1) from rfl]
      iintro ⟨⟨H, -⟩, HT⟩
      isplitl [H]; · iexact H
      iexact HT)
    (fun c => by
      rw [show (pdats a Va Vb 1 c).Φ (Fin.last _) = iprop(Pipeline.scopedRest spec1 c ∗ Pipeline.prefHeld pre1 c (fun _ => fullShare) (a 1).1) from rfl]
      iintro ⟨H, HT⟩
      isplitl [H]
      · isplitl [H]; · iexact H
        iempintro
      iexact HT)
    (fun _ => 0) (cut a 1) (fun c => StableHlo.held (c : Thread nD τ) (restOf (F := F) 1) (Vb c))

set_option backward.isDefEq.respectTransparency.types false in
theorem reg0_pre (c : Dev nD) (hG : ∀ k, (a 0).1 k = Va c (Proc.devRef .tc ((pcfgs (F := F) 0).pre.ref k))) :
    iprop(StableHlo.held (c : Thread nD τ) (Pipeline.ucRefs τ sig) (Va c) ∗ idle (F := F) 0 c) ⊢ (reg0 a Va Vb).pre c := by
  rw [split_bufs a 0 Gen.launch₀0 c (dat0 a Va c) (fun _ _ => rfl) (Va c) ((dat0 a Va c).arrAt · 0) (fun _ => rfl) hG]
  show _ ⊢ iprop((dat0 a Va c).arrays ((dat0 a Va c).arrAt · 0) ∗ Pipeline.prefHeld (pcfgs (F := F) 0).pre c (fun _ => fullShare) (a 0).1 ∗ BI.emp
    ∗ StableHlo.held (c : Thread nD τ) (restOf (F := F) 0) (Va c) ∗ idle (F := F) 0 c)
  iintro ⟨⟨Ha, HT, HR⟩, HO⟩
  isplitl [Ha]; · iexact Ha
  isplitl [HT]; · iexact HT
  isplitr; · iempintro
  isplitl [HR]; · iexact HR
  iexact HO

set_option backward.isDefEq.respectTransparency.types false in
theorem reg0_post (c : Dev nD) (V' : Valuation τ sig (Elt F))
    (hG : ∀ k, (a 0).1 k = V' (Proc.devRef .tc ((pcfgs (F := F) 0).pre.ref k)))
    (hA : ∀ w, (dat0 a Va c).arrAt w grid0.N = V' (Proc.devRef .tc (Pipeline.arrRef spec0 w)))
    (hV : ∀ b ∈ restOf (F := F) 0, Va c b = V' b) :
    (reg0 a Va Vb).post c ⊢ iprop(StableHlo.held (c : Thread nD τ) (Pipeline.ucRefs τ sig) V' ∗ idle (F := F) 1 c) := by
  rw [split_bufs a 0 Gen.launch₀0 c (dat0 a Va c) (fun _ _ => rfl) V' ((dat0 a Va c).arrAt · grid0.N) hA hG,
    ← StableHlo.held_congr (c : Thread nD τ) hV]
  show iprop((dat0 a Va c).arrays ((dat0 a Va c).arrAt · grid0.N) ∗ Pipeline.prefHeld (pcfgs (F := F) 0).pre c (fun _ => fullShare) (a 0).1 ∗ BI.emp
    ∗ StableHlo.held (c : Thread nD τ) (restOf (F := F) 0) (Va c) ∗ idle (F := F) 0 c) ⊢ _
  iintro ⟨Ha, HT, -, HR, HO⟩
  isplitl [Ha HT HR]
  · isplitl [Ha]; · iexact Ha
    isplitl [HT]; · iexact HT
    iexact HR
  iexact HO

set_option backward.isDefEq.respectTransparency.types false in
theorem reg1_pre (hlo : ∀ i : grid1.Coords, (loW (rowT a) i).toNat ≤ (hiW (rowT a) i).toNat) (hhi : ∀ i : grid1.Coords, (hiW (rowT a) i).toNat ≤ 400) (hcol : ∀ k, (colT a k).toNat < 64) (c : Dev nD) (hG : ∀ k, (a 1).1 k = Vb c (Proc.devRef .tc ((pcfgs (F := F) 1).pre.ref k))) :
    iprop(StableHlo.held (c : Thread nD τ) (Pipeline.ucRefs τ sig) (Vb c) ∗ idle (F := F) 1 c) ⊢ (reg1 a Va Vb hlo hhi hcol).pre c := by
  rw [split_bufs a 1 Gen.launch1.to₀ c (dat1 a Vb c) (fun _ _ => rfl) (Vb c) ((dat1 a Vb c).arrAt · 0) (fun _ => rfl) hG]
  show _ ⊢ iprop((dat1 a Vb c).arrays ((dat1 a Vb c).arrAt · 0) ∗ Pipeline.prefHeld (pcfgs (F := F) 1).pre c (fun _ => fullShare) (a 1).1 ∗ BI.emp
    ∗ StableHlo.held (c : Thread nD τ) (restOf (F := F) 1) (Vb c) ∗ idle (F := F) 1 c)
  iintro ⟨⟨Ha, HT, HR⟩, HO⟩
  isplitl [Ha]; · iexact Ha
  isplitl [HT]; · iexact HT
  isplitr; · iempintro
  isplitl [HR]; · iexact HR
  iexact HO

set_option backward.isDefEq.respectTransparency.types false in
theorem reg1_post (hlo : ∀ i : grid1.Coords, (loW (rowT a) i).toNat ≤ (hiW (rowT a) i).toNat) (hhi : ∀ i : grid1.Coords, (hiW (rowT a) i).toNat ≤ 400) (hcol : ∀ k, (colT a k).toNat < 64) (c : Dev nD) (V' : Valuation τ sig (Elt F))
    (hG : ∀ k, (a 1).1 k = V' (Proc.devRef .tc ((pcfgs (F := F) 1).pre.ref k)))
    (hA : ∀ w, (dat1 a Vb c).arrAt w grid1.N = V' (Proc.devRef .tc (Pipeline.arrRef spec1 w)))
    (hV : ∀ b ∈ restOf (F := F) 1, Vb c b = V' b) :
    (reg1 a Va Vb hlo hhi hcol).post c ⊢ iprop(StableHlo.held (c : Thread nD τ) (Pipeline.ucRefs τ sig) V' ∗ idle (F := F) 2 c) := by
  rw [split_bufs a 1 Gen.launch1.to₀ c (dat1 a Vb c) (fun _ _ => rfl) V' ((dat1 a Vb c).arrAt · grid1.N) hA hG,
    ← StableHlo.held_congr (c : Thread nD τ) hV]
  show iprop((dat1 a Vb c).arrays ((dat1 a Vb c).arrAt · grid1.N) ∗ Pipeline.prefHeld (pcfgs (F := F) 1).pre c (fun _ => fullShare) (a 1).1 ∗ BI.emp
    ∗ StableHlo.held (c : Thread nD τ) (restOf (F := F) 1) (Vb c) ∗ idle (F := F) 1 c) ⊢ _
  iintro ⟨Ha, HT, -, HR, HO⟩
  isplitl [Ha HT HR]
  · isplitl [Ha]; · iexact Ha
    isplitl [HT]; · iexact HT
    iexact HR
  iexact HO

end Cert.Proof.KernelIdeal

end
-- ==== Proof.KIRun4.lean ====
module

public import proofs.«01_k».proof.Proof.KIRun3
public import Idealize.ShloMosaic.Lib.Pipeline.Frame
public import Idealize.ShloMosaic.Lib.Pipeline.Regions
public import Idealize.ShloMosaic.Lib.Pipeline.Kit
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)

local notation "𝕄" => MT nD τ sig Unit (Elt F) ℕ UU ℕ

/-- What the kernels need of the index tables the host computed. -/
structure TabOK (V : Valuation τ sig (Elt F)) : Prop where
  /-- block coordinates lie on the 64 by 64 grid of blocks -/
  v25 : ∀ x, ((V (Proc.devRef .tc main_v25) : S2x400.Idx → BitVec 32) x).toNat < 64
  /-- column coordinates lie below 64 -/
  v22 : ∀ x, ((V (Proc.devRef .tc main_v22) : S400.Idx → BitVec 32) x).toNat < 64
  /-- the bands' first entries are ordered -/
  lo : ∀ i : grid1.Coords, (loW (V (Proc.devRef .tc main_v33) : S65.Idx → BitVec 32) i).toNat ≤ (hiW (V (Proc.devRef .tc main_v33) : S65.Idx → BitVec 32) i).toNat
  /-- and none exceeds the number of blocks -/
  hi : ∀ i : grid1.Coords, (hiW (V (Proc.devRef .tc main_v33) : S65.Idx → BitVec 32) i).toNat ≤ 400

/-- The tables' contents each region is entered with, read off a valuation. -/
def admOf (V : Valuation τ sig (Elt F)) (h : TabOK V) : (p : Fin 2) → (pcfgs (F := F) p).Adm := fun
  | ⟨0, _⟩ => ⟨fun k => V (Proc.devRef .tc (pre0.ref k)), ok0_of _ h.v25⟩
  | ⟨1, _⟩ => ⟨fun k => V (Proc.devRef .tc (pre1.ref k)), trivial⟩

theorem admOf0 (V : Valuation τ sig (Elt F)) (h : TabOK V) (k : Fin 1) : (admOf V h 0).1 k = V (Proc.devRef .tc (pre0.ref k)) := rfl
theorem admOf1 (V : Valuation τ sig (Elt F)) (h : TabOK V) (k : Fin 2) : (admOf V h 1).1 k = V (Proc.devRef .tc (pre1.ref k)) := rfl
theorem rowT_of (V : Valuation τ sig (Elt F)) (h : TabOK V) : rowT (admOf V h) = V (Proc.devRef .tc main_v33) := rfl
theorem colT_of (V : Valuation τ sig (Elt F)) (h : TabOK V) : colT (admOf V h) = V (Proc.devRef .tc main_v22) := rfl

variable (m : (ℓ : Loc nD τ sig) → Buf (Elt F) ℓ) (hT : TabOK (Gen.V24 m 0))

/-- The tables' contents each region is entered with. -/
abbrev adm : (p : Fin 2) → (pcfgs (F := F) p).Adm := admOf (Gen.V24 m 0) hT

/-- The blocks the convolution leaves. -/
def out0 (c : Dev nD) : Buf (Elt F) ((c : Thread nD τ).loc main_v143) := (dat0 (adm m hT) (Gen.V24 m) c).arrAt 18 grid0.N

/-- The buffers the band kernel starts from. -/
def V25' (c : Dev nD) : Valuation τ sig (Elt F) := Function.update (Gen.V24 m c) main_v143 (out0 m hT c)

/-- The image the band kernel leaves. -/
def out1 (c : Dev nD) : Buf (Elt F) ((c : Thread nD τ).loc main_v144) := (dat1 (adm m hT) (V25' m hT) c).arrAt 2 grid1.N

/-- What both regions leave. -/
def outsOf : Gen.Outs (F := F) := fun _ b c => Function.update (Function.update (Gen.V24 m c) main_v143 (out0 m hT c)) main_v144 (out1 m hT c) b

theorem ne_out : (Proc.devRef .tc main_v143 : DevRef τ sig) ≠ Proc.devRef .tc main_v144 := StableHlo.devRef_ne_of_ne (by decide)

theorem V25_eq (c : Dev nD) : Gen.V25 m (outsOf m hT) c = V25' m hT c := by
  unfold Gen.V25 V25' outsOf
  rw [Function.update_of_ne ne_out, Function.update_self]

theorem V26_eq (c : Dev nD) : Gen.V26 m (outsOf m hT) c = Function.update (V25' m hT c) main_v144 (out1 m hT c) := by
  rw [← V25_eq]
  unfold Gen.V26 outsOf
  rw [Function.update_self]

theorem arr0_ne : ∀ w : Fin 19, w ≠ 18 → Pipeline.arrRef spec0 w ≠ main_v143 := by decide
theorem arr1_ne : ∀ w : Fin 3, w ≠ 2 → Pipeline.arrRef spec1 w ≠ main_v144 := by decide

/-- The core is the only one. -/
theorem one_dev (c : Dev nD) : c = 0 := Subsingleton.elim (α := Fin 1) _ _

theorem tab0 (c : Dev nD) (k : Fin 1) : (adm m hT 0).1 k = Gen.V24 m c (Proc.devRef .tc (pre0.ref k)) := by
  rw [one_dev c]; exact admOf0 _ hT k
theorem tab1 (c : Dev nD) (k : Fin 2) : (adm m hT 1).1 k = Gen.V24 m c (Proc.devRef .tc (pre1.ref k)) := by
  rw [one_dev c]; exact admOf1 _ hT k
theorem pre0_ne : ∀ k : Fin 1, pre0.ref k ≠ main_v143 := by decide
theorem pre1_ne : ∀ k : Fin 2, pre1.ref k ≠ main_v143 := by decide
theorem pre1_ne' : ∀ k : Fin 2, pre1.ref k ≠ main_v144 := by decide

theorem upd_tab0 (c : Dev nD) (k : Fin 1) : (adm m hT 0).1 k = V25' m hT c (Proc.devRef .tc (pre0.ref k)) := by
  rw [tab0 m hT c k]; unfold V25'
  exact (Function.update_of_ne (StableHlo.devRef_ne_of_ne (pre0_ne k)) _ _).symm
theorem upd_tab1 (c : Dev nD) (k : Fin 2) : (adm m hT 1).1 k = V25' m hT c (Proc.devRef .tc (pre1.ref k)) := by
  rw [tab1 m hT c k]; unfold V25'
  exact (Function.update_of_ne (StableHlo.devRef_ne_of_ne (pre1_ne k)) _ _).symm
theorem upd_tab1' (c : Dev nD) (k : Fin 2) : (adm m hT 1).1 k = Gen.V26 m (outsOf m hT) c (Proc.devRef .tc (pre1.ref k)) := by
  rw [V26_eq, upd_tab1 m hT c k]
  exact (Function.update_of_ne (StableHlo.devRef_ne_of_ne (pre1_ne' k)) _ _).symm

theorem arr0_after (c : Dev nD) (w : Fin 19) :
    (dat0 (adm m hT) (Gen.V24 m) c).arrAt w grid0.N = V25' m hT c (Proc.devRef .tc (Pipeline.arrRef spec0 w)) := by
  by_cases hw : w = 18
  · subst hw
    exact (Function.update_self (β := fun b : DevRef τ sig => b.ty.Contents (Elt F)) (Proc.devRef .tc main_v143) (out0 m hT c) (Gen.V24 m c)).symm
  · rw [(dat0 (adm m hT) (Gen.V24 m) c).arrAt_in w (isOut0 w hw) grid0.N]
    unfold V25'
    exact (show (dat0 (adm m hT) (Gen.V24 m) c).A w = Gen.V24 m c (Proc.devRef .tc (Pipeline.arrRef spec0 w)) from rfl).trans
      (Function.update_of_ne (StableHlo.devRef_ne_of_ne (arr0_ne w hw)) _ _).symm

theorem isOut1 : ∀ w : Fin 3, w ≠ 2 → (spec1 w).isOut = false := by decide

theorem arr1_after (c : Dev nD) (w : Fin 3) :
    (dat1 (adm m hT) (V25' m hT) c).arrAt w grid1.N = Gen.V26 m (outsOf m hT) c (Proc.devRef .tc (Pipeline.arrRef spec1 w)) := by
  rw [V26_eq]
  by_cases hw : w = 2
  · subst hw
    exact (Function.update_self (β := fun b : DevRef τ sig => b.ty.Contents (Elt F)) (Proc.devRef .tc main_v144) (out1 m hT c) (V25' m hT c)).symm
  · rw [(dat1 (adm m hT) (V25' m hT) c).arrAt_in w (isOut1 w hw) grid1.N]
    exact (show (dat1 (adm m hT) (V25' m hT) c).A w = V25' m hT c (Proc.devRef .tc (Pipeline.arrRef spec1 w)) from rfl).trans
      (Function.update_of_ne (StableHlo.devRef_ne_of_ne (arr1_ne w hw)) _ _).symm

/-- An array's buffer is not among those a region leaves alone. -/
theorem not_rest (p : Fin 2) (w : Fin (pcfgs (F := F) p).W) (b : DevRef τ sig) (hb : b ∈ restOf (F := F) p) :
    b ≠ Proc.devRef .tc (Pipeline.arrRef (pcfgs (F := F) p).spec w) := by
  rintro rfl
  refine (Finset.mem_sdiff.mp (Finset.mem_sdiff.mp hb).1).2 ?_
  exact Finset.mem_map.mpr ⟨_, Finset.mem_image.mpr ⟨w, Finset.mem_univ _, rfl⟩, rfl⟩

theorem rest0 (c : Dev nD) (b : DevRef τ sig) (hb : b ∈ restOf (F := F) 0) : Gen.V24 m c b = V25' m hT c b := by
  unfold V25'
  exact (Function.update_of_ne (not_rest (F := F) 0 (18 : Fin 19) b hb) _ _).symm
theorem rest1 (c : Dev nD) (b : DevRef τ sig) (hb : b ∈ restOf (F := F) 1) : V25' m hT c b = Gen.V26 m (outsOf m hT) c b := by
  rw [V26_eq]
  exact (Function.update_of_ne (not_rest (F := F) 1 (2 : Fin 3) b hb) _ _).symm

set_option maxRecDepth 20000 in
set_option backward.isDefEq.respectTransparency.types false in
/-- The whole run: the arguments end as launched, the result holds what the last host line makes of the regions' outputs, every
    counter is at zero. -/
theorem whole_run (ρ : Dev nD → PrngReg) :
    θ_run defs (onTc (τ := τ) (main (F := F))) ⟨m, fun _ => 0, ρ⟩ (fun r => (∀ c : Dev nD, (r.2.mem ((c.tc : Thread nD τ).loc main_v145) = Gen.V27 m (outsOf m hT) c main_v145) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) ∧ r.2.sem = fun _ => 0) := by
  have hlo : ∀ i : grid1.Coords, (loW (rowT (adm m hT)) i).toNat ≤ (hiW (rowT (adm m hT)) i).toNat := by rw [rowT_of]; exact hT.lo
  have hhi : ∀ i : grid1.Coords, (hiW (rowT (adm m hT)) i).toNat ≤ 400 := by rw [rowT_of]; exact hT.hi
  have hcol : ∀ k, (colT (adm m hT) k).toNat < 64 := by rw [colT_of]; exact hT.v22
  let outs := outsOf m hT
  have hc : ∀ c : Dev nD, iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp)
      ⊢ (iprop(StableHlo.held (c : Thread nD τ) (Pipeline.ucRefs τ sig) (Gen.V0 m c) ∗ idle (F := F) 0 c) : sProp 𝕄) := fun c => by
    rw [← Pipeline.unscopedBufs_held (Ix := Unit) (Name := ℕ) (U := UU) (Lvl := ℕ) c (Gen.V0 m c)]
    iintro ⟨Hh, -, HO, -⟩
    isplitl [Hh]; · iexact Hh
    iexists ∅; iexact HO
  have hcs : (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp))
      ⊢ (bigSep Finset.univ fun c : Dev nD => iprop(StableHlo.held (c : Thread nD τ) (Pipeline.ucRefs τ sig) (Gen.V0 m c) ∗ idle (F := F) 0 c) : sProp 𝕄) :=
    bigSep_mono fun c _ => hc c
  let pd := pdats (adm m hT) (Gen.V24 m) (V25' m hT)
  let R0 := reg0 (adm m hT) (Gen.V24 m) (V25' m hT)
  let R1 := reg1 (adm m hT) (Gen.V24 m) (V25' m hT) hlo hhi hcol
  have hpre0 : ∀ c : Dev nD, iprop(StableHlo.held (c : Thread nD τ) (Pipeline.ucRefs τ sig) (Gen.V24 m c) ∗ idle (F := F) 0 c) ⊢ R0.pre c :=
    fun c => reg0_pre (adm m hT) (Gen.V24 m) (V25' m hT) c (tab0 m hT c)
  have hpost0 : ∀ c : Dev nD, R0.post c ⊢ iprop(StableHlo.held (c : Thread nD τ) (Pipeline.ucRefs τ sig) (Gen.V25 m outs c) ∗ idle (F := F) 1 c) := fun c => by
    rw [V25_eq]
    exact reg0_post (adm m hT) (Gen.V24 m) (V25' m hT) c _ (upd_tab0 m hT c) (arr0_after m hT c) (rest0 m hT c)
  have hpre1 : ∀ c : Dev nD, iprop(StableHlo.held (c : Thread nD τ) (Pipeline.ucRefs τ sig) (Gen.V25 m outs c) ∗ idle (F := F) 1 c) ⊢ R1.pre c := fun c => by
    rw [V25_eq]
    exact reg1_pre (adm m hT) (Gen.V24 m) (V25' m hT) hlo hhi hcol c (upd_tab1 m hT c)
  have hpost1 : ∀ c : Dev nD, R1.post c ⊢ iprop(StableHlo.held (c : Thread nD τ) (Pipeline.ucRefs τ sig) (Gen.V26 m outs c) ∗ idle (F := F) 2 c) :=
    fun c => reg1_post (adm m hT) (Gen.V24 m) (V25' m hT) hlo hhi hcol c _ (upd_tab1' m hT c) (arr1_after m hT c) (rest1 m hT c)
  refine Pipeline.θ_run_regions_kit_dev_sems (pcfgs (F := F)) (adm m hT) pd () (Gen.cellOf_inj (adm m hT)) emb₁ defs₀ Variants.none lvS lvN m ρ main
    (Gen.segs m outs Variants.none lvS lvN (idle (F := F)) () (adm m hT) pd R0 R1)
    (fun c Q => by
      rewrite [Gen.main_chain c, Pipeline.Seg.run_eq_chain,
        show (Gen.segs m outs Variants.none lvS lvN (idle (F := F)) () (adm m hT) pd R0 R1 c).map Pipeline.Seg.prog = [
          StableHlo.seq Gen.hostOps0,
          StableHlo.seq Gen.hostOps0_1,
          StableHlo.seq Gen.hostOps0_2,
          StableHlo.seq Gen.hostOps0_3,
          StableHlo.seq Gen.hostOps0_4,
          StableHlo.seq Gen.hostOps0_5,
          StableHlo.seq Gen.hostOps0_6,
          StableHlo.seq Gen.hostOps0_7,
          StableHlo.seq Gen.hostOps0_8,
          StableHlo.seq Gen.hostOps0_9,
          StableHlo.seq Gen.hostOps0_10,
          StableHlo.seq Gen.hostOps0_11,
          StableHlo.seq Gen.hostOps0_12,
          StableHlo.seq Gen.hostOps0_13,
          StableHlo.seq Gen.hostOps0_14,
          StableHlo.seq Gen.hostOps0_15,
          StableHlo.seq Gen.hostOps0_16,
          StableHlo.seq Gen.hostOps0_17,
          StableHlo.seq Gen.hostOps0_18,
          StableHlo.seq Gen.hostOps0_19,
          StableHlo.seq Gen.hostOps0_20,
          StableHlo.seq Gen.hostOps0_21,
          StableHlo.seq Gen.hostOps0_22,
          StableHlo.seq Gen.hostOps0_23,
          Prog.lift (.customCall (Pipeline.entry 0) ()),
          Prog.lift (.customCall (Pipeline.entry 1) ()),
          StableHlo.seq Gen.hostOps2 ] from rfl]
      dsimp (config := { failIfUnchanged := false }) only
      exact .rfl)
    (fun c => by simp only [Gen.segs, Pipeline.Seg.pipes_host, Pipeline.Seg.pipes_region, Pipeline.Seg.pipes_nil]; decide) (fun _ => 0)
    (fun g hg => if_neg hg) (fun _ => BI.emp)
    (initOf (Pipeline.cells (Pipeline.pin (pcfgs (F := F)) (adm m hT)) (Gen.cellOf_inj (adm m hT))) (Pipeline.launchToks (Pipeline.pin (pcfgs (F := F)) (adm m hT)) (Gen.cellOf_inj (adm m hT))))
    ?_
    (T₀ := fun c => iprop(StableHlo.held (c : Thread nD τ) (Pipeline.ucRefs τ sig) (Gen.V0 m c) ∗ idle (F := F) 0 c))
    (Tₙ := fun c => StableHlo.held (c : Thread nD τ) (Pipeline.ucRefs τ sig) (Gen.V27 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, hpre0 c, (hpost0 c).trans (hpre1 c), hpost1 c, .rfl⟩)
    (hinit := ?_) (QY := fun c s => (s.mem ((c.tc : Thread nD τ).loc main_v145) = Gen.V27 m outs c main_v145) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h hz => ⟨h, funext fun g => hz g (.inr (Gen.regions_no_unscoped g.2))⟩)
  · iintro Hu; imodintro
    isplitl [Hu]
    · iapply (show (ownU _ : sProp 𝕄) ⊢ BI.own (emb₁ (initOf (Pipeline.cells (Pipeline.pin (pcfgs (F := F)) (adm m hT)) (Gen.cellOf_inj (adm m hT))) (Pipeline.launchToks (Pipeline.pin (pcfgs (F := F)) (adm m hT)) (Gen.cellOf_inj (adm m hT))))) from .rfl)
      iexact Hu
    · iapply (show (BI.emp : sProp 𝕄) ⊢ bigSep Finset.univ (fun _ : Dev nD => (BI.emp : sProp 𝕄)) from by rw [BI.bigSep_emp_const])
      iempintro
  · iintro ⟨H, -⟩
    imodintro
    iapply hcs $$ H
  · unfold StableHlo.held
    iintro ⟨Hh, HSI⟩
    ihave Hr := (pointsTo_read_all (Pipeline.ucRefs τ sig) (fun b => ((c : Thread nD τ).1, b)) (Gen.V27 m outs c) s') $$ [Hh HSI]
    · isplitl [Hh] <;> iassumption
    icases Hr with ⟨%h, HSI⟩
    imodintro
    isplitr
    · ipureintro
      exact ⟨h (Proc.devRef .tc main_v145) (Finset.mem_filter.mpr ⟨StableHlo.devRef_mem_tcRefs main_v145, by decide⟩),
        (h (Proc.devRef .tc main_arg0) (Finset.mem_filter.mpr ⟨StableHlo.devRef_mem_tcRefs main_arg0, by decide⟩)).trans (Gen.V27_main_arg0 m outs c),
        (h (Proc.devRef .tc main_arg1) (Finset.mem_filter.mpr ⟨StableHlo.devRef_mem_tcRefs main_arg1, by decide⟩)).trans (Gen.V27_main_arg1 m outs c),
        (h (Proc.devRef .tc main_arg2) (Finset.mem_filter.mpr ⟨StableHlo.devRef_mem_tcRefs main_arg2, by decide⟩)).trans (Gen.V27_main_arg2 m outs c),
        (h (Proc.devRef .tc main_arg3) (Finset.mem_filter.mpr ⟨StableHlo.devRef_mem_tcRefs main_arg3, by decide⟩)).trans (Gen.V27_main_arg3 m outs c),
        (h (Proc.devRef .tc main_arg4) (Finset.mem_filter.mpr ⟨StableHlo.devRef_mem_tcRefs main_arg4, by decide⟩)).trans (Gen.V27_main_arg4 m outs c),
        (h (Proc.devRef .tc main_arg5) (Finset.mem_filter.mpr ⟨StableHlo.devRef_mem_tcRefs main_arg5, by decide⟩)).trans (Gen.V27_main_arg5 m outs c),
        (h (Proc.devRef .tc main_arg6) (Finset.mem_filter.mpr ⟨StableHlo.devRef_mem_tcRefs main_arg6, by decide⟩)).trans (Gen.V27_main_arg6 m outs c),
        (h (Proc.devRef .tc main_arg7) (Finset.mem_filter.mpr ⟨StableHlo.devRef_mem_tcRefs main_arg7, by decide⟩)).trans (Gen.V27_main_arg7 m outs c),
        (h (Proc.devRef .tc main_arg8) (Finset.mem_filter.mpr ⟨StableHlo.devRef_mem_tcRefs main_arg8, by decide⟩)).trans (Gen.V27_main_arg8 m outs c)⟩
    · iexact HSI

end Cert.Proof.KernelIdeal

end
-- ==== Proof.KITab.lean ====
module

public import proofs.«01_k».proof.Proof.KIRun4
public import proofs.«01_k».proof.Proof.HostWords
public import Idealize.ShloMosaic.Lib.StableHlo.ReadAt
public import Idealize.ShloMosaic.Lib.Tactic.WordOmega
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Tactic
public import Idealize.ShloMosaic.Lib.WordArith
public import Idealize.ShloMosaic.Lib.VecWindow
public import Idealize.ShloMosaic.Lib.WritesUnit
public import Idealize.ShloMosaic.Lib.Pipeline.Value

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation BodyObligationLoose RegionSeg)

local notation "𝕄" => MT nD τ sig Unit (Elt F) ℕ UU ℕ

open Idealize.ShloMosaic.StableHlo (after)

theorem st0_v3 (V : Valuation τ sig (Elt F)) (k : Fin 400) :
    (after Gen.hostOps0 V main_v3 : S400.Idx → BitVec 32) (ix1 k) = (V main_arg1 : S400x3.Idx → BitVec 32) (ix2 k 1) := by
  after_reads_at

theorem st0_c (V : Valuation τ sig (Elt F)) : after Gen.hostOps0 V main_c = constantI S_ 32 64#32 := by
  after_reads_simp

theorem st2_v6 (V : Valuation τ sig (Elt F)) (k : Fin 400) :
    (after Gen.hostOps0_2 V main_v6 : S400.Idx → BitVec 32) (ix1 k) = (V main_arg1 : S400x3.Idx → BitVec 32) (ix2 k 2) := by
  after_reads_at

theorem st2_c (V : Valuation τ sig (Elt F)) : after Gen.hostOps0_2 V main_c_0 = constantI S_ 32 64#32 := by
  after_reads_simp

theorem st1_v4 (V : Valuation τ sig (Elt F)) (k : Fin 400) (h : V main_c = constantI S_ 32 64#32) :
    (after Gen.hostOps0_1 V main_v4 : S400.Idx → BitVec 32) (ix1 k) = modW ((V main_v3 : S400.Idx → BitVec 32) (ix1 k)) := by
  after_reads_at
  rw [h]
  rfl

theorem st3_v7 (V : Valuation τ sig (Elt F)) (k : Fin 400) (h : V main_c_0 = constantI S_ 32 64#32) :
    (after Gen.hostOps0_3 V main_v7 : S400.Idx → BitVec 32) (ix1 k) = modW ((V main_v6 : S400.Idx → BitVec 32) (ix1 k)) := by
  after_reads_at
  rw [h]
  rfl

theorem st4_v8 (V : Valuation τ sig (Elt F)) (k : Fin 400) :
    (after Gen.hostOps0_4 V main_v8 : S400.Idx → BitVec 32) (ix1 k)
      = BitVec.ofNat 32 (ordP (fun k => (V main_v4 : S400.Idx → BitVec 32) (ix1 k)) k).val := by
  after_reads_at
  exact sort2_iota comparator_i32_i32_d0 (fun l r => rfl) _ k

theorem st5_v15 (V : Valuation τ sig (Elt F)) (f : Fin 400 → Fin 400)
    (hf : ∀ k, (V main_v8 : S400.Idx → BitVec 32) (ix1 k) = BitVec.ofNat 32 (f k).val) (k : Fin 400) :
    (after Gen.hostOps0_5 V main_v15 : S400.Idx → BitVec 32) (ix1 k) = (V main_v4 : S400.Idx → BitVec 32) (ix1 (f k)) := by
  after_reads_at
  exact take400 gather_S400_S400x1_S400_n_0_n_n_0_1_1 rfl rfl rfl rfl _ _ _ _ (fun _ => rfl) _ f hf k

theorem st5_v22 (V : Valuation τ sig (Elt F)) (f : Fin 400 → Fin 400)
    (hf : ∀ k, (V main_v8 : S400.Idx → BitVec 32) (ix1 k) = BitVec.ofNat 32 (f k).val) (k : Fin 400) :
    (after Gen.hostOps0_5 V main_v22 : S400.Idx → BitVec 32) (ix1 k) = (V main_v7 : S400.Idx → BitVec 32) (ix1 (f k)) := by
  after_reads_at
  exact take400 gather_S400_S400x1_S400_n_0_n_n_0_1_1 rfl rfl rfl rfl _ _ _ _ (fun _ => rfl) _ f hf k

theorem st5_v25_0 (V : Valuation τ sig (Elt F)) (f : Fin 400 → Fin 400)
    (hf : ∀ k, (V main_v8 : S400.Idx → BitVec 32) (ix1 k) = BitVec.ofNat 32 (f k).val) (k : Fin 400) :
    (after Gen.hostOps0_5 V main_v25 : S2x400.Idx → BitVec 32) (ix2 0 k) = (V main_v4 : S400.Idx → BitVec 32) (ix1 (f k)) := by
  after_reads_at
  exact take400 gather_S400_S400x1_S400_n_0_n_n_0_1_1 rfl rfl rfl rfl _ _ _ _ (fun _ => rfl) _ f hf k

theorem st5_v25_1 (V : Valuation τ sig (Elt F)) (f : Fin 400 → Fin 400)
    (hf : ∀ k, (V main_v8 : S400.Idx → BitVec 32) (ix1 k) = BitVec.ofNat 32 (f k).val) (k : Fin 400) :
    (after Gen.hostOps0_5 V main_v25 : S2x400.Idx → BitVec 32) (ix2 1 k) = (V main_v7 : S400.Idx → BitVec 32) (ix1 (f k)) := by
  after_reads_at
  exact take400 gather_S400_S400x1_S400_n_0_n_n_0_1_1 rfl rfl rfl rfl _ _ _ _ (fun _ => rfl) _ f hf k

theorem st5_v33 (V : Valuation τ sig (Elt F)) (f : Fin 400 → Fin 400)
    (hf : ∀ k, (V main_v8 : S400.Idx → BitVec 32) (ix1 k) = BitVec.ofNat 32 (f k).val)
    (hlt : ∀ k : Fin 400, ((V main_v4 : S400.Idx → BitVec 32) (ix1 k)).toNat < 64) (v : Fin 65) :
    ((after Gen.hostOps0_5 V main_v33 : S65.Idx → BitVec 32) (ix1 v)).toNat
      = below (fun k => (V main_v4 : S400.Idx → BitVec 32) (ix1 (f k))) v.val := by
  after_reads_simp
  have ht : ∀ k : Fin 400, Host.gather gather_S400_S400x1_S400_n_0_n_n_0_1_1 (V main_v4 : S400.Idx → BitVec 32) (broadcastInDim S400x1 ![0] Gen.bcast_S400_S400x1_0
      (select (cmpi .slt (V main_v8 : IVec S400 32) (broadcastInDim S400 ![] Gen.bcast_S_S400 (constantI S_ 32 0#32)))
        (addi (V main_v8 : IVec S400 32) (broadcastInDim S400 ![] Gen.bcast_S_S400 (constantI S_ 32 400#32))) (V main_v8 : IVec S400 32))) (ix1 k)
      = (V main_v4 : S400.Idx → BitVec 32) (ix1 (f k)) := fun k =>
    take400 gather_S400_S400x1_S400_n_0_n_n_0_1_1 rfl rfl rfl rfl _ _ _ _ (fun _ => rfl) _ f hf k
  refine (count_below _ (fun k => by rw [ht]; exact hlt _) _ _ _ _ Gen.natLt_1_32 Gen.reducesTo_S65x400_S65_d1 Gen.h_S_ v).trans ?_
  exact congrArg (fun t => below t v.val) (funext ht)

/-- Entry `k` of the block rows that the index table names. -/
def byT (m : (ℓ : Loc nD τ sig) → ℓ.ty.Contents (Elt F)) (c : Dev nD) (k : Fin 400) : BitVec 32 :=
  modW ((m ((c : Thread nD τ).loc main_arg1) : S400x3.Idx → BitVec 32) (ix2 k 1))
/-- Entry `k` of the block columns that the index table names. -/
def bxT (m : (ℓ : Loc nD τ sig) → ℓ.ty.Contents (Elt F)) (c : Dev nD) (k : Fin 400) : BitVec 32 :=
  modW ((m ((c : Thread nD τ).loc main_arg1) : S400x3.Idx → BitVec 32) (ix2 k 2))
/-- The argsort of the block rows. -/
def sg (m : (ℓ : Loc nD τ sig) → ℓ.ty.Contents (Elt F)) (c : Dev nD) (k : Fin 400) : Fin 400 := ordP (byT m c) k

theorem V2_v4 (m : (ℓ : Loc nD τ sig) → ℓ.ty.Contents (Elt F)) (c : Dev nD) (k : Fin 400) : (Gen.V2 m c main_v4 : S400.Idx → BitVec 32) (ix1 k) = byT m c k := by
  unfold Gen.V2
  rw [st1_v4 _ k (by unfold Gen.V1; exact st0_c _)]
  unfold Gen.V1
  rw [st0_v3]
  rfl

theorem V5_v4 (m : (ℓ : Loc nD τ sig) → ℓ.ty.Contents (Elt F)) (c : Dev nD) (k : Fin 400) : (Gen.V5 m c main_v4 : S400.Idx → BitVec 32) (ix1 k) = byT m c k :=
  (congrFun ((Gen.V5_of m c main_v4 (by decide)).trans ((Gen.V4_of m c main_v4 (by decide)).trans ((Gen.V3_of m c main_v4 (by decide))))) (ix1 k)).trans (V2_v4 m c k)

theorem V4_v7 (m : (ℓ : Loc nD τ sig) → ℓ.ty.Contents (Elt F)) (c : Dev nD) (k : Fin 400) : (Gen.V4 m c main_v7 : S400.Idx → BitVec 32) (ix1 k) = bxT m c k := by
  unfold Gen.V4
  rw [st3_v7 _ k (by unfold Gen.V3; exact st2_c _)]
  unfold Gen.V3
  rw [st2_v6]
  have h : Gen.V2 m c main_arg1 = m ((c : Thread nD τ).loc main_arg1) := ((Gen.V2_of m c main_arg1 (by decide)).trans ((Gen.V1_of m c main_arg1 (by decide))))
  unfold bxT
  rw [← h]

theorem V5_v7 (m : (ℓ : Loc nD τ sig) → ℓ.ty.Contents (Elt F)) (c : Dev nD) (k : Fin 400) : (Gen.V5 m c main_v7 : S400.Idx → BitVec 32) (ix1 k) = bxT m c k :=
  (congrFun (Gen.V5_of m c main_v7 (by decide)) (ix1 k)).trans (V4_v7 m c k)

theorem V5_v8 (m : (ℓ : Loc nD τ sig) → ℓ.ty.Contents (Elt F)) (c : Dev nD) (k : Fin 400) : (Gen.V5 m c main_v8 : S400.Idx → BitVec 32) (ix1 k) = BitVec.ofNat 32 (sg m c k).val := by
  have h : (fun k => (Gen.V4 m c main_v4 : S400.Idx → BitVec 32) (ix1 k)) = byT m c := funext fun k =>
    (congrFun ((Gen.V4_of m c main_v4 (by decide)).trans ((Gen.V3_of m c main_v4 (by decide)))) (ix1 k)).trans (V2_v4 m c k)
  unfold Gen.V5
  rw [st4_v8, h]
  rfl

theorem V24_v25_0 (m : (ℓ : Loc nD τ sig) → ℓ.ty.Contents (Elt F)) (c : Dev nD) (k : Fin 400) : (Gen.V24 m c main_v25 : S2x400.Idx → BitVec 32) (ix2 0 k) = byT m c (sg m c k) := by
  refine (congrFun ((Gen.V24_of m c main_v25 (by decide)).trans ((Gen.V23_of m c main_v25 (by decide)).trans ((Gen.V22_of m c main_v25 (by decide)).trans ((Gen.V21_of m c main_v25 (by decide)).trans ((Gen.V20_of m c main_v25 (by decide)).trans ((Gen.V19_of m c main_v25 (by decide)).trans ((Gen.V18_of m c main_v25 (by decide)).trans ((Gen.V17_of m c main_v25 (by decide)).trans ((Gen.V16_of m c main_v25 (by decide)).trans ((Gen.V15_of m c main_v25 (by decide)).trans ((Gen.V14_of m c main_v25 (by decide)).trans ((Gen.V13_of m c main_v25 (by decide)).trans ((Gen.V12_of m c main_v25 (by decide)).trans ((Gen.V11_of m c main_v25 (by decide)).trans ((Gen.V10_of m c main_v25 (by decide)).trans ((Gen.V9_of m c main_v25 (by decide)).trans ((Gen.V8_of m c main_v25 (by decide)).trans ((Gen.V7_of m c main_v25 (by decide)))))))))))))))))))) (ix2 0 k)).trans ?_
  unfold Gen.V6
  rw [st5_v25_0 _ (sg m c) (V5_v8 m c), V5_v4]

theorem V24_v25_1 (m : (ℓ : Loc nD τ sig) → ℓ.ty.Contents (Elt F)) (c : Dev nD) (k : Fin 400) : (Gen.V24 m c main_v25 : S2x400.Idx → BitVec 32) (ix2 1 k) = bxT m c (sg m c k) := by
  refine (congrFun ((Gen.V24_of m c main_v25 (by decide)).trans ((Gen.V23_of m c main_v25 (by decide)).trans ((Gen.V22_of m c main_v25 (by decide)).trans ((Gen.V21_of m c main_v25 (by decide)).trans ((Gen.V20_of m c main_v25 (by decide)).trans ((Gen.V19_of m c main_v25 (by decide)).trans ((Gen.V18_of m c main_v25 (by decide)).trans ((Gen.V17_of m c main_v25 (by decide)).trans ((Gen.V16_of m c main_v25 (by decide)).trans ((Gen.V15_of m c main_v25 (by decide)).trans ((Gen.V14_of m c main_v25 (by decide)).trans ((Gen.V13_of m c main_v25 (by decide)).trans ((Gen.V12_of m c main_v25 (by decide)).trans ((Gen.V11_of m c main_v25 (by decide)).trans ((Gen.V10_of m c main_v25 (by decide)).trans ((Gen.V9_of m c main_v25 (by decide)).trans ((Gen.V8_of m c main_v25 (by decide)).trans ((Gen.V7_of m c main_v25 (by decide)))))))))))))))))))) (ix2 1 k)).trans ?_
  unfold Gen.V6
  rw [st5_v25_1 _ (sg m c) (V5_v8 m c), V5_v7]

theorem V24_v22 (m : (ℓ : Loc nD τ sig) → ℓ.ty.Contents (Elt F)) (c : Dev nD) (k : Fin 400) : (Gen.V24 m c main_v22 : S400.Idx → BitVec 32) (ix1 k) = bxT m c (sg m c k) := by
  refine (congrFun ((Gen.V24_of m c main_v22 (by decide)).trans ((Gen.V23_of m c main_v22 (by decide)).trans ((Gen.V22_of m c main_v22 (by decide)).trans ((Gen.V21_of m c main_v22 (by decide)).trans ((Gen.V20_of m c main_v22 (by decide)).trans ((Gen.V19_of m c main_v22 (by decide)).trans ((Gen.V18_of m c main_v22 (by decide)).trans ((Gen.V17_of m c main_v22 (by decide)).trans ((Gen.V16_of m c main_v22 (by decide)).trans ((Gen.V15_of m c main_v22 (by decide)).trans ((Gen.V14_of m c main_v22 (by decide)).trans ((Gen.V13_of m c main_v22 (by decide)).trans ((Gen.V12_of m c main_v22 (by decide)).trans ((Gen.V11_of m c main_v22 (by decide)).trans ((Gen.V10_of m c main_v22 (by decide)).trans ((Gen.V9_of m c main_v22 (by decide)).trans ((Gen.V8_of m c main_v22 (by decide)).trans ((Gen.V7_of m c main_v22 (by decide)))))))))))))))))))) (ix1 k)).trans ?_
  unfold Gen.V6
  rw [st5_v22 _ (sg m c) (V5_v8 m c), V5_v7]

theorem V24_v33 (m : (ℓ : Loc nD τ sig) → ℓ.ty.Contents (Elt F)) (c : Dev nD) (v : Fin 65) :
    ((Gen.V24 m c main_v33 : S65.Idx → BitVec 32) (ix1 v)).toNat = below (fun k => byT m c (sg m c k)) v.val := by
  refine (congrArg BitVec.toNat (congrFun ((Gen.V24_of m c main_v33 (by decide)).trans ((Gen.V23_of m c main_v33 (by decide)).trans ((Gen.V22_of m c main_v33 (by decide)).trans ((Gen.V21_of m c main_v33 (by decide)).trans ((Gen.V20_of m c main_v33 (by decide)).trans ((Gen.V19_of m c main_v33 (by decide)).trans ((Gen.V18_of m c main_v33 (by decide)).trans ((Gen.V17_of m c main_v33 (by decide)).trans ((Gen.V16_of m c main_v33 (by decide)).trans ((Gen.V15_of m c main_v33 (by decide)).trans ((Gen.V14_of m c main_v33 (by decide)).trans ((Gen.V13_of m c main_v33 (by decide)).trans ((Gen.V12_of m c main_v33 (by decide)).trans ((Gen.V11_of m c main_v33 (by decide)).trans ((Gen.V10_of m c main_v33 (by decide)).trans ((Gen.V9_of m c main_v33 (by decide)).trans ((Gen.V8_of m c main_v33 (by decide)).trans ((Gen.V7_of m c main_v33 (by decide)))))))))))))))))))) (ix1 v))).trans ?_
  refine (st5_v33 (Gen.V5 m c) (sg m c) (V5_v8 m c) (fun k => by rw [V5_v4]; exact modW_lt _) v).trans ?_
  exact congrArg (fun t => below t v.val) (funext fun k => V5_v4 m c (sg m c k))

theorem i65_eq (v : Fin 65) : i65 v = (ix1 v : S65.Idx) := by
  funext a; match a with | ⟨0, _⟩ => rfl

theorem tabOK_of (V : Valuation τ sig (Elt F)) (a b : Fin 400 → BitVec 32) (ha : ∀ k, (a k).toNat < 64) (hb : ∀ k, (b k).toNat < 64)
    (h0 : ∀ k, (V main_v25 : S2x400.Idx → BitVec 32) (ix2 0 k) = a k) (h1 : ∀ k, (V main_v25 : S2x400.Idx → BitVec 32) (ix2 1 k) = b k)
    (h2 : ∀ k, (V main_v22 : S400.Idx → BitVec 32) (ix1 k) = b k)
    (h3 : ∀ v : Fin 65, ((V main_v33 : S65.Idx → BitVec 32) (ix1 v)).toNat = below a v.val) : TabOK V where
  v25 x := by
    obtain ⟨i, k, rfl⟩ : ∃ (i : Fin 2) (k : Fin 400), x = ix2 i k := ⟨x 0, x 1, by
      funext a; match a with | ⟨0, _⟩ => rfl | ⟨1, _⟩ => rfl⟩
    match i with
    | ⟨0, _⟩ => exact (congrArg (· < 64) (congrArg BitVec.toNat (h0 k))).mpr (ha k)
    | ⟨1, _⟩ => exact (congrArg (· < 64) (congrArg BitVec.toNat (h1 k))).mpr (hb k)
  v22 x := by
    obtain ⟨k, rfl⟩ : ∃ (k : Fin 400), x = ix1 k := ⟨x 0, by
      funext a; match a with | ⟨0, _⟩ => rfl⟩
    exact (congrArg (· < 64) (congrArg BitVec.toNat (h2 k))).mpr (hb k)
  lo i := by
    have e1 := (congrArg (fun j => ((V main_v33 : S65.Idx → BitVec 32) j).toNat) (i65_eq ⟨(i 0).val, lt_trans (i 0).isLt (by decide)⟩)).trans (h3 ⟨(i 0).val, lt_trans (i 0).isLt (by decide)⟩)
    have e2 := (congrArg (fun j => ((V main_v33 : S65.Idx → BitVec 32) j).toNat) (i65_eq ⟨(i 0).val + 1, by have := (i 0).isLt; change _ < 64 at this; omega⟩)).trans (h3 ⟨(i 0).val + 1, by have := (i 0).isLt; change _ < 64 at this; omega⟩)
    exact (congrArg₂ (· ≤ ·) e1 e2).mpr (below_mono _ (Nat.le_succ _))
  hi i := by
    have e2 := (congrArg (fun j => ((V main_v33 : S65.Idx → BitVec 32) j).toNat) (i65_eq ⟨(i 0).val + 1, by have := (i 0).isLt; change _ < 64 at this; omega⟩)).trans (h3 ⟨(i 0).val + 1, by have := (i 0).isLt; change _ < 64 at this; omega⟩)
    exact (congrArg (· ≤ 400) e2).mpr (below_le _ _)

theorem tab_ok (m : (ℓ : Loc nD τ sig) → ℓ.ty.Contents (Elt F)) (c : Dev nD) : TabOK (Gen.V24 m c) :=
  tabOK_of (Gen.V24 m c) (fun k => byT m c (sg m c k)) (fun k => bxT m c (sg m c k)) (fun _ => modW_lt _) (fun _ => modW_lt _)
    (V24_v25_0 m c) (V24_v25_1 m c) (V24_v22 m c) (V24_v33 m c)

end Cert.Proof.KernelIdeal

end
-- ==== Proof.RefRun.lean ====
/-
  The operations of the reference, in order, cut into stretches, with what each stretch writes; and the run of the reference to what they leave.
-/
module

public import proofs.«01_k».proof.Proof.Gen.ReferenceIdeal
public import Idealize.ShloMosaic.Lib.StableHlo.RunHlo
public import Idealize.ShloMosaic.Lib.StableHlo.ReadAt
public import Idealize.ShloMosaic.Lib.Tactic

@[expose] public section

set_option maxRecDepth 8000

noncomputable section

namespace Cert.Proof.ReferenceIdeal

open Cert.ReferenceIdeal Cert.ReferenceIdeal.Gen
open Idealize.ShloMosaic Idealize.ShloMosaic.TcCoe Idealize.ShloMosaic.Tactic Idealize.SL.Sem
open Idealize.ShloMosaic.StableHlo (after)

variable {F : FTy → Type} [FloatOps F]

/-- Stretch 0 of the operations. -/
abbrev rOps0 : List (HloOp τ sig (Elt F)) :=
  [StableHlo.unary main_arg1 main_v0 ((extractStridedSlice S400x1 ![0, 0] · slices_S400x3_S400x1_0_0) : (⟨S400x3, .i32⟩ : BufTy).Contents (Elt F) → (⟨S400x1, .i32⟩ : BufTy).Contents (Elt F)),
   StableHlo.reshape main_v0 main_v1 (rfl : (.i32 : EltTy) = .i32) shapeCasts_S400x1_S400,
   StableHlo.nullary main_c (constantI S_ 32 1#32),
   StableHlo.TRef.unary (.of main_c : StableHlo.TRef sig ⟨S_, .i32⟩) main_call0.v0 id,
   StableHlo.TRef.nullary main_call0.c (constantI S_ 32 0#32),
   StableHlo.TRef.binary main_call0.v0 main_call0.c main_call0.v1 (cmpi .eq),
   StableHlo.TRef.nullary main_call0.c_0 (constantI S_ 32 1#32),
   StableHlo.TRef.ternary (main_call0.v1 : StableHlo.TRef sig ⟨S_, .i1⟩) (main_call0.c_0 : StableHlo.TRef sig ⟨S_, .i32⟩) (main_call0.v0 : StableHlo.TRef sig ⟨S_, .i32⟩) main_call0_call0.v0 select,
   StableHlo.TRef.unary main_call0_call0.v0 main_call0.v3 (broadcastInDim S400 ![] bcast_S_S400),
   StableHlo.TRef.binary (.of main_v1 : StableHlo.TRef sig ⟨S400, .i32⟩) main_call0.v3 main_call0.v4 Host.remsi,
   StableHlo.TRef.nullary main_call0.c_1 (constantI S_ 32 0#32),
   StableHlo.TRef.unary main_call0.c_1 main_call0.v5 (broadcastInDim S400 ![] bcast_S_S400),
   StableHlo.TRef.binary main_call0.v4 main_call0.v5 main_call0.v6 (cmpi .ne),
   StableHlo.TRef.nullary main_call0.c_2 (constantI S_ 32 0#32),
   StableHlo.TRef.unary main_call0.c_2 main_call0.v7 (broadcastInDim S400 ![] bcast_S_S400),
   StableHlo.TRef.binary main_call0.v4 main_call0.v7 main_call0.v8 (cmpi .slt),
   StableHlo.TRef.nullary main_call0.c_3 (constantI S_ 32 0#32),
   StableHlo.TRef.binary main_call0_call0.v0 main_call0.c_3 main_call0.v9 (cmpi .slt),
   StableHlo.TRef.unary main_call0.v9 main_call0.v10 (broadcastInDim S400 ![] bcast_S_S400),
   StableHlo.TRef.binary main_call0.v8 main_call0.v10 main_call0.v11 (cmpi .ne),
   StableHlo.TRef.binary main_call0.v11 main_call0.v6 main_call0.v12 andi,
   StableHlo.TRef.unary main_call0_call0.v0 main_call0.v13 (broadcastInDim S400 ![] bcast_S_S400),
   StableHlo.TRef.binary main_call0.v4 main_call0.v13 main_call0.v14 addi,
   StableHlo.TRef.ternary main_call0.v12 main_call0.v14 main_call0.v4 main_call0.v15 select]
abbrev rOps0_W : List (Ref sig .tc) := [main_v0, main_v1, main_c, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v2]
theorem rOps0_writes : (rOps0 : List (HloOp τ sig (Elt F))).Forall fun op => op.writes ⊆ (rOps0_W.map (Proc.devRef (τ := τ) .tc)).toFinset :=
  StableHlo.forall_writes_sub_of_map rfl
theorem rOps0_fresh : (rOps0 : List (HloOp τ sig (Elt F))).Forall fun op => op.fresh = ∅ := by
  simp only [List.Forall]; repeat' constructor
theorem rOps0_sub : (rOps0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Stretch 1 of the operations. -/
abbrev rOps1 : List (HloOp τ sig (Elt F)) :=
  [StableHlo.unary main_arg1 main_v3 ((extractStridedSlice S400x1 ![0, 1] · slices_S400x3_S400x1_0_1) : (⟨S400x3, .i32⟩ : BufTy).Contents (Elt F) → (⟨S400x1, .i32⟩ : BufTy).Contents (Elt F)),
   StableHlo.reshape main_v3 main_v4 (rfl : (.i32 : EltTy) = .i32) shapeCasts_S400x1_S400,
   StableHlo.nullary main_c_0 (constantI S_ 32 64#32),
   StableHlo.TRef.unary (.of main_c_0 : StableHlo.TRef sig ⟨S_, .i32⟩) main_call1.v0 id,
   StableHlo.TRef.nullary main_call1.c (constantI S_ 32 0#32),
   StableHlo.TRef.binary main_call1.v0 main_call1.c main_call1.v1 (cmpi .eq),
   StableHlo.TRef.nullary main_call1.c_0 (constantI S_ 32 1#32),
   StableHlo.TRef.ternary (main_call1.v1 : StableHlo.TRef sig ⟨S_, .i1⟩) (main_call1.c_0 : StableHlo.TRef sig ⟨S_, .i32⟩) (main_call1.v0 : StableHlo.TRef sig ⟨S_, .i32⟩) main_call1_call0.v0 select,
   StableHlo.TRef.unary main_call1_call0.v0 main_call1.v3 (broadcastInDim S400 ![] bcast_S_S400),
   StableHlo.TRef.binary (.of main_v4 : StableHlo.TRef sig ⟨S400, .i32⟩) main_call1.v3 main_call1.v4 Host.remsi,
   StableHlo.TRef.nullary main_call1.c_1 (constantI S_ 32 0#32),
   StableHlo.TRef.unary main_call1.c_1 main_call1.v5 (broadcastInDim S400 ![] bcast_S_S400),
   StableHlo.TRef.binary main_call1.v4 main_call1.v5 main_call1.v6 (cmpi .ne),
   StableHlo.TRef.nullary main_call1.c_2 (constantI S_ 32 0#32),
   StableHlo.TRef.unary main_call1.c_2 main_call1.v7 (broadcastInDim S400 ![] bcast_S_S400),
   StableHlo.TRef.binary main_call1.v4 main_call1.v7 main_call1.v8 (cmpi .slt),
   StableHlo.TRef.nullary main_call1.c_3 (constantI S_ 32 0#32),
   StableHlo.TRef.binary main_call1_call0.v0 main_call1.c_3 main_call1.v9 (cmpi .slt),
   StableHlo.TRef.unary main_call1.v9 main_call1.v10 (broadcastInDim S400 ![] bcast_S_S400),
   StableHlo.TRef.binary main_call1.v8 main_call1.v10 main_call1.v11 (cmpi .ne),
   StableHlo.TRef.binary main_call1.v11 main_call1.v6 main_call1.v12 andi,
   StableHlo.TRef.unary main_call1_call0.v0 main_call1.v13 (broadcastInDim S400 ![] bcast_S_S400),
   StableHlo.TRef.binary main_call1.v4 main_call1.v13 main_call1.v14 addi,
   StableHlo.TRef.ternary main_call1.v12 main_call1.v14 main_call1.v4 main_call1.v15 select]
abbrev rOps1_W : List (Ref sig .tc) := [main_v3, main_v4, main_c_0, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v5]
theorem rOps1_writes : (rOps1 : List (HloOp τ sig (Elt F))).Forall fun op => op.writes ⊆ (rOps1_W.map (Proc.devRef (τ := τ) .tc)).toFinset :=
  StableHlo.forall_writes_sub_of_map rfl
theorem rOps1_fresh : (rOps1 : List (HloOp τ sig (Elt F))).Forall fun op => op.fresh = ∅ := by
  simp only [List.Forall]; repeat' constructor
theorem rOps1_sub : (rOps1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Stretch 2 of the operations. -/
abbrev rOps2 : List (HloOp τ sig (Elt F)) :=
  [StableHlo.unary main_arg1 main_v6 ((extractStridedSlice S400x1 ![0, 2] · slices_S400x3_S400x1_0_2) : (⟨S400x3, .i32⟩ : BufTy).Contents (Elt F) → (⟨S400x1, .i32⟩ : BufTy).Contents (Elt F)),
   StableHlo.reshape main_v6 main_v7 (rfl : (.i32 : EltTy) = .i32) shapeCasts_S400x1_S400,
   StableHlo.nullary main_c_1 (constantI S_ 32 64#32),
   StableHlo.TRef.unary (.of main_c_1 : StableHlo.TRef sig ⟨S_, .i32⟩) main_call2.v0 id,
   StableHlo.TRef.nullary main_call2.c (constantI S_ 32 0#32),
   StableHlo.TRef.binary main_call2.v0 main_call2.c main_call2.v1 (cmpi .eq),
   StableHlo.TRef.nullary main_call2.c_0 (constantI S_ 32 1#32),
   StableHlo.TRef.ternary (main_call2.v1 : StableHlo.TRef sig ⟨S_, .i1⟩) (main_call2.c_0 : StableHlo.TRef sig ⟨S_, .i32⟩) (main_call2.v0 : StableHlo.TRef sig ⟨S_, .i32⟩) main_call2_call0.v0 select,
   StableHlo.TRef.unary main_call2_call0.v0 main_call2.v3 (broadcastInDim S400 ![] bcast_S_S400),
   StableHlo.TRef.binary (.of main_v7 : StableHlo.TRef sig ⟨S400, .i32⟩) main_call2.v3 main_call2.v4 Host.remsi,
   StableHlo.TRef.nullary main_call2.c_1 (constantI S_ 32 0#32),
   StableHlo.TRef.unary main_call2.c_1 main_call2.v5 (broadcastInDim S400 ![] bcast_S_S400),
   StableHlo.TRef.binary main_call2.v4 main_call2.v5 main_call2.v6 (cmpi .ne),
   StableHlo.TRef.nullary main_call2.c_2 (constantI S_ 32 0#32),
   StableHlo.TRef.unary main_call2.c_2 main_call2.v7 (broadcastInDim S400 ![] bcast_S_S400),
   StableHlo.TRef.binary main_call2.v4 main_call2.v7 main_call2.v8 (cmpi .slt),
   StableHlo.TRef.nullary main_call2.c_3 (constantI S_ 32 0#32),
   StableHlo.TRef.binary main_call2_call0.v0 main_call2.c_3 main_call2.v9 (cmpi .slt),
   StableHlo.TRef.unary main_call2.v9 main_call2.v10 (broadcastInDim S400 ![] bcast_S_S400),
   StableHlo.TRef.binary main_call2.v8 main_call2.v10 main_call2.v11 (cmpi .ne),
   StableHlo.TRef.binary main_call2.v11 main_call2.v6 main_call2.v12 andi,
   StableHlo.TRef.unary main_call2_call0.v0 main_call2.v13 (broadcastInDim S400 ![] bcast_S_S400),
   StableHlo.TRef.binary main_call2.v4 main_call2.v13 main_call2.v14 addi,
   StableHlo.TRef.ternary main_call2.v12 main_call2.v14 main_call2.v4 main_call2.v15 select]
abbrev rOps2_W : List (Ref sig .tc) := [main_v6, main_v7, main_c_1, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v8]
theorem rOps2_writes : (rOps2 : List (HloOp τ sig (Elt F))).Forall fun op => op.writes ⊆ (rOps2_W.map (Proc.devRef (τ := τ) .tc)).toFinset :=
  StableHlo.forall_writes_sub_of_map rfl
theorem rOps2_fresh : (rOps2 : List (HloOp τ sig (Elt F))).Forall fun op => op.fresh = ∅ := by
  simp only [List.Forall]; repeat' constructor
theorem rOps2_sub : (rOps2 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- Stretch 3 of the operations. -/
abbrev rOps3 : List (HloOp τ sig (Elt F)) :=
  [StableHlo.nullary main_v9 (iotaInDim S16 32 0),
   StableHlo.unary main_v5 main_v10 (broadcastInDim S400x1 ![0] bcast_S400_S400x1_0 : (⟨S400, .i32⟩ : BufTy).Contents (Elt F) → (⟨S400x1, .i32⟩ : BufTy).Contents (Elt F)),
   StableHlo.nullary main_c_2 (constantI S_ 32 16#32),
   StableHlo.unary main_c_2 main_v11 (broadcastInDim S400x1 ![] bcast_S_S400x1 : (⟨S_, .i32⟩ : BufTy).Contents (Elt F) → (⟨S400x1, .i32⟩ : BufTy).Contents (Elt F)),
   StableHlo.binary main_v10 main_v11 main_v12 (muli : (⟨S400x1, .i32⟩ : BufTy).Contents (Elt F) → (⟨S400x1, .i32⟩ : BufTy).Contents (Elt F) → (⟨S400x1, .i32⟩ : BufTy).Contents (Elt F)),
   StableHlo.unary main_v9 main_v13 (broadcastInDim S1x16 ![1] bcast_S16_S1x16_1 : (⟨S16, .i32⟩ : BufTy).Contents (Elt F) → (⟨S1x16, .i32⟩ : BufTy).Contents (Elt F)),
   StableHlo.unary main_v12 main_v14 (broadcastInDim S400x16 ![0, 1] bcast_S400x1_S400x16_0_1 : (⟨S400x1, .i32⟩ : BufTy).Contents (Elt F) → (⟨S400x16, .i32⟩ : BufTy).Contents (Elt F)),
   StableHlo.unary main_v13 main_v15 (broadcastInDim S400x16 ![0, 1] bcast_S1x16_S400x16_0_1 : (⟨S1x16, .i32⟩ : BufTy).Contents (Elt F) → (⟨S400x16, .i32⟩ : BufTy).Contents (Elt F)),
   StableHlo.binary main_v14 main_v15 main_v16 (addi : (⟨S400x16, .i32⟩ : BufTy).Contents (Elt F) → (⟨S400x16, .i32⟩ : BufTy).Contents (Elt F) → (⟨S400x16, .i32⟩ : BufTy).Contents (Elt F)),
   StableHlo.unary main_v8 main_v17 (broadcastInDim S400x1 ![0] bcast_S400_S400x1_0 : (⟨S400, .i32⟩ : BufTy).Contents (Elt F) → (⟨S400x1, .i32⟩ : BufTy).Contents (Elt F)),
   StableHlo.nullary main_c_3 (constantI S_ 32 16#32),
   StableHlo.unary main_c_3 main_v18 (broadcastInDim S400x1 ![] bcast_S_S400x1 : (⟨S_, .i32⟩ : BufTy).Contents (Elt F) → (⟨S400x1, .i32⟩ : BufTy).Contents (Elt F)),
   StableHlo.binary main_v17 main_v18 main_v19 (muli : (⟨S400x1, .i32⟩ : BufTy).Contents (Elt F) → (⟨S400x1, .i32⟩ : BufTy).Contents (Elt F) → (⟨S400x1, .i32⟩ : BufTy).Contents (Elt F)),
   StableHlo.unary main_v9 main_v20 (broadcastInDim S1x16 ![1] bcast_S16_S1x16_1 : (⟨S16, .i32⟩ : BufTy).Contents (Elt F) → (⟨S1x16, .i32⟩ : BufTy).Contents (Elt F)),
   StableHlo.unary main_v19 main_v21 (broadcastInDim S400x16 ![0, 1] bcast_S400x1_S400x16_0_1 : (⟨S400x1, .i32⟩ : BufTy).Contents (Elt F) → (⟨S400x16, .i32⟩ : BufTy).Contents (Elt F)),
   StableHlo.unary main_v20 main_v22 (broadcastInDim S400x16 ![0, 1] bcast_S1x16_S400x16_0_1 : (⟨S1x16, .i32⟩ : BufTy).Contents (Elt F) → (⟨S400x16, .i32⟩ : BufTy).Contents (Elt F)),
   StableHlo.binary main_v21 main_v22 main_v23 (addi : (⟨S400x16, .i32⟩ : BufTy).Contents (Elt F) → (⟨S400x16, .i32⟩ : BufTy).Contents (Elt F) → (⟨S400x16, .i32⟩ : BufTy).Contents (Elt F)),
   StableHlo.unary main_v2 main_v24 (broadcastInDim S400x1x1 ![0] bcast_S400_S400x1x1_0 : (⟨S400, .i32⟩ : BufTy).Contents (Elt F) → (⟨S400x1x1, .i32⟩ : BufTy).Contents (Elt F)),
   StableHlo.unary main_v16 main_v25 (broadcastInDim S400x16x1 ![0, 1] bcast_S400x16_S400x16x1_0_1 : (⟨S400x16, .i32⟩ : BufTy).Contents (Elt F) → (⟨S400x16x1, .i32⟩ : BufTy).Contents (Elt F)),
   StableHlo.unary main_v23 main_v26 (broadcastInDim S400x1x16 ![0, 2] bcast_S400x16_S400x1x16_0_2 : (⟨S400x16, .i32⟩ : BufTy).Contents (Elt F) → (⟨S400x1x16, .i32⟩ : BufTy).Contents (Elt F)),
   StableHlo.nullary main_c_4 (constantI S_ 32 0#32),
   StableHlo.unary main_c_4 main_v27 (broadcastInDim S400x1x1 ![] bcast_S_S400x1x1 : (⟨S_, .i32⟩ : BufTy).Contents (Elt F) → (⟨S400x1x1, .i32⟩ : BufTy).Contents (Elt F)),
   StableHlo.binary main_v24 main_v27 main_v28 (cmpi .slt : (⟨S400x1x1, .i32⟩ : BufTy).Contents (Elt F) → (⟨S400x1x1, .i32⟩ : BufTy).Contents (Elt F) → (⟨S400x1x1, .i1⟩ : BufTy).Contents (Elt F)),
   StableHlo.nullary main_c_5 (constantI S_ 32 1#32),
   StableHlo.unary main_c_5 main_v29 (broadcastInDim S400x1x1 ![] bcast_S_S400x1x1 : (⟨S_, .i32⟩ : BufTy).Contents (Elt F) → (⟨S400x1x1, .i32⟩ : BufTy).Contents (Elt F)),
   StableHlo.binary main_v24 main_v29 main_v30 (addi : (⟨S400x1x1, .i32⟩ : BufTy).Contents (Elt F) → (⟨S400x1x1, .i32⟩ : BufTy).Contents (Elt F) → (⟨S400x1x1, .i32⟩ : BufTy).Contents (Elt F)),
   StableHlo.ternary main_v28 main_v30 main_v24 main_v31 (select : (⟨S400x1x1, .i1⟩ : BufTy).Contents (Elt F) → (⟨S400x1x1, .i32⟩ : BufTy).Contents (Elt F) → (⟨S400x1x1, .i32⟩ : BufTy).Contents (Elt F) → (⟨S400x1x1, .i32⟩ : BufTy).Contents (Elt F)),
   StableHlo.nullary main_c_6 (constantI S_ 32 0#32),
   StableHlo.unary main_c_6 main_v32 (broadcastInDim S400x16x1 ![] bcast_S_S400x16x1 : (⟨S_, .i32⟩ : BufTy).Contents (Elt F) → (⟨S400x16x1, .i32⟩ : BufTy).Contents (Elt F)),
   StableHlo.binary main_v25 main_v32 main_v33 (cmpi .slt : (⟨S400x16x1, .i32⟩ : BufTy).Contents (Elt F) → (⟨S400x16x1, .i32⟩ : BufTy).Contents (Elt F) → (⟨S400x16x1, .i1⟩ : BufTy).Contents (Elt F)),
   StableHlo.nullary main_c_7 (constantI S_ 32 1024#32),
   StableHlo.unary main_c_7 main_v34 (broadcastInDim S400x16x1 ![] bcast_S_S400x16x1 : (⟨S_, .i32⟩ : BufTy).Contents (Elt F) → (⟨S400x16x1, .i32⟩ : BufTy).Contents (Elt F)),
   StableHlo.binary main_v25 main_v34 main_v35 (addi : (⟨S400x16x1, .i32⟩ : BufTy).Contents (Elt F) → (⟨S400x16x1, .i32⟩ : BufTy).Contents (Elt F) → (⟨S400x16x1, .i32⟩ : BufTy).Contents (Elt F)),
   StableHlo.ternary main_v33 main_v35 main_v25 main_v36 (select : (⟨S400x16x1, .i1⟩ : BufTy).Contents (Elt F) → (⟨S400x16x1, .i32⟩ : BufTy).Contents (Elt F) → (⟨S400x16x1, .i32⟩ : BufTy).Contents (Elt F) → (⟨S400x16x1, .i32⟩ : BufTy).Contents (Elt F)),
   StableHlo.nullary main_c_8 (constantI S_ 32 0#32),
   StableHlo.unary main_c_8 main_v37 (broadcastInDim S400x1x16 ![] bcast_S_S400x1x16 : (⟨S_, .i32⟩ : BufTy).Contents (Elt F) → (⟨S400x1x16, .i32⟩ : BufTy).Contents (Elt F)),
   StableHlo.binary main_v26 main_v37 main_v38 (cmpi .slt : (⟨S400x1x16, .i32⟩ : BufTy).Contents (Elt F) → (⟨S400x1x16, .i32⟩ : BufTy).Contents (Elt F) → (⟨S400x1x16, .i1⟩ : BufTy).Contents (Elt F)),
   StableHlo.nullary main_c_9 (constantI S_ 32 1024#32),
   StableHlo.unary main_c_9 main_v39 (broadcastInDim S400x1x16 ![] bcast_S_S400x1x16 : (⟨S_, .i32⟩ : BufTy).Contents (Elt F) → (⟨S400x1x16, .i32⟩ : BufTy).Contents (Elt F)),
   StableHlo.binary main_v26 main_v39 main_v40 (addi : (⟨S400x1x16, .i32⟩ : BufTy).Contents (Elt F) → (⟨S400x1x16, .i32⟩ : BufTy).Contents (Elt F) → (⟨S400x1x16, .i32⟩ : BufTy).Contents (Elt F)),
   StableHlo.ternary main_v38 main_v40 main_v26 main_v41 (select : (⟨S400x1x16, .i1⟩ : BufTy).Contents (Elt F) → (⟨S400x1x16, .i32⟩ : BufTy).Contents (Elt F) → (⟨S400x1x16, .i32⟩ : BufTy).Contents (Elt F) → (⟨S400x1x16, .i32⟩ : BufTy).Contents (Elt F)),
   StableHlo.unary main_v31 main_v42 (broadcastInDim S400x16x16 ![0, 1, 2] bcast_S400x1x1_S400x16x16_0_1_2 : (⟨S400x1x1, .i32⟩ : BufTy).Contents (Elt F) → (⟨S400x16x16, .i32⟩ : BufTy).Contents (Elt F)),
   StableHlo.unary main_v36 main_v43 (broadcastInDim S400x16x16 ![0, 1, 2] bcast_S400x16x1_S400x16x16_0_1_2 : (⟨S400x16x1, .i32⟩ : BufTy).Contents (Elt F) → (⟨S400x16x16, .i32⟩ : BufTy).Contents (Elt F)),
   StableHlo.unary main_v41 main_v44 (broadcastInDim S400x16x16 ![0, 1, 2] bcast_S400x1x16_S400x16x16_0_1_2 : (⟨S400x1x16, .i32⟩ : BufTy).Contents (Elt F) → (⟨S400x16x16, .i32⟩ : BufTy).Contents (Elt F)),
   StableHlo.unary main_v42 main_v45 (broadcastInDim S400x16x16x1 ![0, 1, 2] bcast_S400x16x16_S400x16x16x1_0_1_2 : (⟨S400x16x16, .i32⟩ : BufTy).Contents (Elt F) → (⟨S400x16x16x1, .i32⟩ : BufTy).Contents (Elt F)),
   StableHlo.unary main_v43 main_v46 (broadcastInDim S400x16x16x1 ![0, 1, 2] bcast_S400x16x16_S400x16x16x1_0_1_2 : (⟨S400x16x16, .i32⟩ : BufTy).Contents (Elt F) → (⟨S400x16x16x1, .i32⟩ : BufTy).Contents (Elt F)),
   StableHlo.unary main_v44 main_v47 (broadcastInDim S400x16x16x1 ![0, 1, 2] bcast_S400x16x16_S400x16x16x1_0_1_2 : (⟨S400x16x16, .i32⟩ : BufTy).Contents (Elt F) → (⟨S400x16x16x1, .i32⟩ : BufTy).Contents (Elt F)),
   StableHlo.nary ![main_v45, main_v46, main_v47] main_v48 (fun u => (concatenate S400x16x16x3 3 [⟨S400x16x16x1, (u 0 : (⟨S400x16x16x1, .i32⟩ : BufTy).Contents (Elt F))⟩, ⟨S400x16x16x1, (u 1 : (⟨S400x16x16x1, .i32⟩ : BufTy).Contents (Elt F))⟩, ⟨S400x16x16x1, (u 2 : (⟨S400x16x16x1, .i32⟩ : BufTy).Contents (Elt F))⟩] concatenates_S400x16x16x1_S400x16x16x1_S400x16x16x1_S400x16x16x3_d3 : (⟨S400x16x16x3, .i32⟩ : BufTy).Contents (Elt F)))]
abbrev rOps3_W : List (Ref sig .tc) := [main_v9, main_v10, main_c_2, main_v11, main_v12, main_v13, main_v14, main_v15, main_v16, main_v17, main_c_3, main_v18, main_v19, main_v20, main_v21, main_v22, main_v23, main_v24, main_v25, main_v26, main_c_4, main_v27, main_v28, main_c_5, main_v29, main_v30, main_v31, main_c_6, main_v32, main_v33, main_c_7, main_v34, main_v35, main_v36, main_c_8, main_v37, main_v38, main_c_9, main_v39, main_v40, main_v41, main_v42, main_v43, main_v44, main_v45, main_v46, main_v47, main_v48]
theorem rOps3_writes : (rOps3 : List (HloOp τ sig (Elt F))).Forall fun op => op.writes ⊆ (rOps3_W.map (Proc.devRef (τ := τ) .tc)).toFinset :=
  StableHlo.forall_writes_sub_of_map rfl
theorem rOps3_fresh : (rOps3 : List (HloOp τ sig (Elt F))).Forall fun op => op.fresh = ∅ := by
  simp only [List.Forall]; repeat' constructor
theorem rOps3_sub : (rOps3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

/-- Stretch 4 of the operations. -/
abbrev rOps4 : List (HloOp τ sig (Elt F)) :=
  [StableHlo.binary main_arg0 main_v48 main_v49 ((fun x i => Host.gather gather_S1x1024x1024x32_S400x16x16x3_S400x16x16x32_3_012_n_n_012_3_11132 x i) : (⟨S1x1024x1024x32, .f32⟩ : BufTy).Contents (Elt F) → (⟨S400x16x16x3, .i32⟩ : BufTy).Contents (Elt F) → (⟨S400x16x16x32, .f32⟩ : BufTy).Contents (Elt F)),
   StableHlo.nullary main_c_10 (constantI S_ 32 0#32),
   StableHlo.TRef.unary (.of main_c_10 : StableHlo.TRef sig ⟨S_, .i32⟩) main_call3.v0 (sitofp .f32),
   StableHlo.TRef.binary (.of main_v49 : StableHlo.TRef sig ⟨S400x16x16x32, .f32⟩) main_call3.v0 main_call3.v1 (fun x v => pad S400x18x18x32 ![0, 1, 1, 0] ![0, 1, 1, 0] ![0, 0, 0, 0] x v pads_S400x16x16x32_S400x18x18x32_000_110_110_000 h_S_)]
abbrev rOps4_W : List (Ref sig .tc) := [main_v49, main_c_10, main_call3_v0, main_v50]
theorem rOps4_writes : (rOps4 : List (HloOp τ sig (Elt F))).Forall fun op => op.writes ⊆ (rOps4_W.map (Proc.devRef (τ := τ) .tc)).toFinset :=
  StableHlo.forall_writes_sub_of_map rfl
theorem rOps4_fresh : (rOps4 : List (HloOp τ sig (Elt F))).Forall fun op => op.fresh = ∅ := by
  simp only [List.Forall]; repeat' constructor
theorem rOps4_sub : (rOps4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub ..⟩

/-- Stretch 5 of the operations. -/
abbrev rOps5 : List (HloOp τ sig (Elt F)) :=
  [StableHlo.nullary main_cst (constant S_ .f32 0x00000000#32),
   StableHlo.unary main_cst main_v51 (broadcastInDim S400x16x16x32 ![] bcast_S_S400x16x16x32 : (⟨S_, .f32⟩ : BufTy).Contents (Elt F) → (⟨S400x16x16x32, .f32⟩ : BufTy).Contents (Elt F)),
   StableHlo.unary main_v50 main_v52 ((extractStridedSlice S400x16x16x32 ![0, 0, 0, 0] · slices_S400x18x18x32_S400x16x16x32_0_0_0_0) : (⟨S400x18x18x32, .f32⟩ : BufTy).Contents (Elt F) → (⟨S400x16x16x32, .f32⟩ : BufTy).Contents (Elt F)),
   StableHlo.unary main_arg3 main_v53 ((extractStridedSlice S32x32x1x1 ![0, 0, 0, 0] · slices_S32x32x3x3_S32x32x1x1_0_0_0_0) : (⟨S32x32x3x3, .f32⟩ : BufTy).Contents (Elt F) → (⟨S32x32x1x1, .f32⟩ : BufTy).Contents (Elt F)),
   StableHlo.reshape main_v53 main_v54 (rfl : (.f32 : EltTy) = .f32) shapeCasts_S32x32x1x1_S32x32,
   StableHlo.unary main_v54 main_v55 ((transpose S32x32 [1, 0] · transposes_S32x32_S32x32_1_0) : (⟨S32x32, .f32⟩ : BufTy).Contents (Elt F) → (⟨S32x32, .f32⟩ : BufTy).Contents (Elt F)),
   StableHlo.binary main_v52 main_v55 main_v56 ((fun l r => Host.dotGeneral dot_S400x16x16x32_S32x32_S400x16x16x32_3_0_012_1_n_n none l r) : (⟨S400x16x16x32, .f32⟩ : BufTy).Contents (Elt F) → (⟨S32x32, .f32⟩ : BufTy).Contents (Elt F) → (⟨S400x16x16x32, .f32⟩ : BufTy).Contents (Elt F)),
   StableHlo.binary main_v51 main_v56 main_v57 (addf : (⟨S400x16x16x32, .f32⟩ : BufTy).Contents (Elt F) → (⟨S400x16x16x32, .f32⟩ : BufTy).Contents (Elt F) → (⟨S400x16x16x32, .f32⟩ : BufTy).Contents (Elt F)),
   StableHlo.unary main_v50 main_v58 ((extractStridedSlice S400x16x16x32 ![0, 0, 1, 0] · slices_S400x18x18x32_S400x16x16x32_0_0_1_0) : (⟨S400x18x18x32, .f32⟩ : BufTy).Contents (Elt F) → (⟨S400x16x16x32, .f32⟩ : BufTy).Contents (Elt F)),
   StableHlo.unary main_arg3 main_v59 ((extractStridedSlice S32x32x1x1 ![0, 0, 0, 1] · slices_S32x32x3x3_S32x32x1x1_0_0_0_1) : (⟨S32x32x3x3, .f32⟩ : BufTy).Contents (Elt F) → (⟨S32x32x1x1, .f32⟩ : BufTy).Contents (Elt F)),
   StableHlo.reshape main_v59 main_v60 (rfl : (.f32 : EltTy) = .f32) shapeCasts_S32x32x1x1_S32x32,
   StableHlo.unary main_v60 main_v61 ((transpose S32x32 [1, 0] · transposes_S32x32_S32x32_1_0) : (⟨S32x32, .f32⟩ : BufTy).Contents (Elt F) → (⟨S32x32, .f32⟩ : BufTy).Contents (Elt F)),
   StableHlo.binary main_v58 main_v61 main_v62 ((fun l r => Host.dotGeneral dot_S400x16x16x32_S32x32_S400x16x16x32_3_0_012_1_n_n none l r) : (⟨S400x16x16x32, .f32⟩ : BufTy).Contents (Elt F) → (⟨S32x32, .f32⟩ : BufTy).Contents (Elt F) → (⟨S400x16x16x32, .f32⟩ : BufTy).Contents (Elt F)),
   StableHlo.binary main_v57 main_v62 main_v63 (addf : (⟨S400x16x16x32, .f32⟩ : BufTy).Contents (Elt F) → (⟨S400x16x16x32, .f32⟩ : BufTy).Contents (Elt F) → (⟨S400x16x16x32, .f32⟩ : BufTy).Contents (Elt F)),
   StableHlo.unary main_v50 main_v64 ((extractStridedSlice S400x16x16x32 ![0, 0, 2, 0] · slices_S400x18x18x32_S400x16x16x32_0_0_2_0) : (⟨S400x18x18x32, .f32⟩ : BufTy).Contents (Elt F) → (⟨S400x16x16x32, .f32⟩ : BufTy).Contents (Elt F)),
   StableHlo.unary main_arg3 main_v65 ((extractStridedSlice S32x32x1x1 ![0, 0, 0, 2] · slices_S32x32x3x3_S32x32x1x1_0_0_0_2) : (⟨S32x32x3x3, .f32⟩ : BufTy).Contents (Elt F) → (⟨S32x32x1x1, .f32⟩ : BufTy).Contents (Elt F)),
   StableHlo.reshape main_v65 main_v66 (rfl : (.f32 : EltTy) = .f32) shapeCasts_S32x32x1x1_S32x32,
   StableHlo.unary main_v66 main_v67 ((transpose S32x32 [1, 0] · transposes_S32x32_S32x32_1_0) : (⟨S32x32, .f32⟩ : BufTy).Contents (Elt F) → (⟨S32x32, .f32⟩ : BufTy).Contents (Elt F)),
   StableHlo.binary main_v64 main_v67 main_v68 ((fun l r => Host.dotGeneral dot_S400x16x16x32_S32x32_S400x16x16x32_3_0_012_1_n_n none l r) : (⟨S400x16x16x32, .f32⟩ : BufTy).Contents (Elt F) → (⟨S32x32, .f32⟩ : BufTy).Contents (Elt F) → (⟨S400x16x16x32, .f32⟩ : BufTy).Contents (Elt F)),
   StableHlo.binary main_v63 main_v68 main_v69 (addf : (⟨S400x16x16x32, .f32⟩ : BufTy).Contents (Elt F) → (⟨S400x16x16x32, .f32⟩ : BufTy).Contents (Elt F) → (⟨S400x16x16x32, .f32⟩ : BufTy).Contents (Elt F)),
   StableHlo.unary main_v50 main_v70 ((extractStridedSlice S400x16x16x32 ![0, 1, 0, 0] · slices_S400x18x18x32_S400x16x16x32_0_1_0_0) : (⟨S400x18x18x32, .f32⟩ : BufTy).Contents (Elt F) → (⟨S400x16x16x32, .f32⟩ : BufTy).Contents (Elt F)),
   StableHlo.unary main_arg3 main_v71 ((extractStridedSlice S32x32x1x1 ![0, 0, 1, 0] · slices_S32x32x3x3_S32x32x1x1_0_0_1_0) : (⟨S32x32x3x3, .f32⟩ : BufTy).Contents (Elt F) → (⟨S32x32x1x1, .f32⟩ : BufTy).Contents (Elt F)),
   StableHlo.reshape main_v71 main_v72 (rfl : (.f32 : EltTy) = .f32) shapeCasts_S32x32x1x1_S32x32,
   StableHlo.unary main_v72 main_v73 ((transpose S32x32 [1, 0] · transposes_S32x32_S32x32_1_0) : (⟨S32x32, .f32⟩ : BufTy).Contents (Elt F) → (⟨S32x32, .f32⟩ : BufTy).Contents (Elt F)),
   StableHlo.binary main_v70 main_v73 main_v74 ((fun l r => Host.dotGeneral dot_S400x16x16x32_S32x32_S400x16x16x32_3_0_012_1_n_n none l r) : (⟨S400x16x16x32, .f32⟩ : BufTy).Contents (Elt F) → (⟨S32x32, .f32⟩ : BufTy).Contents (Elt F) → (⟨S400x16x16x32, .f32⟩ : BufTy).Contents (Elt F)),
   StableHlo.binary main_v69 main_v74 main_v75 (addf : (⟨S400x16x16x32, .f32⟩ : BufTy).Contents (Elt F) → (⟨S400x16x16x32, .f32⟩ : BufTy).Contents (Elt F) → (⟨S400x16x16x32, .f32⟩ : BufTy).Contents (Elt F)),
   StableHlo.unary main_v50 main_v76 ((extractStridedSlice S400x16x16x32 ![0, 1, 1, 0] · slices_S400x18x18x32_S400x16x16x32_0_1_1_0) : (⟨S400x18x18x32, .f32⟩ : BufTy).Contents (Elt F) → (⟨S400x16x16x32, .f32⟩ : BufTy).Contents (Elt F)),
   StableHlo.unary main_arg3 main_v77 ((extractStridedSlice S32x32x1x1 ![0, 0, 1, 1] · slices_S32x32x3x3_S32x32x1x1_0_0_1_1) : (⟨S32x32x3x3, .f32⟩ : BufTy).Contents (Elt F) → (⟨S32x32x1x1, .f32⟩ : BufTy).Contents (Elt F)),
   StableHlo.reshape main_v77 main_v78 (rfl : (.f32 : EltTy) = .f32) shapeCasts_S32x32x1x1_S32x32,
   StableHlo.unary main_v78 main_v79 ((transpose S32x32 [1, 0] · transposes_S32x32_S32x32_1_0) : (⟨S32x32, .f32⟩ : BufTy).Contents (Elt F) → (⟨S32x32, .f32⟩ : BufTy).Contents (Elt F)),
   StableHlo.binary main_v76 main_v79 main_v80 ((fun l r => Host.dotGeneral dot_S400x16x16x32_S32x32_S400x16x16x32_3_0_012_1_n_n none l r) : (⟨S400x16x16x32, .f32⟩ : BufTy).Contents (Elt F) → (⟨S32x32, .f32⟩ : BufTy).Contents (Elt F) → (⟨S400x16x16x32, .f32⟩ : BufTy).Contents (Elt F)),
   StableHlo.binary main_v75 main_v80 main_v81 (addf : (⟨S400x16x16x32, .f32⟩ : BufTy).Contents (Elt F) → (⟨S400x16x16x32, .f32⟩ : BufTy).Contents (Elt F) → (⟨S400x16x16x32, .f32⟩ : BufTy).Contents (Elt F)),
   StableHlo.unary main_v50 main_v82 ((extractStridedSlice S400x16x16x32 ![0, 1, 2, 0] · slices_S400x18x18x32_S400x16x16x32_0_1_2_0) : (⟨S400x18x18x32, .f32⟩ : BufTy).Contents (Elt F) → (⟨S400x16x16x32, .f32⟩ : BufTy).Contents (Elt F)),
   StableHlo.unary main_arg3 main_v83 ((extractStridedSlice S32x32x1x1 ![0, 0, 1, 2] · slices_S32x32x3x3_S32x32x1x1_0_0_1_2) : (⟨S32x32x3x3, .f32⟩ : BufTy).Contents (Elt F) → (⟨S32x32x1x1, .f32⟩ : BufTy).Contents (Elt F)),
   StableHlo.reshape main_v83 main_v84 (rfl : (.f32 : EltTy) = .f32) shapeCasts_S32x32x1x1_S32x32,
   StableHlo.unary main_v84 main_v85 ((transpose S32x32 [1, 0] · transposes_S32x32_S32x32_1_0) : (⟨S32x32, .f32⟩ : BufTy).Contents (Elt F) → (⟨S32x32, .f32⟩ : BufTy).Contents (Elt F)),
   StableHlo.binary main_v82 main_v85 main_v86 ((fun l r => Host.dotGeneral dot_S400x16x16x32_S32x32_S400x16x16x32_3_0_012_1_n_n none l r) : (⟨S400x16x16x32, .f32⟩ : BufTy).Contents (Elt F) → (⟨S32x32, .f32⟩ : BufTy).Contents (Elt F) → (⟨S400x16x16x32, .f32⟩ : BufTy).Contents (Elt F)),
   StableHlo.binary main_v81 main_v86 main_v87 (addf : (⟨S400x16x16x32, .f32⟩ : BufTy).Contents (Elt F) → (⟨S400x16x16x32, .f32⟩ : BufTy).Contents (Elt F) → (⟨S400x16x16x32, .f32⟩ : BufTy).Contents (Elt F)),
   StableHlo.unary main_v50 main_v88 ((extractStridedSlice S400x16x16x32 ![0, 2, 0, 0] · slices_S400x18x18x32_S400x16x16x32_0_2_0_0) : (⟨S400x18x18x32, .f32⟩ : BufTy).Contents (Elt F) → (⟨S400x16x16x32, .f32⟩ : BufTy).Contents (Elt F)),
   StableHlo.unary main_arg3 main_v89 ((extractStridedSlice S32x32x1x1 ![0, 0, 2, 0] · slices_S32x32x3x3_S32x32x1x1_0_0_2_0) : (⟨S32x32x3x3, .f32⟩ : BufTy).Contents (Elt F) → (⟨S32x32x1x1, .f32⟩ : BufTy).Contents (Elt F)),
   StableHlo.reshape main_v89 main_v90 (rfl : (.f32 : EltTy) = .f32) shapeCasts_S32x32x1x1_S32x32,
   StableHlo.unary main_v90 main_v91 ((transpose S32x32 [1, 0] · transposes_S32x32_S32x32_1_0) : (⟨S32x32, .f32⟩ : BufTy).Contents (Elt F) → (⟨S32x32, .f32⟩ : BufTy).Contents (Elt F)),
   StableHlo.binary main_v88 main_v91 main_v92 ((fun l r => Host.dotGeneral dot_S400x16x16x32_S32x32_S400x16x16x32_3_0_012_1_n_n none l r) : (⟨S400x16x16x32, .f32⟩ : BufTy).Contents (Elt F) → (⟨S32x32, .f32⟩ : BufTy).Contents (Elt F) → (⟨S400x16x16x32, .f32⟩ : BufTy).Contents (Elt F)),
   StableHlo.binary main_v87 main_v92 main_v93 (addf : (⟨S400x16x16x32, .f32⟩ : BufTy).Contents (Elt F) → (⟨S400x16x16x32, .f32⟩ : BufTy).Contents (Elt F) → (⟨S400x16x16x32, .f32⟩ : BufTy).Contents (Elt F)),
   StableHlo.unary main_v50 main_v94 ((extractStridedSlice S400x16x16x32 ![0, 2, 1, 0] · slices_S400x18x18x32_S400x16x16x32_0_2_1_0) : (⟨S400x18x18x32, .f32⟩ : BufTy).Contents (Elt F) → (⟨S400x16x16x32, .f32⟩ : BufTy).Contents (Elt F)),
   StableHlo.unary main_arg3 main_v95 ((extractStridedSlice S32x32x1x1 ![0, 0, 2, 1] · slices_S32x32x3x3_S32x32x1x1_0_0_2_1) : (⟨S32x32x3x3, .f32⟩ : BufTy).Contents (Elt F) → (⟨S32x32x1x1, .f32⟩ : BufTy).Contents (Elt F)),
   StableHlo.reshape main_v95 main_v96 (rfl : (.f32 : EltTy) = .f32) shapeCasts_S32x32x1x1_S32x32,
   StableHlo.unary main_v96 main_v97 ((transpose S32x32 [1, 0] · transposes_S32x32_S32x32_1_0) : (⟨S32x32, .f32⟩ : BufTy).Contents (Elt F) → (⟨S32x32, .f32⟩ : BufTy).Contents (Elt F)),
   StableHlo.binary main_v94 main_v97 main_v98 ((fun l r => Host.dotGeneral dot_S400x16x16x32_S32x32_S400x16x16x32_3_0_012_1_n_n none l r) : (⟨S400x16x16x32, .f32⟩ : BufTy).Contents (Elt F) → (⟨S32x32, .f32⟩ : BufTy).Contents (Elt F) → (⟨S400x16x16x32, .f32⟩ : BufTy).Contents (Elt F)),
   StableHlo.binary main_v93 main_v98 main_v99 (addf : (⟨S400x16x16x32, .f32⟩ : BufTy).Contents (Elt F) → (⟨S400x16x16x32, .f32⟩ : BufTy).Contents (Elt F) → (⟨S400x16x16x32, .f32⟩ : BufTy).Contents (Elt F)),
   StableHlo.unary main_v50 main_v100 ((extractStridedSlice S400x16x16x32 ![0, 2, 2, 0] · slices_S400x18x18x32_S400x16x16x32_0_2_2_0) : (⟨S400x18x18x32, .f32⟩ : BufTy).Contents (Elt F) → (⟨S400x16x16x32, .f32⟩ : BufTy).Contents (Elt F)),
   StableHlo.unary main_arg3 main_v101 ((extractStridedSlice S32x32x1x1 ![0, 0, 2, 2] · slices_S32x32x3x3_S32x32x1x1_0_0_2_2) : (⟨S32x32x3x3, .f32⟩ : BufTy).Contents (Elt F) → (⟨S32x32x1x1, .f32⟩ : BufTy).Contents (Elt F)),
   StableHlo.reshape main_v101 main_v102 (rfl : (.f32 : EltTy) = .f32) shapeCasts_S32x32x1x1_S32x32,
   StableHlo.unary main_v102 main_v103 ((transpose S32x32 [1, 0] · transposes_S32x32_S32x32_1_0) : (⟨S32x32, .f32⟩ : BufTy).Contents (Elt F) → (⟨S32x32, .f32⟩ : BufTy).Contents (Elt F)),
   StableHlo.binary main_v100 main_v103 main_v104 ((fun l r => Host.dotGeneral dot_S400x16x16x32_S32x32_S400x16x16x32_3_0_012_1_n_n none l r) : (⟨S400x16x16x32, .f32⟩ : BufTy).Contents (Elt F) → (⟨S32x32, .f32⟩ : BufTy).Contents (Elt F) → (⟨S400x16x16x32, .f32⟩ : BufTy).Contents (Elt F)),
   StableHlo.binary main_v99 main_v104 main_v105 (addf : (⟨S400x16x16x32, .f32⟩ : BufTy).Contents (Elt F) → (⟨S400x16x16x32, .f32⟩ : BufTy).Contents (Elt F) → (⟨S400x16x16x32, .f32⟩ : BufTy).Contents (Elt F))]
abbrev rOps5_W : List (Ref sig .tc) := [main_cst, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105]
theorem rOps5_writes : (rOps5 : List (HloOp τ sig (Elt F))).Forall fun op => op.writes ⊆ (rOps5_W.map (Proc.devRef (τ := τ) .tc)).toFinset :=
  StableHlo.forall_writes_sub_of_map rfl
theorem rOps5_fresh : (rOps5 : List (HloOp τ sig (Elt F))).Forall fun op => op.fresh = ∅ := by
  simp only [List.Forall]; repeat' constructor
theorem rOps5_sub : (rOps5 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub ..⟩

/-- Stretch 6 of the operations. -/
abbrev rOps6 : List (HloOp τ sig (Elt F)) :=
  [StableHlo.unary main_arg4 main_v106 (broadcastInDim S1x1x1x32 ![3] bcast_S32_S1x1x1x32_3 : (⟨S32, .f32⟩ : BufTy).Contents (Elt F) → (⟨S1x1x1x32, .f32⟩ : BufTy).Contents (Elt F)),
   StableHlo.unary main_v106 main_v107 (broadcastInDim S400x16x16x32 ![0, 1, 2, 3] bcast_S1x1x1x32_S400x16x16x32_0_1_2_3 : (⟨S1x1x1x32, .f32⟩ : BufTy).Contents (Elt F) → (⟨S400x16x16x32, .f32⟩ : BufTy).Contents (Elt F)),
   StableHlo.binary main_v105 main_v107 main_v108 (addf : (⟨S400x16x16x32, .f32⟩ : BufTy).Contents (Elt F) → (⟨S400x16x16x32, .f32⟩ : BufTy).Contents (Elt F) → (⟨S400x16x16x32, .f32⟩ : BufTy).Contents (Elt F)),
   StableHlo.nullary main_cst_11 (constant S_ .f32 0x3A83126F#32),
   StableHlo.unary main_cst_11 main_v109 (broadcastInDim S32 ![] bcast_S_S32 : (⟨S_, .f32⟩ : BufTy).Contents (Elt F) → (⟨S32, .f32⟩ : BufTy).Contents (Elt F)),
   StableHlo.binary main_arg8 main_v109 main_v110 (addf : (⟨S32, .f32⟩ : BufTy).Contents (Elt F) → (⟨S32, .f32⟩ : BufTy).Contents (Elt F) → (⟨S32, .f32⟩ : BufTy).Contents (Elt F)),
   StableHlo.unary main_v110 main_v111 (Host.rsqrt : (⟨S32, .f32⟩ : BufTy).Contents (Elt F) → (⟨S32, .f32⟩ : BufTy).Contents (Elt F)),
   StableHlo.unary main_arg7 main_v112 (broadcastInDim S1x1x1x32 ![3] bcast_S32_S1x1x1x32_3 : (⟨S32, .f32⟩ : BufTy).Contents (Elt F) → (⟨S1x1x1x32, .f32⟩ : BufTy).Contents (Elt F)),
   StableHlo.unary main_v112 main_v113 (broadcastInDim S400x16x16x32 ![0, 1, 2, 3] bcast_S1x1x1x32_S400x16x16x32_0_1_2_3 : (⟨S1x1x1x32, .f32⟩ : BufTy).Contents (Elt F) → (⟨S400x16x16x32, .f32⟩ : BufTy).Contents (Elt F)),
   StableHlo.binary main_v108 main_v113 main_v114 (subf : (⟨S400x16x16x32, .f32⟩ : BufTy).Contents (Elt F) → (⟨S400x16x16x32, .f32⟩ : BufTy).Contents (Elt F) → (⟨S400x16x16x32, .f32⟩ : BufTy).Contents (Elt F)),
   StableHlo.binary main_v111 main_arg5 main_v115 (mulf : (⟨S32, .f32⟩ : BufTy).Contents (Elt F) → (⟨S32, .f32⟩ : BufTy).Contents (Elt F) → (⟨S32, .f32⟩ : BufTy).Contents (Elt F)),
   StableHlo.unary main_v115 main_v116 (broadcastInDim S1x1x1x32 ![3] bcast_S32_S1x1x1x32_3 : (⟨S32, .f32⟩ : BufTy).Contents (Elt F) → (⟨S1x1x1x32, .f32⟩ : BufTy).Contents (Elt F)),
   StableHlo.unary main_v116 main_v117 (broadcastInDim S400x16x16x32 ![0, 1, 2, 3] bcast_S1x1x1x32_S400x16x16x32_0_1_2_3 : (⟨S1x1x1x32, .f32⟩ : BufTy).Contents (Elt F) → (⟨S400x16x16x32, .f32⟩ : BufTy).Contents (Elt F)),
   StableHlo.binary main_v114 main_v117 main_v118 (mulf : (⟨S400x16x16x32, .f32⟩ : BufTy).Contents (Elt F) → (⟨S400x16x16x32, .f32⟩ : BufTy).Contents (Elt F) → (⟨S400x16x16x32, .f32⟩ : BufTy).Contents (Elt F)),
   StableHlo.unary main_arg6 main_v119 (broadcastInDim S1x1x1x32 ![3] bcast_S32_S1x1x1x32_3 : (⟨S32, .f32⟩ : BufTy).Contents (Elt F) → (⟨S1x1x1x32, .f32⟩ : BufTy).Contents (Elt F)),
   StableHlo.unary main_v119 main_v120 (broadcastInDim S400x16x16x32 ![0, 1, 2, 3] bcast_S1x1x1x32_S400x16x16x32_0_1_2_3 : (⟨S1x1x1x32, .f32⟩ : BufTy).Contents (Elt F) → (⟨S400x16x16x32, .f32⟩ : BufTy).Contents (Elt F)),
   StableHlo.binary main_v118 main_v120 main_v121 (addf : (⟨S400x16x16x32, .f32⟩ : BufTy).Contents (Elt F) → (⟨S400x16x16x32, .f32⟩ : BufTy).Contents (Elt F) → (⟨S400x16x16x32, .f32⟩ : BufTy).Contents (Elt F)),
   StableHlo.nullary main_cst_12 (constant S_ .f32 0x00000000#32),
   StableHlo.unary main_cst_12 main_v122 (broadcastInDim S400x16x16x32 ![] bcast_S_S400x16x16x32 : (⟨S_, .f32⟩ : BufTy).Contents (Elt F) → (⟨S400x16x16x32, .f32⟩ : BufTy).Contents (Elt F)),
   StableHlo.binary main_v121 main_v122 main_v123 (maximumf : (⟨S400x16x16x32, .f32⟩ : BufTy).Contents (Elt F) → (⟨S400x16x16x32, .f32⟩ : BufTy).Contents (Elt F) → (⟨S400x16x16x32, .f32⟩ : BufTy).Contents (Elt F))]
abbrev rOps6_W : List (Ref sig .tc) := [main_v106, main_v107, main_v108, main_cst_11, main_v109, main_v110, main_v111, main_v112, main_v113, main_v114, main_v115, main_v116, main_v117, main_v118, main_v119, main_v120, main_v121, main_cst_12, main_v122, main_v123]
theorem rOps6_writes : (rOps6 : List (HloOp τ sig (Elt F))).Forall fun op => op.writes ⊆ (rOps6_W.map (Proc.devRef (τ := τ) .tc)).toFinset :=
  StableHlo.forall_writes_sub_of_map rfl
theorem rOps6_fresh : (rOps6 : List (HloOp τ sig (Elt F))).Forall fun op => op.fresh = ∅ := by
  simp only [List.Forall]; repeat' constructor
theorem rOps6_sub : (rOps6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Stretch 7 of the operations. -/
abbrev rOps7 : List (HloOp τ sig (Elt F)) :=
  [StableHlo.unary main_v2 main_v124 (broadcastInDim S400x1x1 ![0] bcast_S400_S400x1x1_0 : (⟨S400, .i32⟩ : BufTy).Contents (Elt F) → (⟨S400x1x1, .i32⟩ : BufTy).Contents (Elt F)),
   StableHlo.unary main_v16 main_v125 (broadcastInDim S400x16x1 ![0, 1] bcast_S400x16_S400x16x1_0_1 : (⟨S400x16, .i32⟩ : BufTy).Contents (Elt F) → (⟨S400x16x1, .i32⟩ : BufTy).Contents (Elt F)),
   StableHlo.unary main_v23 main_v126 (broadcastInDim S400x1x16 ![0, 2] bcast_S400x16_S400x1x16_0_2 : (⟨S400x16, .i32⟩ : BufTy).Contents (Elt F) → (⟨S400x1x16, .i32⟩ : BufTy).Contents (Elt F)),
   StableHlo.nullary main_c_13 (constantI S_ 32 0#32),
   StableHlo.unary main_c_13 main_v127 (broadcastInDim S400x1x1 ![] bcast_S_S400x1x1 : (⟨S_, .i32⟩ : BufTy).Contents (Elt F) → (⟨S400x1x1, .i32⟩ : BufTy).Contents (Elt F)),
   StableHlo.binary main_v124 main_v127 main_v128 (cmpi .slt : (⟨S400x1x1, .i32⟩ : BufTy).Contents (Elt F) → (⟨S400x1x1, .i32⟩ : BufTy).Contents (Elt F) → (⟨S400x1x1, .i1⟩ : BufTy).Contents (Elt F)),
   StableHlo.nullary main_c_14 (constantI S_ 32 1#32),
   StableHlo.unary main_c_14 main_v129 (broadcastInDim S400x1x1 ![] bcast_S_S400x1x1 : (⟨S_, .i32⟩ : BufTy).Contents (Elt F) → (⟨S400x1x1, .i32⟩ : BufTy).Contents (Elt F)),
   StableHlo.binary main_v124 main_v129 main_v130 (addi : (⟨S400x1x1, .i32⟩ : BufTy).Contents (Elt F) → (⟨S400x1x1, .i32⟩ : BufTy).Contents (Elt F) → (⟨S400x1x1, .i32⟩ : BufTy).Contents (Elt F)),
   StableHlo.ternary main_v128 main_v130 main_v124 main_v131 (select : (⟨S400x1x1, .i1⟩ : BufTy).Contents (Elt F) → (⟨S400x1x1, .i32⟩ : BufTy).Contents (Elt F) → (⟨S400x1x1, .i32⟩ : BufTy).Contents (Elt F) → (⟨S400x1x1, .i32⟩ : BufTy).Contents (Elt F)),
   StableHlo.nullary main_c_15 (constantI S_ 32 0#32),
   StableHlo.unary main_c_15 main_v132 (broadcastInDim S400x16x1 ![] bcast_S_S400x16x1 : (⟨S_, .i32⟩ : BufTy).Contents (Elt F) → (⟨S400x16x1, .i32⟩ : BufTy).Contents (Elt F)),
   StableHlo.binary main_v125 main_v132 main_v133 (cmpi .slt : (⟨S400x16x1, .i32⟩ : BufTy).Contents (Elt F) → (⟨S400x16x1, .i32⟩ : BufTy).Contents (Elt F) → (⟨S400x16x1, .i1⟩ : BufTy).Contents (Elt F)),
   StableHlo.nullary main_c_16 (constantI S_ 32 1024#32),
   StableHlo.unary main_c_16 main_v134 (broadcastInDim S400x16x1 ![] bcast_S_S400x16x1 : (⟨S_, .i32⟩ : BufTy).Contents (Elt F) → (⟨S400x16x1, .i32⟩ : BufTy).Contents (Elt F)),
   StableHlo.binary main_v125 main_v134 main_v135 (addi : (⟨S400x16x1, .i32⟩ : BufTy).Contents (Elt F) → (⟨S400x16x1, .i32⟩ : BufTy).Contents (Elt F) → (⟨S400x16x1, .i32⟩ : BufTy).Contents (Elt F)),
   StableHlo.ternary main_v133 main_v135 main_v125 main_v136 (select : (⟨S400x16x1, .i1⟩ : BufTy).Contents (Elt F) → (⟨S400x16x1, .i32⟩ : BufTy).Contents (Elt F) → (⟨S400x16x1, .i32⟩ : BufTy).Contents (Elt F) → (⟨S400x16x1, .i32⟩ : BufTy).Contents (Elt F)),
   StableHlo.nullary main_c_17 (constantI S_ 32 0#32),
   StableHlo.unary main_c_17 main_v137 (broadcastInDim S400x1x16 ![] bcast_S_S400x1x16 : (⟨S_, .i32⟩ : BufTy).Contents (Elt F) → (⟨S400x1x16, .i32⟩ : BufTy).Contents (Elt F)),
   StableHlo.binary main_v126 main_v137 main_v138 (cmpi .slt : (⟨S400x1x16, .i32⟩ : BufTy).Contents (Elt F) → (⟨S400x1x16, .i32⟩ : BufTy).Contents (Elt F) → (⟨S400x1x16, .i1⟩ : BufTy).Contents (Elt F)),
   StableHlo.nullary main_c_18 (constantI S_ 32 1024#32),
   StableHlo.unary main_c_18 main_v139 (broadcastInDim S400x1x16 ![] bcast_S_S400x1x16 : (⟨S_, .i32⟩ : BufTy).Contents (Elt F) → (⟨S400x1x16, .i32⟩ : BufTy).Contents (Elt F)),
   StableHlo.binary main_v126 main_v139 main_v140 (addi : (⟨S400x1x16, .i32⟩ : BufTy).Contents (Elt F) → (⟨S400x1x16, .i32⟩ : BufTy).Contents (Elt F) → (⟨S400x1x16, .i32⟩ : BufTy).Contents (Elt F)),
   StableHlo.ternary main_v138 main_v140 main_v126 main_v141 (select : (⟨S400x1x16, .i1⟩ : BufTy).Contents (Elt F) → (⟨S400x1x16, .i32⟩ : BufTy).Contents (Elt F) → (⟨S400x1x16, .i32⟩ : BufTy).Contents (Elt F) → (⟨S400x1x16, .i32⟩ : BufTy).Contents (Elt F)),
   StableHlo.unary main_v131 main_v142 (broadcastInDim S400x16x16 ![0, 1, 2] bcast_S400x1x1_S400x16x16_0_1_2 : (⟨S400x1x1, .i32⟩ : BufTy).Contents (Elt F) → (⟨S400x16x16, .i32⟩ : BufTy).Contents (Elt F)),
   StableHlo.unary main_v136 main_v143 (broadcastInDim S400x16x16 ![0, 1, 2] bcast_S400x16x1_S400x16x16_0_1_2 : (⟨S400x16x1, .i32⟩ : BufTy).Contents (Elt F) → (⟨S400x16x16, .i32⟩ : BufTy).Contents (Elt F)),
   StableHlo.unary main_v141 main_v144 (broadcastInDim S400x16x16 ![0, 1, 2] bcast_S400x1x16_S400x16x16_0_1_2 : (⟨S400x1x16, .i32⟩ : BufTy).Contents (Elt F) → (⟨S400x16x16, .i32⟩ : BufTy).Contents (Elt F)),
   StableHlo.unary main_v142 main_v145 (broadcastInDim S400x16x16x1 ![0, 1, 2] bcast_S400x16x16_S400x16x16x1_0_1_2 : (⟨S400x16x16, .i32⟩ : BufTy).Contents (Elt F) → (⟨S400x16x16x1, .i32⟩ : BufTy).Contents (Elt F)),
   StableHlo.unary main_v143 main_v146 (broadcastInDim S400x16x16x1 ![0, 1, 2] bcast_S400x16x16_S400x16x16x1_0_1_2 : (⟨S400x16x16, .i32⟩ : BufTy).Contents (Elt F) → (⟨S400x16x16x1, .i32⟩ : BufTy).Contents (Elt F)),
   StableHlo.unary main_v144 main_v147 (broadcastInDim S400x16x16x1 ![0, 1, 2] bcast_S400x16x16_S400x16x16x1_0_1_2 : (⟨S400x16x16, .i32⟩ : BufTy).Contents (Elt F) → (⟨S400x16x16x1, .i32⟩ : BufTy).Contents (Elt F)),
   StableHlo.nary ![main_v145, main_v146, main_v147] main_v148 (fun u => (concatenate S400x16x16x3 3 [⟨S400x16x16x1, (u 0 : (⟨S400x16x16x1, .i32⟩ : BufTy).Contents (Elt F))⟩, ⟨S400x16x16x1, (u 1 : (⟨S400x16x16x1, .i32⟩ : BufTy).Contents (Elt F))⟩, ⟨S400x16x16x1, (u 2 : (⟨S400x16x16x1, .i32⟩ : BufTy).Contents (Elt F))⟩] concatenates_S400x16x16x1_S400x16x16x1_S400x16x16x1_S400x16x16x3_d3 : (⟨S400x16x16x3, .i32⟩ : BufTy).Contents (Elt F)))]
abbrev rOps7_W : List (Ref sig .tc) := [main_v124, main_v125, main_v126, main_c_13, main_v127, main_v128, main_c_14, main_v129, main_v130, main_v131, main_c_15, main_v132, main_v133, main_c_16, main_v134, main_v135, main_v136, main_c_17, main_v137, main_v138, main_c_18, main_v139, main_v140, main_v141, main_v142, main_v143, main_v144, main_v145, main_v146, main_v147, main_v148]
theorem rOps7_writes : (rOps7 : List (HloOp τ sig (Elt F))).Forall fun op => op.writes ⊆ (rOps7_W.map (Proc.devRef (τ := τ) .tc)).toFinset :=
  StableHlo.forall_writes_sub_of_map rfl
theorem rOps7_fresh : (rOps7 : List (HloOp τ sig (Elt F))).Forall fun op => op.fresh = ∅ := by
  simp only [List.Forall]; repeat' constructor
theorem rOps7_sub : (rOps7 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

/-- Stretch 8 of the operations. -/
abbrev rOps8 : List (HloOp τ sig (Elt F)) :=
  [StableHlo.ternary main_arg0 main_v148 main_v123 main_v149 ((fun x i u => Host.scatter scatter_S1x1024x1024x32_S400x16x16x3_S400x16x16x32_3_012_012_3 (fun _ b => b) x i u) : (⟨S1x1024x1024x32, .f32⟩ : BufTy).Contents (Elt F) → (⟨S400x16x16x3, .i32⟩ : BufTy).Contents (Elt F) → (⟨S400x16x16x32, .f32⟩ : BufTy).Contents (Elt F) → (⟨S1x1024x1024x32, .f32⟩ : BufTy).Contents (Elt F))]
abbrev rOps8_W : List (Ref sig .tc) := [main_v149]
theorem rOps8_writes : (rOps8 : List (HloOp τ sig (Elt F))).Forall fun op => op.writes ⊆ (rOps8_W.map (Proc.devRef (τ := τ) .tc)).toFinset :=
  StableHlo.forall_writes_sub_of_map rfl
theorem rOps8_fresh : (rOps8 : List (HloOp τ sig (Elt F))).Forall fun op => op.fresh = ∅ := by
  simp only [List.Forall]; repeat' constructor
theorem rOps8_sub : (rOps8 : List (HloOp τ sig (Elt F))).Forall fun op => op.bufs ⊆ StableHlo.tcRefs τ sig :=
  StableHlo.ternary_bufs_sub ..

/-- All operations of the reference. -/
abbrev rOps : List (HloOp τ sig (Elt F)) := rOps0 ++ (rOps1 ++ (rOps2 ++ (rOps3 ++ (rOps4 ++ (rOps5 ++ (rOps6 ++ (rOps7 ++ (rOps8))))))))

theorem rOps_seq (d : Dev nD) : StableHlo.IsSeq (main (F := F) d) rOps := by
  hlo_seq

theorem forall_app {α : Type _} {P : α → Prop} {l l' : List α} (h : l.Forall P) (h' : l'.Forall P) : (l ++ l').Forall P := by
  rw [List.forall_iff_forall_mem] at *
  intro x hx
  rcases List.mem_append.1 hx with h1 | h1
  · exact h x h1
  · exact h' x h1

theorem after_app (a b : List (HloOp τ sig (Elt F))) (V : Valuation τ sig (Elt F)) : after (a ++ b) V = after b (after a V) := by
  induction a generalizing V with
  | nil => rfl
  | cons o a ih => exact ih _

variable (m : (ℓ : Loc nD τ sig) → Buf (Elt F) ℓ)

abbrev R0 (c : Dev nD) : Valuation τ sig (Elt F) := after rOps0 (StableHlo.launchContents m c)
abbrev R1 (c : Dev nD) : Valuation τ sig (Elt F) := after rOps1 (R0 m c)
abbrev R2 (c : Dev nD) : Valuation τ sig (Elt F) := after rOps2 (R1 m c)
abbrev R3 (c : Dev nD) : Valuation τ sig (Elt F) := after rOps3 (R2 m c)
abbrev R4 (c : Dev nD) : Valuation τ sig (Elt F) := after rOps4 (R3 m c)
abbrev R5 (c : Dev nD) : Valuation τ sig (Elt F) := after rOps5 (R4 m c)
abbrev R6 (c : Dev nD) : Valuation τ sig (Elt F) := after rOps6 (R5 m c)
abbrev R7 (c : Dev nD) : Valuation τ sig (Elt F) := after rOps7 (R6 m c)
abbrev R8 (c : Dev nD) : Valuation τ sig (Elt F) := after rOps8 (R7 m c)

theorem R0_of (c : Dev nD) (r : Ref sig .tc) (h : r ∉ rOps0_W) : R0 m c r = m ((c : Thread nD τ).loc r) :=
  StableHlo.after_of_writes_sub rOps0 _ rOps0_writes h
theorem R1_of (c : Dev nD) (r : Ref sig .tc) (h : r ∉ rOps1_W) : R1 m c r = R0 m c r :=
  StableHlo.after_of_writes_sub rOps1 _ rOps1_writes h
theorem R2_of (c : Dev nD) (r : Ref sig .tc) (h : r ∉ rOps2_W) : R2 m c r = R1 m c r :=
  StableHlo.after_of_writes_sub rOps2 _ rOps2_writes h
theorem R3_of (c : Dev nD) (r : Ref sig .tc) (h : r ∉ rOps3_W) : R3 m c r = R2 m c r :=
  StableHlo.after_of_writes_sub rOps3 _ rOps3_writes h
theorem R4_of (c : Dev nD) (r : Ref sig .tc) (h : r ∉ rOps4_W) : R4 m c r = R3 m c r :=
  StableHlo.after_of_writes_sub rOps4 _ rOps4_writes h
theorem R5_of (c : Dev nD) (r : Ref sig .tc) (h : r ∉ rOps5_W) : R5 m c r = R4 m c r :=
  StableHlo.after_of_writes_sub rOps5 _ rOps5_writes h
theorem R6_of (c : Dev nD) (r : Ref sig .tc) (h : r ∉ rOps6_W) : R6 m c r = R5 m c r :=
  StableHlo.after_of_writes_sub rOps6 _ rOps6_writes h
theorem R7_of (c : Dev nD) (r : Ref sig .tc) (h : r ∉ rOps7_W) : R7 m c r = R6 m c r :=
  StableHlo.after_of_writes_sub rOps7 _ rOps7_writes h
theorem R8_of (c : Dev nD) (r : Ref sig .tc) (h : r ∉ rOps8_W) : R8 m c r = R7 m c r :=
  StableHlo.after_of_writes_sub rOps8 _ rOps8_writes h

theorem ref_run (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = R8 m d (Proc.devRef .tc b) := by
  have h := StableHlo.run_hlo (defs (F := F)) (main (F := F)) (ops := rOps) (rOps_seq) (by decide) (by decide) (forall_app rOps0_sub (forall_app rOps1_sub (forall_app rOps2_sub (forall_app rOps3_sub (forall_app rOps4_sub (forall_app rOps5_sub (forall_app rOps6_sub (forall_app rOps7_sub rOps8_sub))))))))
    (List.forall_iff_forall_mem.1 (forall_app rOps0_fresh (forall_app rOps1_fresh (forall_app rOps2_fresh (forall_app rOps3_fresh (forall_app rOps4_fresh (forall_app rOps5_fresh (forall_app rOps6_fresh (forall_app rOps7_fresh rOps8_fresh))))))))) m ρ
  refine θ_run_mono h fun r hr d b => (hr d b).trans ?_
  simp only [rOps, after_app]

theorem R_arg0 (c : Dev nD) : R8 m c main_arg0 = m ((c : Thread nD τ).loc main_arg0) :=
  (R8_of m c main_arg0 (by decide)).trans ((R7_of m c main_arg0 (by decide)).trans ((R6_of m c main_arg0 (by decide)).trans ((R5_of m c main_arg0 (by decide)).trans ((R4_of m c main_arg0 (by decide)).trans ((R3_of m c main_arg0 (by decide)).trans ((R2_of m c main_arg0 (by decide)).trans ((R1_of m c main_arg0 (by decide)).trans ((R0_of m c main_arg0 (by decide))))))))))
theorem R_arg1 (c : Dev nD) : R8 m c main_arg1 = m ((c : Thread nD τ).loc main_arg1) :=
  (R8_of m c main_arg1 (by decide)).trans ((R7_of m c main_arg1 (by decide)).trans ((R6_of m c main_arg1 (by decide)).trans ((R5_of m c main_arg1 (by decide)).trans ((R4_of m c main_arg1 (by decide)).trans ((R3_of m c main_arg1 (by decide)).trans ((R2_of m c main_arg1 (by decide)).trans ((R1_of m c main_arg1 (by decide)).trans ((R0_of m c main_arg1 (by decide))))))))))
theorem R_arg2 (c : Dev nD) : R8 m c main_arg2 = m ((c : Thread nD τ).loc main_arg2) :=
  (R8_of m c main_arg2 (by decide)).trans ((R7_of m c main_arg2 (by decide)).trans ((R6_of m c main_arg2 (by decide)).trans ((R5_of m c main_arg2 (by decide)).trans ((R4_of m c main_arg2 (by decide)).trans ((R3_of m c main_arg2 (by decide)).trans ((R2_of m c main_arg2 (by decide)).trans ((R1_of m c main_arg2 (by decide)).trans ((R0_of m c main_arg2 (by decide))))))))))
theorem R_arg3 (c : Dev nD) : R8 m c main_arg3 = m ((c : Thread nD τ).loc main_arg3) :=
  (R8_of m c main_arg3 (by decide)).trans ((R7_of m c main_arg3 (by decide)).trans ((R6_of m c main_arg3 (by decide)).trans ((R5_of m c main_arg3 (by decide)).trans ((R4_of m c main_arg3 (by decide)).trans ((R3_of m c main_arg3 (by decide)).trans ((R2_of m c main_arg3 (by decide)).trans ((R1_of m c main_arg3 (by decide)).trans ((R0_of m c main_arg3 (by decide))))))))))
theorem R_arg4 (c : Dev nD) : R8 m c main_arg4 = m ((c : Thread nD τ).loc main_arg4) :=
  (R8_of m c main_arg4 (by decide)).trans ((R7_of m c main_arg4 (by decide)).trans ((R6_of m c main_arg4 (by decide)).trans ((R5_of m c main_arg4 (by decide)).trans ((R4_of m c main_arg4 (by decide)).trans ((R3_of m c main_arg4 (by decide)).trans ((R2_of m c main_arg4 (by decide)).trans ((R1_of m c main_arg4 (by decide)).trans ((R0_of m c main_arg4 (by decide))))))))))
theorem R_arg5 (c : Dev nD) : R8 m c main_arg5 = m ((c : Thread nD τ).loc main_arg5) :=
  (R8_of m c main_arg5 (by decide)).trans ((R7_of m c main_arg5 (by decide)).trans ((R6_of m c main_arg5 (by decide)).trans ((R5_of m c main_arg5 (by decide)).trans ((R4_of m c main_arg5 (by decide)).trans ((R3_of m c main_arg5 (by decide)).trans ((R2_of m c main_arg5 (by decide)).trans ((R1_of m c main_arg5 (by decide)).trans ((R0_of m c main_arg5 (by decide))))))))))
theorem R_arg6 (c : Dev nD) : R8 m c main_arg6 = m ((c : Thread nD τ).loc main_arg6) :=
  (R8_of m c main_arg6 (by decide)).trans ((R7_of m c main_arg6 (by decide)).trans ((R6_of m c main_arg6 (by decide)).trans ((R5_of m c main_arg6 (by decide)).trans ((R4_of m c main_arg6 (by decide)).trans ((R3_of m c main_arg6 (by decide)).trans ((R2_of m c main_arg6 (by decide)).trans ((R1_of m c main_arg6 (by decide)).trans ((R0_of m c main_arg6 (by decide))))))))))
theorem R_arg7 (c : Dev nD) : R8 m c main_arg7 = m ((c : Thread nD τ).loc main_arg7) :=
  (R8_of m c main_arg7 (by decide)).trans ((R7_of m c main_arg7 (by decide)).trans ((R6_of m c main_arg7 (by decide)).trans ((R5_of m c main_arg7 (by decide)).trans ((R4_of m c main_arg7 (by decide)).trans ((R3_of m c main_arg7 (by decide)).trans ((R2_of m c main_arg7 (by decide)).trans ((R1_of m c main_arg7 (by decide)).trans ((R0_of m c main_arg7 (by decide))))))))))
theorem R_arg8 (c : Dev nD) : R8 m c main_arg8 = m ((c : Thread nD τ).loc main_arg8) :=
  (R8_of m c main_arg8 (by decide)).trans ((R7_of m c main_arg8 (by decide)).trans ((R6_of m c main_arg8 (by decide)).trans ((R5_of m c main_arg8 (by decide)).trans ((R4_of m c main_arg8 (by decide)).trans ((R3_of m c main_arg8 (by decide)).trans ((R2_of m c main_arg8 (by decide)).trans ((R1_of m c main_arg8 (by decide)).trans ((R0_of m c main_arg8 (by decide))))))))))

end Cert.Proof.ReferenceIdeal

end
-- ==== Proof.KIVConv.lean ====
module

public import proofs.«01_k».proof.Proof.KIConv
public import Idealize.ShloMosaic.Lib.Pointwise
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- The sixteen tiles one above the other. -/
def pall {F : FTy → Type} [FloatOps F] (X : Fin 16 → Vec F S16x512 .f32) : FVec F S256x512 .f32 :=
  concatenate S256x512 0 [⟨S16x512, (X 0 : FVec F S16x512 .f32)⟩, ⟨S16x512, (X 1 : FVec F S16x512 .f32)⟩, ⟨S16x512, (X 2 : FVec F S16x512 .f32)⟩, ⟨S16x512, (X 3 : FVec F S16x512 .f32)⟩, ⟨S16x512, (X 4 : FVec F S16x512 .f32)⟩, ⟨S16x512, (X 5 : FVec F S16x512 .f32)⟩, ⟨S16x512, (X 6 : FVec F S16x512 .f32)⟩, ⟨S16x512, (X 7 : FVec F S16x512 .f32)⟩, ⟨S16x512, (X 8 : FVec F S16x512 .f32)⟩, ⟨S16x512, (X 9 : FVec F S16x512 .f32)⟩, ⟨S16x512, (X 10 : FVec F S16x512 .f32)⟩, ⟨S16x512, (X 11 : FVec F S16x512 .f32)⟩, ⟨S16x512, (X 12 : FVec F S16x512 .f32)⟩, ⟨S16x512, (X 13 : FVec F S16x512 .f32)⟩, ⟨S16x512, (X 14 : FVec F S16x512 .f32)⟩, ⟨S16x512, (X 15 : FVec F S16x512 .f32)⟩] concatenates_S16x512_S16x512_S16x512_S16x512_S16x512_S16x512_S16x512_S16x512_S16x512_S16x512_S16x512_S16x512_S16x512_S16x512_S16x512_S16x512_S256x512_d0

/-- The rows above, the rows themselves and the rows below, side by side. -/
def threeRows {F : FTy → Type} [FloatOps F] (P : FVec F S256x512 .f32) : FVec F S256x1536 .f32 :=
  have cst : F .f32 := Scalar.ofBits .f32 0x00000000#32
  have v33 : FVec F S1x512 .f32 := broadcast S1x512 cst
  have v34 : FVec F S255x512 .f32 := extractStridedSlice S255x512 ![0, 0] P slices_S256x512_o0_0_S255x512
  have v35 : FVec F S256x512 .f32 := concatenate S256x512 0 [⟨S1x512, v33⟩, ⟨S255x512, v34⟩] concatenates_S1x512_S255x512_S256x512_d0
  have v36 : FVec F S255x512 .f32 := extractStridedSlice S255x512 ![1, 0] P slices_S256x512_o1_0_S255x512
  have v37 : FVec F S256x512 .f32 := concatenate S256x512 0 [⟨S255x512, v36⟩, ⟨S1x512, v33⟩] concatenates_S255x512_S1x512_S256x512_d0
  have v38 : IVec S256x1 32 := iota .tc S256x1 32 [0] iota_S256x1_d0_w32
  let v39 : BitVec 1 := Scalar.cmpi .eq 16#32 0#32
  let v40 : BitVec 32 := Scalar.select v39 1#32 16#32
  have v41 : IVec S256x1 32 := broadcast S256x1 v40
  have v42 : IVec S256x1 32 := remsi v38 v41
  have v43 : IVec S256x1 32 := broadcast S256x1 0#32
  have v44 : IVec S256x1 1 := cmpi .ne v42 v43
  have v45 : IVec S256x1 32 := broadcast S256x1 0#32
  have v46 : IVec S256x1 1 := cmpi .slt v42 v45
  let v47 : BitVec 1 := Scalar.cmpi .slt v40 0#32
  have v48 : IVec S256x1 1 := broadcast S256x1 v47
  have v49 : IVec S256x1 1 := broadcastTo S256x1 v48 broadcasts_S256x1_S256x1
  have v50 : IVec S256x1 1 := xori v46 v49
  have v51 : IVec S256x1 1 := andi v50 v44
  have v52 : IVec S256x1 32 := broadcast S256x1 v40
  have v53 : IVec S256x1 32 := addi v42 v52
  have v54 : IVec S256x1 32 := select v51 v53 v42
  have v55 : IVec S256x1 32 := broadcast S256x1 0#32
  have v56 : IVec S256x1 1 := cmpi .ne v54 v55
  have cst_35 : F .f32 := Scalar.ofBits .f32 0x00000000#32
  have v57 : IVec S256x1 1 := shapeCast S256x1 v56 shapeCasts_S256x1_S256x1
  have v58 : IVec S256x512 1 := broadcastTo S256x512 v57 broadcasts_S256x1_S256x512
  have v59 : FVec F S256x512 .f32 := broadcast S256x512 cst_35
  have v60 : FVec F S256x512 .f32 := select v58 v35 v59
  have v61 : IVec S256x1 32 := broadcast S256x1 15#32
  have v62 : IVec S256x1 1 := cmpi .ne v54 v61
  have cst_36 : F .f32 := Scalar.ofBits .f32 0x00000000#32
  have v63 : IVec S256x1 1 := shapeCast S256x1 v62 shapeCasts_S256x1_S256x1
  have v64 : IVec S256x512 1 := broadcastTo S256x512 v63 broadcasts_S256x1_S256x512
  have v65 : FVec F S256x512 .f32 := broadcast S256x512 cst_36
  have v66 : FVec F S256x512 .f32 := select v64 v37 v65
  have v67 : FVec F S256x1536 .f32 := concatenate S256x1536 1 [⟨S256x512, v60⟩, ⟨S256x512, P⟩, ⟨S256x512, v66⟩] concatenates_S256x512_S256x512_S256x512_S256x1536_d1
  v67

theorem pay16_eq {F : FTy → Type} [FloatOps F] (X : Fin 16 → Vec F S16x512 .f32) (A : Vec F S1536x512 .f32) :
    k0_pay16 (X 0) (X 1) (X 2) (X 3) (X 4) (X 5) (X 6) (X 7) (X 8) (X 9) (X 10) (X 11) (X 12) (X 13) (X 14) (X 15) A
      = matmul dot_S256x1536_S1536x512_S256x512_1_0_0_1_n_n none (threeRows (pall X)) A (constant S256x512 .f32 0x00000000#32) := by
  refine (show _ = matmul dot_S256x1536_S1536x512_S256x512_1_0_0_1_n_n none (threeRows (concatenate S256x512 0 [⟨S16x512, (X 0 : FVec F S16x512 .f32)⟩, ⟨S16x512, (X 1 : FVec F S16x512 .f32)⟩, ⟨S16x512, (X 2 : FVec F S16x512 .f32)⟩, ⟨S16x512, (X 3 : FVec F S16x512 .f32)⟩, ⟨S16x512, (X 4 : FVec F S16x512 .f32)⟩, ⟨S16x512, (X 5 : FVec F S16x512 .f32)⟩, ⟨S16x512, (X 6 : FVec F S16x512 .f32)⟩, ⟨S16x512, (X 7 : FVec F S16x512 .f32)⟩, ⟨S16x512, (X 8 : FVec F S16x512 .f32)⟩, ⟨S16x512, (X 9 : FVec F S16x512 .f32)⟩, ⟨S16x512, (X 10 : FVec F S16x512 .f32)⟩, ⟨S16x512, (X 11 : FVec F S16x512 .f32)⟩, ⟨S16x512, (X 12 : FVec F S16x512 .f32)⟩, ⟨S16x512, (X 13 : FVec F S16x512 .f32)⟩, ⟨S16x512, shapeCast S16x512 (X 14 : FVec F S16x512 .f32) shapeCasts_S16x512_S16x512⟩, ⟨S16x512, shapeCast S16x512 (X 15 : FVec F S16x512 .f32) shapeCasts_S16x512_S16x512⟩] concatenates_S16x512_S16x512_S16x512_S16x512_S16x512_S16x512_S16x512_S16x512_S16x512_S16x512_S16x512_S16x512_S16x512_S16x512_S16x512_S16x512_S256x512_d0))
      (shapeCast S1536x512 A shapeCasts_S1536x512_S1536x512) (constant S256x512 .f32 0x00000000#32) from rfl).trans ?_
  rw [shapeCast_self, shapeCast_self, shapeCast_self]
  rfl

theorem pall_apply {F : FTy → Type} [FloatOps F] (X : Fin 16 → Vec F S16x512 .f32) (j r : Fin 16) (l : Fin 512) :
    pall X (ix2 ⟨j.val * 16 + r.val, by omega⟩ l) = X j (ix2 r l) := by
  unfold pall
  refine concatenate_ofFn_apply (t := S256x512) (s₁ := S16x512) 0 (N := 16) (fun n => X n) concatenates_S16x512_S16x512_S16x512_S16x512_S16x512_S16x512_S16x512_S16x512_S16x512_S16x512_S16x512_S16x512_S16x512_S16x512_S16x512_S16x512_S256x512_d0 rfl 16 rfl _ j ?_ _ ?_ ?_
  · show (j.val * 16 + r.val) / 16 = j.val; omega
  · show r.val = (j.val * 16 + r.val) % 16; omega
  · intro b hb
    match b with
    | ⟨0, _⟩ => exact absurd rfl hb
    | ⟨1, _⟩ => rfl

/-- The row's place in its tile, as the kernel computes it in words. -/
def rowWord (R : ℕ) : BitVec 32 :=
  Scalar.select
    (IntOp.andi
      (IntOp.xori
        (IntOp.cmpi CmpIPredicate.slt
          (IntOp.remsi ArithUnit.vector (BitVec.ofNat 32 R)
            (Scalar.select (Scalar.cmpi CmpIPredicate.eq 16#32 0#32) 1#32 16#32))
          0#32)
        (Scalar.cmpi CmpIPredicate.slt (Scalar.select (Scalar.cmpi CmpIPredicate.eq 16#32 0#32) 1#32 16#32)
          0#32))
      (IntOp.cmpi CmpIPredicate.ne
        (IntOp.remsi ArithUnit.vector (BitVec.ofNat 32 R)
          (Scalar.select (Scalar.cmpi CmpIPredicate.eq 16#32 0#32) 1#32 16#32))
        0#32))
    (IntOp.addi
      (IntOp.remsi ArithUnit.vector (BitVec.ofNat 32 R)
        (Scalar.select (Scalar.cmpi CmpIPredicate.eq 16#32 0#32) 1#32 16#32))
      (Scalar.select (Scalar.cmpi CmpIPredicate.eq 16#32 0#32) 1#32 16#32))
    (IntOp.remsi ArithUnit.vector (BitVec.ofNat 32 R)
      (Scalar.select (Scalar.cmpi CmpIPredicate.eq 16#32 0#32) 1#32 16#32))

theorem rowWord_ne0 : ∀ R : Fin 256, IntOp.cmpi CmpIPredicate.ne (rowWord R.val) 0#32 = if R.val % 16 = 0 then 0#1 else 1#1 := by decide +kernel
theorem rowWord_ne15 : ∀ R : Fin 256, IntOp.cmpi CmpIPredicate.ne (rowWord R.val) 15#32 = if R.val % 16 = 15 then 0#1 else 1#1 := by decide +kernel

/-- A tile with a row of zeros above and below, by numbers. -/
def prow (x : Vec Ideal S16x512 .f32) (r q : ℕ) : EReal :=
  if h : 1 ≤ r ∧ r ≤ 16 then x (ix2 ⟨r - 1, by omega⟩ ⟨q % 512, Nat.mod_lt _ (by decide)⟩) else 0

theorem prow_of (x : Vec Ideal S16x512 .f32) (n q : ℕ) (r : Fin 16) (l : Fin 512) (h : n = r.val + 1) (hq : q = l.val) :
    prow x n q = x (ix2 r l) := by
  subst h hq
  have hr := r.isLt
  unfold prow
  rw [dif_pos ⟨by omega, by omega⟩]
  congr 2
  exact Fin.ext (Nat.mod_eq_of_lt l.isLt)

theorem prow_zero (x : Vec Ideal S16x512 .f32) (n q : ℕ) (h : n = 0 ∨ n = 17) : prow x n q = 0 := by
  unfold prow
  exact dif_neg (by omega)

theorem sel_if {α : Type} (p : Prop) [Decidable p] (a b : α) : Scalar.select (if p then 0#1 else 1#1) a b = if p then b else a := by
  by_cases h : p
  · rw [if_pos h, if_pos h]; rfl
  · rw [if_neg h, if_neg h]; rfl

theorem pall_at (X : Fin 16 → Vec Ideal S16x512 .f32) (j r : Fin 16) (l : Fin 512) (R : Fin 256) (q : Fin 512) (hR : R.val = j.val * 16 + r.val)
    (hq : q = l) : pall (F := Ideal) X (ix2 R q) = X j (ix2 r l) := by
  subst hq
  rw [← pall_apply X j r q]
  congr 2
  exact Fin.ext hR

theorem threeRows_if (P : FVec Ideal S256x512 .f32) (R : Fin 256) (k : Fin 1536) :
    threeRows (F := Ideal) P (ix2 R k) =
      if h : k.val < 512 then
        if R.val % 16 = 0 then 0 else if h1 : R.val < 1 then 0 else P (ix2 ⟨R.val - 1, by omega⟩ ⟨k.val, h⟩)
      else if h' : k.val - 512 < 512 then P (ix2 R ⟨k.val - 512, h'⟩)
      else if R.val % 16 = 15 then 0 else if h1 : R.val < 255 then P (ix2 ⟨1 + R.val, by omega⟩ ⟨k.val - 512 - 512, by omega⟩) else 0 := by
  have h0 := rowWord_ne0 R
  have h15 := rowWord_ne15 R
  unfold rowWord at h0 h15
  pointwise [threeRows]
  simp only [h0, h15]
  simp only [sel_if]

theorem threeRows_apply (X : Fin 16 → Vec Ideal S16x512 .f32) (j r : Fin 16) (k : Fin 1536) (R : Fin 256) (hR : R.val = j.val * 16 + r.val) :
    threeRows (F := Ideal) (pall X) (ix2 R k) = prow (X j) (r.val + k.val / 512) (k.val % 512) := by
  rw [threeRows_if]
  have hr := r.isLt
  have hj := j.isLt
  have hk := k.isLt
  by_cases h1 : k.val < 512
  · rw [dif_pos h1]
    by_cases h2 : R.val % 16 = 0
    · rw [if_pos h2, prow_zero _ _ _ (by omega)]
    · have h4 : ¬ R.val < 1 := by omega
      rw [if_neg h2, dif_neg h4]
      refine (pall_at X j ⟨r.val - 1, by omega⟩ ⟨k.val, h1⟩ _ _ ?_ ?_).trans (prow_of _ _ _ _ _ ?_ ?_).symm
      · show R.val - 1 = j.val * 16 + (r.val - 1); omega
      · rfl
      · show r.val + k.val / 512 = r.val - 1 + 1; omega
      · show k.val % 512 = k.val; omega
  · rw [dif_neg h1]
    by_cases h3 : k.val - 512 < 512
    · rw [dif_pos h3]
      refine (pall_at X j r ⟨k.val - 512, h3⟩ _ _ hR rfl).trans (prow_of _ _ _ _ _ ?_ ?_).symm
      · omega
      · show k.val % 512 = k.val - 512; omega
    · rw [dif_neg h3]
      by_cases h2 : R.val % 16 = 15
      · rw [if_pos h2, prow_zero _ _ _ (by omega)]
      · have h4 : R.val < 255 := by omega
        rw [if_neg h2, dif_pos h4]
        refine (pall_at X j ⟨r.val + 1, by omega⟩ ⟨k.val - 512 - 512, by omega⟩ _ _ ?_ rfl).trans (prow_of _ _ _ _ _ ?_ ?_).symm
        · show 1 + R.val = j.val * 16 + (r.val + 1); omega
        · show r.val + k.val / 512 = r.val + 1 + 1; omega
        · show k.val % 512 = k.val - 512 - 512; omega

theorem convTile_apply (X : Fin 16 → Vec Ideal S16x512 .f32) (A : Vec Ideal S1536x512 .f32) (b : Vec Ideal S1x512 .f32)
    (j r : Fin 16) (l : Fin 512) : convTile (F := Ideal) X A b (ix3 j r l)
      = max ((∑ k : Fin 1536, prow (X j) (r.val + k.val / 512) (k.val % 512) * A (ix2 k l)) + b (ix2 0 l)) 0 := by
  unfold convTile
  rw [pay16_eq]
  pointwise [Gen.k0_pay1]
  congr 2
  exact Finset.sum_congr rfl fun k _ => congrArg (· * A (ix2 k l)) (threeRows_apply X j r k _ rfl)
end Cert.Proof.KernelIdeal

end
-- ==== Proof.KIVOut.lean ====
module

public import proofs.«01_k».proof.Proof.KIVConv
public import proofs.«01_k».proof.Proof.KIRun4
public import Idealize.ShloMosaic.Lib.Pointwise
public import Idealize.ShloMosaic.Lib.Pipeline.ValueKit
public import Idealize.ShloMosaic.Lib.Pipeline.Covers

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]
variable (a : (p : Fin 2) → (pcfgs (F := F) p).Adm) (V : Dev nD → Valuation τ sig (Elt F))

theorem tr1_0 : ∀ i : grid1.Coords, cc1_transform_0 i = ![(i 0).val, 0, 0] := by
  intro i; funext x; fin_cases x
  · show (BitVec.ofNat 32 (i 0).val).toNat = (i 0).val
    have := (i 0).isLt; change _ < 64 at this
    rw [BitVec.toNat_ofNat]; omega
  · rfl
  · rfl
theorem tr1_2 : ∀ i : grid1.Coords, cc1_transform_2 i = ![(i 0).val, 0, 0] := by
  intro i; funext x; fin_cases x
  · show (BitVec.ofNat 32 (i 0).val).toNat = (i 0).val
    have := (i 0).isLt; change _ < 64 at this
    rw [BitVec.toNat_ofNat]; omega
  · rfl
  · rfl
theorem co1 : ∀ t : Fin grid1.N, (grid1.coords t 0).val = t.val := by decide +kernel

theorem index1_2 (t : Fin grid1.N) : ((C1 a).win 2).index t = ![t.val, 0, 0] := by
  rw [← co1 t]; exact tr1_2 (grid1.coords t)
theorem index1_0 (t : Fin grid1.N) : ((C1 a).win 0).index t = ![t.val, 0, 0] := by
  rw [← co1 t]; exact tr1_0 (grid1.coords t)
theorem index1_1 (t : Fin grid1.N) : ((C1 a).win 1).index t = ![0, 0, 0] := by
  show cc1_transform_1 (grid1.coords t) = _
  funext x; fin_cases x <;> rfl

/-- The coordinates of a grid point of the band kernel. -/
def cd1 (n : ℕ) (h : n < 64) : grid1.Coords := fun x => ⟨n, by match x with | ⟨0, _⟩ => exact h⟩

/-- The image after the band kernel, entry by entry. -/
def G1 (c : Dev nD) : Buf (Elt F) ((c : Thread nD τ).loc main_v144) := fun i : S1024x64x512.Idx =>
  band1 a V c ⟨(i 0).val / 16, by have h : (i 0).val < 1024 := (i 0).isLt; show _ < 64; omega⟩
    (mk3 (n := S16x64x512.size) ⟨(i 0).val % 16, Nat.mod_lt _ (by decide)⟩ (i 1) (i 2))

theorem covers1 : ((C1 a).win 2).Covers :=
  ((C1 a).win 2).covers_of_indexMap_surj rfl (fun x => by match x with | ⟨0, _⟩ => exact (by decide : 0 < 16) | ⟨1, _⟩ => exact (by decide : 0 < 64) | ⟨2, _⟩ => exact (by decide : 0 < 512)) fun β =>
    have h2 : (β (0 : Fin 3)).val < 64 := lt_of_lt_of_eq (β (0 : Fin 3)).isLt (show (1024 + (16 - 1)) / 16 = 64 from rfl)
    ⟨cd1 (β (0 : Fin 3)).val h2, fun x => by
      refine (congrFun (tr1_2 (cd1 (β (0 : Fin 3)).val h2)) x).trans ?_
      match x with
      | ⟨0, _⟩ => rfl
      | ⟨1, _⟩ => exact (Nat.lt_one_iff.1 (lt_of_lt_of_eq (β (1 : Fin 3)).isLt (show (64 + (64 - 1)) / 64 = 1 from rfl))).symm
      | ⟨2, _⟩ => exact (Nat.lt_one_iff.1 (lt_of_lt_of_eq (β (2 : Fin 3)).isLt (show (512 + (512 - 1)) / 512 = 1 from rfl))).symm⟩

theorem out1_G (c : Dev nD) : (dat1 a V c).arrAt 2 grid1.N = G1 a V c := by
  refine (dat1 a V c).arrAt_eq_of_covers 2 _ (covers1 a) fun t hf y => ?_
  refine (congrFun (after1_2 a V c t) y).trans ?_
  have hi : ∀ x : Fin 3, ((((C1 a).win 2).blk t).view.emb y x).val = (![t.val, 0, 0] : Fin 3 → ℕ) x * S16x64x512.size x + (y x).val := fun x => by
    blk_simp [index1_2]
    rfl
  have ht : t.val < 64 := t.isLt
  have hy : (y (0 : Fin 3)).val < 16 := (y (0 : Fin 3)).isLt
  have h0 := hi 0
  have h1 := hi 1
  have h2 := hi 2
  change _ = t.val * 16 + _ at h0
  change _ = 0 * 64 + _ at h1
  change _ = 0 * 512 + _ at h2
  generalize (((C1 a).win 2).blk t).view.emb y = e at h0 h1 h2
  show band1 a V c t y = band1 a V c ⟨(e (0 : Fin 3)).val / 16, _⟩ (mk3 ⟨(e (0 : Fin 3)).val % 16, _⟩ (e (1 : Fin 3)) (e (2 : Fin 3)))
  congr 1
  · exact Fin.ext (by show t.val = (e (0 : Fin 3)).val / 16; omega)
  · exact mk3_ext (by show _ = (e (0 : Fin 3)).val % 16; omega) (by show _ = (e (1 : Fin 3)).val; omega) (by show _ = (e (2 : Fin 3)).val; omega)

/-! ### The band kernel's operands -/

theorem blk1_0 (c : Dev nD) (t : Fin grid1.N) (r : Fin 16) (q : Fin 64) (l : Fin 512) (Y : Fin 1024) (hY : Y.val = t.val * 16 + r.val) :
    blk1 a V c 0 t (ix3 r q l) = V c main_v1 (ix3 Y q l) := by
  have hi : ∀ x : Fin 3, ((((C1 a).win 0).blk t).view.emb (ix3 r q l) x).val = (![t.val, 0, 0] : Fin 3 → ℕ) x * S16x64x512.size x + ((ix3 r q l : S16x64x512.Idx) x).val := fun x => by
    blk_simp [index1_0]
    rfl
  refine congrArg (fun z : S1024x64x512.Idx => V c main_v1 z) (mk3_ext ((hi 0).trans hY.symm) ((hi 1).trans ?_) ((hi 2).trans ?_))
  · show 0 * 64 + q.val = q.val; omega
  · show 0 * 512 + l.val = l.val; omega

theorem blk1_1 (c : Dev nD) (t : Fin grid1.N) (k : Fin 400) (r : Fin 16) (l : Fin 512) :
    blk1 a V c 1 t (ix3 k r l) = V c main_v143 (ix3 k r l) := by
  have hi : ∀ x : Fin 3, ((((C1 a).win 1).blk t).view.emb (ix3 k r l) x).val = (![0, 0, 0] : Fin 3 → ℕ) x * S400x16x512.size x + ((ix3 k r l : S400x16x512.Idx) x).val := fun x => by
    blk_simp [index1_1]
    rfl
  refine congrArg (fun z : S400x16x512.Idx => V c main_v143 z) (mk3_ext ((hi 0).trans ?_) ((hi 1).trans ?_) ((hi 2).trans ?_))
  · show 0 * 400 + k.val = k.val; omega
  · show 0 * 16 + r.val = r.val; omega
  · show 0 * 512 + l.val = l.val; omega

/-! ### The convolution's result and operands -/

theorem tr0_18 : ∀ i : grid0.Coords, cc0_transform_18 i = ![(i 0).val, 0, 0] := by
  intro i; funext x; fin_cases x
  · show (BitVec.ofNat 32 (i 0).val).toNat = (i 0).val
    have := (i 0).isLt; change _ < 25 at this
    rw [BitVec.toNat_ofNat]; omega
  · rfl
  · rfl
theorem co0 : ∀ t : Fin grid0.N, (grid0.coords t 0).val = t.val := by decide +kernel

theorem index0_18 (t : Fin grid0.N) : ((C0 a).win 18).index t = ![t.val, 0, 0] := by
  rw [← co0 t]; exact tr0_18 (grid0.coords t)
theorem index0_16 (t : Fin grid0.N) : ((C0 a).win 16).index t = ![0, 0] := by
  show cc0_transform_16 (grid0.coords t) = _
  funext x; fin_cases x <;> rfl
theorem index0_17 (t : Fin grid0.N) : ((C0 a).win 17).index t = ![0, 0] := by
  show cc0_transform_17 (grid0.coords t) = _
  funext x; fin_cases x <;> rfl

def cd0 (n : ℕ) (h : n < 25) : grid0.Coords := fun x => ⟨n, by match x with | ⟨0, _⟩ => exact h⟩

/-- The blocks after the convolution, entry by entry. -/
def G0 (c : Dev nD) : Buf (Elt F) ((c : Thread nD τ).loc main_v143) := fun i : S400x16x512.Idx =>
  tile0 a V c ⟨(i 0).val / 16, by have h : (i 0).val < 400 := (i 0).isLt; show _ < 25; omega⟩
    (mk3 (n := S16x16x512.size) ⟨(i 0).val % 16, Nat.mod_lt _ (by decide)⟩ (i 1) (i 2))

theorem covers0 : ((C0 a).win 18).Covers :=
  ((C0 a).win 18).covers_of_indexMap_surj rfl (fun x => by match x with | ⟨0, _⟩ => exact (by decide : 0 < 16) | ⟨1, _⟩ => exact (by decide : 0 < 16) | ⟨2, _⟩ => exact (by decide : 0 < 512)) fun β =>
    have h2 : (β (0 : Fin 3)).val < 25 := lt_of_lt_of_eq (β (0 : Fin 3)).isLt (show (400 + (16 - 1)) / 16 = 25 from rfl)
    ⟨cd0 (β (0 : Fin 3)).val h2, fun x => by
      refine (congrFun (tr0_18 (cd0 (β (0 : Fin 3)).val h2)) x).trans ?_
      match x with
      | ⟨0, _⟩ => rfl
      | ⟨1, _⟩ => exact (Nat.lt_one_iff.1 (lt_of_lt_of_eq (β (1 : Fin 3)).isLt (show (16 + (16 - 1)) / 16 = 1 from rfl))).symm
      | ⟨2, _⟩ => exact (Nat.lt_one_iff.1 (lt_of_lt_of_eq (β (2 : Fin 3)).isLt (show (512 + (512 - 1)) / 512 = 1 from rfl))).symm⟩

theorem out0_G (c : Dev nD) : (dat0 a V c).arrAt 18 grid0.N = G0 a V c := by
  refine (dat0 a V c).arrAt_eq_of_covers 18 _ (covers0 a) fun t hf y => ?_
  refine (congrFun (after0_out a V c t) y).trans ?_
  have hi : ∀ x : Fin 3, ((((C0 a).win 18).blk t).view.emb y x).val = (![t.val, 0, 0] : Fin 3 → ℕ) x * S16x16x512.size x + (y x).val := fun x => by
    blk_simp [index0_18]
    rfl
  have ht : t.val < 25 := t.isLt
  have hy : (y (0 : Fin 3)).val < 16 := (y (0 : Fin 3)).isLt
  have h0 := hi 0
  have h1 := hi 1
  have h2 := hi 2
  change _ = t.val * 16 + _ at h0
  change _ = 0 * 16 + _ at h1
  change _ = 0 * 512 + _ at h2
  generalize (((C0 a).win 18).blk t).view.emb y = e at h0 h1 h2
  show tile0 a V c t y = tile0 a V c ⟨(e (0 : Fin 3)).val / 16, _⟩ (mk3 ⟨(e (0 : Fin 3)).val % 16, _⟩ (e (1 : Fin 3)) (e (2 : Fin 3)))
  congr 1
  · exact Fin.ext (by show t.val = (e (0 : Fin 3)).val / 16; omega)
  · exact mk3_ext (by show _ = (e (0 : Fin 3)).val % 16; omega) (by show _ = (e (1 : Fin 3)).val; omega) (by show _ = (e (2 : Fin 3)).val; omega)

theorem mk2_ext {n : Fin 2 → ℕ} {x y : (a : Fin 2) → Fin (n a)} (h0 : (x 0 : ℕ) = y 0) (h1 : (x 1 : ℕ) = y 1) : x = y := by
  funext a
  fin_cases a
  · exact Fin.ext h0
  · exact Fin.ext h1

theorem blk0_16 (c : Dev nD) (t : Fin grid0.N) (k : Fin 1536) (l : Fin 512) :
    blk0 a V c 16 t (ix2 k l) = V c main_v138 (ix2 k l) := by
  have hi : ∀ x : Fin 2, ((((C0 a).win 16).blk t).view.emb (ix2 k l) x).val = (![0, 0] : Fin 2 → ℕ) x * S1536x512.size x + ((ix2 k l : S1536x512.Idx) x).val := fun x => by
    blk_simp [index0_16]
    rfl
  refine congrArg (fun z : S1536x512.Idx => V c main_v138 z) (mk2_ext ((hi 0).trans ?_) ((hi 1).trans ?_))
  · show 0 * 1536 + k.val = k.val; omega
  · show 0 * 512 + l.val = l.val; omega

theorem blk0_17 (c : Dev nD) (t : Fin grid0.N) (k : Fin 1) (l : Fin 512) :
    blk0 a V c 17 t (ix2 k l) = V c main_v142 (ix2 k l) := by
  have hi : ∀ x : Fin 2, ((((C0 a).win 17).blk t).view.emb (ix2 k l) x).val = (![0, 0] : Fin 2 → ℕ) x * S1x512.size x + ((ix2 k l : S1x512.Idx) x).val := fun x => by
    blk_simp [index0_17]
    rfl
  refine congrArg (fun z : S1x512.Idx => V c main_v142 z) (mk2_ext ((hi 0).trans ?_) ((hi 1).trans ?_))
  · show 0 * 1 + k.val = k.val; omega
  · show 0 * 512 + l.val = l.val; omega

theorem wj (n j : ℕ) (hn : n < 25) (hj : j < 16) :
    (Scalar.indexCast (Scalar.addi (Scalar.muli 16#32 (BitVec.ofNat 32 n)) (BitVec.ofNat 32 j))).toNat = 16 * n + j := by
  show (16#32 * BitVec.ofNat 32 n + BitVec.ofNat 32 j).toNat = _
  simp only [BitVec.toNat_add, BitVec.toNat_mul, BitVec.toNat_ofNat]
  omega

/-- The table entry of tile `j` of grid point `n`. -/
def cell (t : Fin grid0.N) (j : Fin 16) : Fin 400 := ⟨16 * t.val + j.val, by have h : t.val < 25 := t.isLt; omega⟩

theorem index0_0 (t : Fin grid0.N) : ((C0 a).win 0).index t = ![((a 0).1 0 (ix2 (0 : Fin 2) (cell t 0)) : BitVec 32).toNat, ((a 0).1 0 (ix2 (1 : Fin 2) (cell t 0)) : BitVec 32).toNat] := by
  show cc0_transform_0 Facts₀.k0_off1_inb Facts₀.numel1_S1x1 Facts₀.k0_off2_inb (a 0).1 (grid0.coords t) = _
  have hw := wj (grid0.coords t 0).val 0 (by rw [co0]; exact t.isLt) (by decide)
  rw [co0] at hw
  unfold cc0_transform_0
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 0))).toNat) (co0 t)).trans hw)
  · exact (Nat.add_zero _).trans ((congrArg (fun z => (Scalar.indexCast (Scalar.addi (Scalar.muli 16#32 (BitVec.ofNat 32 z)) (BitVec.ofNat 32 0))).toNat) (co0 t)).trans hw)

theorem blk0_0 (c : Dev nD) (t : Fin grid0.N) (r : Fin 16) (l : Fin 512) (Y : Fin 1024) (X : Fin 32768)
    (hY : Y.val = ((a 0).1 0 (ix2 (0 : Fin 2) (cell t 0)) : BitVec 32).toNat * 16 + r.val)
    (hX : X.val = ((a 0).1 0 (ix2 (1 : Fin 2) (cell t 0)) : BitVec 32).toNat * 512 + l.val) :
    blk0 a V c 0 t (ix2 r l) = V c main_v0 (ix2 Y X) := by
  have hi : ∀ x : Fin 2, ((((C0 a).win 0).blk t).view.emb (ix2 r l) x).val = (![((a 0).1 0 (ix2 (0 : Fin 2) (cell t 0)) : BitVec 32).toNat, ((a 0).1 0 (ix2 (1 : Fin 2) (cell t 0)) : BitVec 32).toNat] : Fin 2 → ℕ) x * S16x512.size x + ((ix2 r l : S16x512.Idx) x).val := fun x => by
    blk_simp [index0_0]
    rfl
  exact congrArg (fun z : S1024x32768.Idx => V c main_v0 z) (mk2_ext ((hi 0).trans hY.symm) ((hi 1).trans hX.symm))

theorem index0_1 (t : Fin grid0.N) : ((C0 a).win 1).index t = ![((a 0).1 0 (ix2 (0 : Fin 2) (cell t 1)) : BitVec 32).toNat, ((a 0).1 0 (ix2 (1 : Fin 2) (cell t 1)) : BitVec 32).toNat] := by
  show cc0_transform_1 Facts₀.k0_off1_inb Facts₀.numel1_S1x1 Facts₀.k0_off2_inb (a 0).1 (grid0.coords t) = _
  have hw := wj (grid0.coords t 0).val 1 (by rw [co0]; exact t.isLt) (by decide)
  rw [co0] at hw
  unfold cc0_transform_1
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 1))).toNat) (co0 t)).trans hw)
  · exact (Nat.add_zero _).trans ((congrArg (fun z => (Scalar.indexCast (Scalar.addi (Scalar.muli 16#32 (BitVec.ofNat 32 z)) (BitVec.ofNat 32 1))).toNat) (co0 t)).trans hw)

theorem blk0_1 (c : Dev nD) (t : Fin grid0.N) (r : Fin 16) (l : Fin 512) (Y : Fin 1024) (X : Fin 32768)
    (hY : Y.val = ((a 0).1 0 (ix2 (0 : Fin 2) (cell t 1)) : BitVec 32).toNat * 16 + r.val)
    (hX : X.val = ((a 0).1 0 (ix2 (1 : Fin 2) (cell t 1)) : BitVec 32).toNat * 512 + l.val) :
    blk0 a V c 1 t (ix2 r l) = V c main_v0 (ix2 Y X) := by
  have hi : ∀ x : Fin 2, ((((C0 a).win 1).blk t).view.emb (ix2 r l) x).val = (![((a 0).1 0 (ix2 (0 : Fin 2) (cell t 1)) : BitVec 32).toNat, ((a 0).1 0 (ix2 (1 : Fin 2) (cell t 1)) : BitVec 32).toNat] : Fin 2 → ℕ) x * S16x512.size x + ((ix2 r l : S16x512.Idx) x).val := fun x => by
    blk_simp [index0_1]
    rfl
  exact congrArg (fun z : S1024x32768.Idx => V c main_v0 z) (mk2_ext ((hi 0).trans hY.symm) ((hi 1).trans hX.symm))

theorem index0_2 (t : Fin grid0.N) : ((C0 a).win 2).index t = ![((a 0).1 0 (ix2 (0 : Fin 2) (cell t 2)) : BitVec 32).toNat, ((a 0).1 0 (ix2 (1 : Fin 2) (cell t 2)) : BitVec 32).toNat] := by
  show cc0_transform_2 Facts₀.k0_off1_inb Facts₀.numel1_S1x1 Facts₀.k0_off2_inb (a 0).1 (grid0.coords t) = _
  have hw := wj (grid0.coords t 0).val 2 (by rw [co0]; exact t.isLt) (by decide)
  rw [co0] at hw
  unfold cc0_transform_2
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 2))).toNat) (co0 t)).trans hw)
  · exact (Nat.add_zero _).trans ((congrArg (fun z => (Scalar.indexCast (Scalar.addi (Scalar.muli 16#32 (BitVec.ofNat 32 z)) (BitVec.ofNat 32 2))).toNat) (co0 t)).trans hw)

theorem blk0_2 (c : Dev nD) (t : Fin grid0.N) (r : Fin 16) (l : Fin 512) (Y : Fin 1024) (X : Fin 32768)
    (hY : Y.val = ((a 0).1 0 (ix2 (0 : Fin 2) (cell t 2)) : BitVec 32).toNat * 16 + r.val)
    (hX : X.val = ((a 0).1 0 (ix2 (1 : Fin 2) (cell t 2)) : BitVec 32).toNat * 512 + l.val) :
    blk0 a V c 2 t (ix2 r l) = V c main_v0 (ix2 Y X) := by
  have hi : ∀ x : Fin 2, ((((C0 a).win 2).blk t).view.emb (ix2 r l) x).val = (![((a 0).1 0 (ix2 (0 : Fin 2) (cell t 2)) : BitVec 32).toNat, ((a 0).1 0 (ix2 (1 : Fin 2) (cell t 2)) : BitVec 32).toNat] : Fin 2 → ℕ) x * S16x512.size x + ((ix2 r l : S16x512.Idx) x).val := fun x => by
    blk_simp [index0_2]
    rfl
  exact congrArg (fun z : S1024x32768.Idx => V c main_v0 z) (mk2_ext ((hi 0).trans hY.symm) ((hi 1).trans hX.symm))

theorem index0_3 (t : Fin grid0.N) : ((C0 a).win 3).index t = ![((a 0).1 0 (ix2 (0 : Fin 2) (cell t 3)) : BitVec 32).toNat, ((a 0).1 0 (ix2 (1 : Fin 2) (cell t 3)) : BitVec 32).toNat] := by
  show cc0_transform_3 Facts₀.k0_off1_inb Facts₀.numel1_S1x1 Facts₀.k0_off2_inb (a 0).1 (grid0.coords t) = _
  have hw := wj (grid0.coords t 0).val 3 (by rw [co0]; exact t.isLt) (by decide)
  rw [co0] at hw
  unfold cc0_transform_3
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 3))).toNat) (co0 t)).trans hw)
  · exact (Nat.add_zero _).trans ((congrArg (fun z => (Scalar.indexCast (Scalar.addi (Scalar.muli 16#32 (BitVec.ofNat 32 z)) (BitVec.ofNat 32 3))).toNat) (co0 t)).trans hw)

theorem blk0_3 (c : Dev nD) (t : Fin grid0.N) (r : Fin 16) (l : Fin 512) (Y : Fin 1024) (X : Fin 32768)
    (hY : Y.val = ((a 0).1 0 (ix2 (0 : Fin 2) (cell t 3)) : BitVec 32).toNat * 16 + r.val)
    (hX : X.val = ((a 0).1 0 (ix2 (1 : Fin 2) (cell t 3)) : BitVec 32).toNat * 512 + l.val) :
    blk0 a V c 3 t (ix2 r l) = V c main_v0 (ix2 Y X) := by
  have hi : ∀ x : Fin 2, ((((C0 a).win 3).blk t).view.emb (ix2 r l) x).val = (![((a 0).1 0 (ix2 (0 : Fin 2) (cell t 3)) : BitVec 32).toNat, ((a 0).1 0 (ix2 (1 : Fin 2) (cell t 3)) : BitVec 32).toNat] : Fin 2 → ℕ) x * S16x512.size x + ((ix2 r l : S16x512.Idx) x).val := fun x => by
    blk_simp [index0_3]
    rfl
  exact congrArg (fun z : S1024x32768.Idx => V c main_v0 z) (mk2_ext ((hi 0).trans hY.symm) ((hi 1).trans hX.symm))

theorem index0_4 (t : Fin grid0.N) : ((C0 a).win 4).index t = ![((a 0).1 0 (ix2 (0 : Fin 2) (cell t 4)) : BitVec 32).toNat, ((a 0).1 0 (ix2 (1 : Fin 2) (cell t 4)) : BitVec 32).toNat] := by
  show cc0_transform_4 Facts₀.k0_off1_inb Facts₀.numel1_S1x1 Facts₀.k0_off2_inb (a 0).1 (grid0.coords t) = _
  have hw := wj (grid0.coords t 0).val 4 (by rw [co0]; exact t.isLt) (by decide)
  rw [co0] at hw
  unfold cc0_transform_4
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 4))).toNat) (co0 t)).trans hw)
  · exact (Nat.add_zero _).trans ((congrArg (fun z => (Scalar.indexCast (Scalar.addi (Scalar.muli 16#32 (BitVec.ofNat 32 z)) (BitVec.ofNat 32 4))).toNat) (co0 t)).trans hw)

theorem blk0_4 (c : Dev nD) (t : Fin grid0.N) (r : Fin 16) (l : Fin 512) (Y : Fin 1024) (X : Fin 32768)
    (hY : Y.val = ((a 0).1 0 (ix2 (0 : Fin 2) (cell t 4)) : BitVec 32).toNat * 16 + r.val)
    (hX : X.val = ((a 0).1 0 (ix2 (1 : Fin 2) (cell t 4)) : BitVec 32).toNat * 512 + l.val) :
    blk0 a V c 4 t (ix2 r l) = V c main_v0 (ix2 Y X) := by
  have hi : ∀ x : Fin 2, ((((C0 a).win 4).blk t).view.emb (ix2 r l) x).val = (![((a 0).1 0 (ix2 (0 : Fin 2) (cell t 4)) : BitVec 32).toNat, ((a 0).1 0 (ix2 (1 : Fin 2) (cell t 4)) : BitVec 32).toNat] : Fin 2 → ℕ) x * S16x512.size x + ((ix2 r l : S16x512.Idx) x).val := fun x => by
    blk_simp [index0_4]
    rfl
  exact congrArg (fun z : S1024x32768.Idx => V c main_v0 z) (mk2_ext ((hi 0).trans hY.symm) ((hi 1).trans hX.symm))

theorem index0_5 (t : Fin grid0.N) : ((C0 a).win 5).index t = ![((a 0).1 0 (ix2 (0 : Fin 2) (cell t 5)) : BitVec 32).toNat, ((a 0).1 0 (ix2 (1 : Fin 2) (cell t 5)) : BitVec 32).toNat] := by
  show cc0_transform_5 Facts₀.k0_off1_inb Facts₀.numel1_S1x1 Facts₀.k0_off2_inb (a 0).1 (grid0.coords t) = _
  have hw := wj (grid0.coords t 0).val 5 (by rw [co0]; exact t.isLt) (by decide)
  rw [co0] at hw
  unfold cc0_transform_5
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 5))).toNat) (co0 t)).trans hw)
  · exact (Nat.add_zero _).trans ((congrArg (fun z => (Scalar.indexCast (Scalar.addi (Scalar.muli 16#32 (BitVec.ofNat 32 z)) (BitVec.ofNat 32 5))).toNat) (co0 t)).trans hw)

theorem blk0_5 (c : Dev nD) (t : Fin grid0.N) (r : Fin 16) (l : Fin 512) (Y : Fin 1024) (X : Fin 32768)
    (hY : Y.val = ((a 0).1 0 (ix2 (0 : Fin 2) (cell t 5)) : BitVec 32).toNat * 16 + r.val)
    (hX : X.val = ((a 0).1 0 (ix2 (1 : Fin 2) (cell t 5)) : BitVec 32).toNat * 512 + l.val) :
    blk0 a V c 5 t (ix2 r l) = V c main_v0 (ix2 Y X) := by
  have hi : ∀ x : Fin 2, ((((C0 a).win 5).blk t).view.emb (ix2 r l) x).val = (![((a 0).1 0 (ix2 (0 : Fin 2) (cell t 5)) : BitVec 32).toNat, ((a 0).1 0 (ix2 (1 : Fin 2) (cell t 5)) : BitVec 32).toNat] : Fin 2 → ℕ) x * S16x512.size x + ((ix2 r l : S16x512.Idx) x).val := fun x => by
    blk_simp [index0_5]
    rfl
  exact congrArg (fun z : S1024x32768.Idx => V c main_v0 z) (mk2_ext ((hi 0).trans hY.symm) ((hi 1).trans hX.symm))

theorem index0_6 (t : Fin grid0.N) : ((C0 a).win 6).index t = ![((a 0).1 0 (ix2 (0 : Fin 2) (cell t 6)) : BitVec 32).toNat, ((a 0).1 0 (ix2 (1 : Fin 2) (cell t 6)) : BitVec 32).toNat] := by
  show cc0_transform_6 Facts₀.k0_off1_inb Facts₀.numel1_S1x1 Facts₀.k0_off2_inb (a 0).1 (grid0.coords t) = _
  have hw := wj (grid0.coords t 0).val 6 (by rw [co0]; exact t.isLt) (by decide)
  rw [co0] at hw
  unfold cc0_transform_6
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 6))).toNat) (co0 t)).trans hw)
  · exact (Nat.add_zero _).trans ((congrArg (fun z => (Scalar.indexCast (Scalar.addi (Scalar.muli 16#32 (BitVec.ofNat 32 z)) (BitVec.ofNat 32 6))).toNat) (co0 t)).trans hw)

theorem blk0_6 (c : Dev nD) (t : Fin grid0.N) (r : Fin 16) (l : Fin 512) (Y : Fin 1024) (X : Fin 32768)
    (hY : Y.val = ((a 0).1 0 (ix2 (0 : Fin 2) (cell t 6)) : BitVec 32).toNat * 16 + r.val)
    (hX : X.val = ((a 0).1 0 (ix2 (1 : Fin 2) (cell t 6)) : BitVec 32).toNat * 512 + l.val) :
    blk0 a V c 6 t (ix2 r l) = V c main_v0 (ix2 Y X) := by
  have hi : ∀ x : Fin 2, ((((C0 a).win 6).blk t).view.emb (ix2 r l) x).val = (![((a 0).1 0 (ix2 (0 : Fin 2) (cell t 6)) : BitVec 32).toNat, ((a 0).1 0 (ix2 (1 : Fin 2) (cell t 6)) : BitVec 32).toNat] : Fin 2 → ℕ) x * S16x512.size x + ((ix2 r l : S16x512.Idx) x).val := fun x => by
    blk_simp [index0_6]
    rfl
  exact congrArg (fun z : S1024x32768.Idx => V c main_v0 z) (mk2_ext ((hi 0).trans hY.symm) ((hi 1).trans hX.symm))

theorem index0_7 (t : Fin grid0.N) : ((C0 a).win 7).index t = ![((a 0).1 0 (ix2 (0 : Fin 2) (cell t 7)) : BitVec 32).toNat, ((a 0).1 0 (ix2 (1 : Fin 2) (cell t 7)) : BitVec 32).toNat] := by
  show cc0_transform_7 Facts₀.k0_off1_inb Facts₀.numel1_S1x1 Facts₀.k0_off2_inb (a 0).1 (grid0.coords t) = _
  have hw := wj (grid0.coords t 0).val 7 (by rw [co0]; exact t.isLt) (by decide)
  rw [co0] at hw
  unfold cc0_transform_7
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 7))).toNat) (co0 t)).trans hw)
  · exact (Nat.add_zero _).trans ((congrArg (fun z => (Scalar.indexCast (Scalar.addi (Scalar.muli 16#32 (BitVec.ofNat 32 z)) (BitVec.ofNat 32 7))).toNat) (co0 t)).trans hw)

theorem blk0_7 (c : Dev nD) (t : Fin grid0.N) (r : Fin 16) (l : Fin 512) (Y : Fin 1024) (X : Fin 32768)
    (hY : Y.val = ((a 0).1 0 (ix2 (0 : Fin 2) (cell t 7)) : BitVec 32).toNat * 16 + r.val)
    (hX : X.val = ((a 0).1 0 (ix2 (1 : Fin 2) (cell t 7)) : BitVec 32).toNat * 512 + l.val) :
    blk0 a V c 7 t (ix2 r l) = V c main_v0 (ix2 Y X) := by
  have hi : ∀ x : Fin 2, ((((C0 a).win 7).blk t).view.emb (ix2 r l) x).val = (![((a 0).1 0 (ix2 (0 : Fin 2) (cell t 7)) : BitVec 32).toNat, ((a 0).1 0 (ix2 (1 : Fin 2) (cell t 7)) : BitVec 32).toNat] : Fin 2 → ℕ) x * S16x512.size x + ((ix2 r l : S16x512.Idx) x).val := fun x => by
    blk_simp [index0_7]
    rfl
  exact congrArg (fun z : S1024x32768.Idx => V c main_v0 z) (mk2_ext ((hi 0).trans hY.symm) ((hi 1).trans hX.symm))

theorem index0_8 (t : Fin grid0.N) : ((C0 a).win 8).index t = ![((a 0).1 0 (ix2 (0 : Fin 2) (cell t 8)) : BitVec 32).toNat, ((a 0).1 0 (ix2 (1 : Fin 2) (cell t 8)) : BitVec 32).toNat] := by
  show cc0_transform_8 Facts₀.k0_off1_inb Facts₀.numel1_S1x1 Facts₀.k0_off2_inb (a 0).1 (grid0.coords t) = _
  have hw := wj (grid0.coords t 0).val 8 (by rw [co0]; exact t.isLt) (by decide)
  rw [co0] at hw
  unfold cc0_transform_8
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 8))).toNat) (co0 t)).trans hw)
  · exact (Nat.add_zero _).trans ((congrArg (fun z => (Scalar.indexCast (Scalar.addi (Scalar.muli 16#32 (BitVec.ofNat 32 z)) (BitVec.ofNat 32 8))).toNat) (co0 t)).trans hw)

theorem blk0_8 (c : Dev nD) (t : Fin grid0.N) (r : Fin 16) (l : Fin 512) (Y : Fin 1024) (X : Fin 32768)
    (hY : Y.val = ((a 0).1 0 (ix2 (0 : Fin 2) (cell t 8)) : BitVec 32).toNat * 16 + r.val)
    (hX : X.val = ((a 0).1 0 (ix2 (1 : Fin 2) (cell t 8)) : BitVec 32).toNat * 512 + l.val) :
    blk0 a V c 8 t (ix2 r l) = V c main_v0 (ix2 Y X) := by
  have hi : ∀ x : Fin 2, ((((C0 a).win 8).blk t).view.emb (ix2 r l) x).val = (![((a 0).1 0 (ix2 (0 : Fin 2) (cell t 8)) : BitVec 32).toNat, ((a 0).1 0 (ix2 (1 : Fin 2) (cell t 8)) : BitVec 32).toNat] : Fin 2 → ℕ) x * S16x512.size x + ((ix2 r l : S16x512.Idx) x).val := fun x => by
    blk_simp [index0_8]
    rfl
  exact congrArg (fun z : S1024x32768.Idx => V c main_v0 z) (mk2_ext ((hi 0).trans hY.symm) ((hi 1).trans hX.symm))

theorem index0_9 (t : Fin grid0.N) : ((C0 a).win 9).index t = ![((a 0).1 0 (ix2 (0 : Fin 2) (cell t 9)) : BitVec 32).toNat, ((a 0).1 0 (ix2 (1 : Fin 2) (cell t 9)) : BitVec 32).toNat] := by
  show cc0_transform_9 Facts₀.k0_off1_inb Facts₀.numel1_S1x1 Facts₀.k0_off2_inb (a 0).1 (grid0.coords t) = _
  have hw := wj (grid0.coords t 0).val 9 (by rw [co0]; exact t.isLt) (by decide)
  rw [co0] at hw
  unfold cc0_transform_9
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 9))).toNat) (co0 t)).trans hw)
  · exact (Nat.add_zero _).trans ((congrArg (fun z => (Scalar.indexCast (Scalar.addi (Scalar.muli 16#32 (BitVec.ofNat 32 z)) (BitVec.ofNat 32 9))).toNat) (co0 t)).trans hw)

theorem blk0_9 (c : Dev nD) (t : Fin grid0.N) (r : Fin 16) (l : Fin 512) (Y : Fin 1024) (X : Fin 32768)
    (hY : Y.val = ((a 0).1 0 (ix2 (0 : Fin 2) (cell t 9)) : BitVec 32).toNat * 16 + r.val)
    (hX : X.val = ((a 0).1 0 (ix2 (1 : Fin 2) (cell t 9)) : BitVec 32).toNat * 512 + l.val) :
    blk0 a V c 9 t (ix2 r l) = V c main_v0 (ix2 Y X) := by
  have hi : ∀ x : Fin 2, ((((C0 a).win 9).blk t).view.emb (ix2 r l) x).val = (![((a 0).1 0 (ix2 (0 : Fin 2) (cell t 9)) : BitVec 32).toNat, ((a 0).1 0 (ix2 (1 : Fin 2) (cell t 9)) : BitVec 32).toNat] : Fin 2 → ℕ) x * S16x512.size x + ((ix2 r l : S16x512.Idx) x).val := fun x => by
    blk_simp [index0_9]
    rfl
  exact congrArg (fun z : S1024x32768.Idx => V c main_v0 z) (mk2_ext ((hi 0).trans hY.symm) ((hi 1).trans hX.symm))

theorem index0_10 (t : Fin grid0.N) : ((C0 a).win 10).index t = ![((a 0).1 0 (ix2 (0 : Fin 2) (cell t 10)) : BitVec 32).toNat, ((a 0).1 0 (ix2 (1 : Fin 2) (cell t 10)) : BitVec 32).toNat] := by
  show cc0_transform_10 Facts₀.k0_off1_inb Facts₀.numel1_S1x1 Facts₀.k0_off2_inb (a 0).1 (grid0.coords t) = _
  have hw := wj (grid0.coords t 0).val 10 (by rw [co0]; exact t.isLt) (by decide)
  rw [co0] at hw
  unfold cc0_transform_10
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 10))).toNat) (co0 t)).trans hw)
  · exact (Nat.add_zero _).trans ((congrArg (fun z => (Scalar.indexCast (Scalar.addi (Scalar.muli 16#32 (BitVec.ofNat 32 z)) (BitVec.ofNat 32 10))).toNat) (co0 t)).trans hw)

theorem blk0_10 (c : Dev nD) (t : Fin grid0.N) (r : Fin 16) (l : Fin 512) (Y : Fin 1024) (X : Fin 32768)
    (hY : Y.val = ((a 0).1 0 (ix2 (0 : Fin 2) (cell t 10)) : BitVec 32).toNat * 16 + r.val)
    (hX : X.val = ((a 0).1 0 (ix2 (1 : Fin 2) (cell t 10)) : BitVec 32).toNat * 512 + l.val) :
    blk0 a V c 10 t (ix2 r l) = V c main_v0 (ix2 Y X) := by
  have hi : ∀ x : Fin 2, ((((C0 a).win 10).blk t).view.emb (ix2 r l) x).val = (![((a 0).1 0 (ix2 (0 : Fin 2) (cell t 10)) : BitVec 32).toNat, ((a 0).1 0 (ix2 (1 : Fin 2) (cell t 10)) : BitVec 32).toNat] : Fin 2 → ℕ) x * S16x512.size x + ((ix2 r l : S16x512.Idx) x).val := fun x => by
    blk_simp [index0_10]
    rfl
  exact congrArg (fun z : S1024x32768.Idx => V c main_v0 z) (mk2_ext ((hi 0).trans hY.symm) ((hi 1).trans hX.symm))

theorem index0_11 (t : Fin grid0.N) : ((C0 a).win 11).index t = ![((a 0).1 0 (ix2 (0 : Fin 2) (cell t 11)) : BitVec 32).toNat, ((a 0).1 0 (ix2 (1 : Fin 2) (cell t 11)) : BitVec 32).toNat] := by
  show cc0_transform_11 Facts₀.k0_off1_inb Facts₀.numel1_S1x1 Facts₀.k0_off2_inb (a 0).1 (grid0.coords t) = _
  have hw := wj (grid0.coords t 0).val 11 (by rw [co0]; exact t.isLt) (by decide)
  rw [co0] at hw
  unfold cc0_transform_11
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 11))).toNat) (co0 t)).trans hw)
  · exact (Nat.add_zero _).trans ((congrArg (fun z => (Scalar.indexCast (Scalar.addi (Scalar.muli 16#32 (BitVec.ofNat 32 z)) (BitVec.ofNat 32 11))).toNat) (co0 t)).trans hw)

theorem blk0_11 (c : Dev nD) (t : Fin grid0.N) (r : Fin 16) (l : Fin 512) (Y : Fin 1024) (X : Fin 32768)
    (hY : Y.val = ((a 0).1 0 (ix2 (0 : Fin 2) (cell t 11)) : BitVec 32).toNat * 16 + r.val)
    (hX : X.val = ((a 0).1 0 (ix2 (1 : Fin 2) (cell t 11)) : BitVec 32).toNat * 512 + l.val) :
    blk0 a V c 11 t (ix2 r l) = V c main_v0 (ix2 Y X) := by
  have hi : ∀ x : Fin 2, ((((C0 a).win 11).blk t).view.emb (ix2 r l) x).val = (![((a 0).1 0 (ix2 (0 : Fin 2) (cell t 11)) : BitVec 32).toNat, ((a 0).1 0 (ix2 (1 : Fin 2) (cell t 11)) : BitVec 32).toNat] : Fin 2 → ℕ) x * S16x512.size x + ((ix2 r l : S16x512.Idx) x).val := fun x => by
    blk_simp [index0_11]
    rfl
  exact congrArg (fun z : S1024x32768.Idx => V c main_v0 z) (mk2_ext ((hi 0).trans hY.symm) ((hi 1).trans hX.symm))

theorem index0_12 (t : Fin grid0.N) : ((C0 a).win 12).index t = ![((a 0).1 0 (ix2 (0 : Fin 2) (cell t 12)) : BitVec 32).toNat, ((a 0).1 0 (ix2 (1 : Fin 2) (cell t 12)) : BitVec 32).toNat] := by
  show cc0_transform_12 Facts₀.k0_off1_inb Facts₀.numel1_S1x1 Facts₀.k0_off2_inb (a 0).1 (grid0.coords t) = _
  have hw := wj (grid0.coords t 0).val 12 (by rw [co0]; exact t.isLt) (by decide)
  rw [co0] at hw
  unfold cc0_transform_12
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 12))).toNat) (co0 t)).trans hw)
  · exact (Nat.add_zero _).trans ((congrArg (fun z => (Scalar.indexCast (Scalar.addi (Scalar.muli 16#32 (BitVec.ofNat 32 z)) (BitVec.ofNat 32 12))).toNat) (co0 t)).trans hw)

theorem blk0_12 (c : Dev nD) (t : Fin grid0.N) (r : Fin 16) (l : Fin 512) (Y : Fin 1024) (X : Fin 32768)
    (hY : Y.val = ((a 0).1 0 (ix2 (0 : Fin 2) (cell t 12)) : BitVec 32).toNat * 16 + r.val)
    (hX : X.val = ((a 0).1 0 (ix2 (1 : Fin 2) (cell t 12)) : BitVec 32).toNat * 512 + l.val) :
    blk0 a V c 12 t (ix2 r l) = V c main_v0 (ix2 Y X) := by
  have hi : ∀ x : Fin 2, ((((C0 a).win 12).blk t).view.emb (ix2 r l) x).val = (![((a 0).1 0 (ix2 (0 : Fin 2) (cell t 12)) : BitVec 32).toNat, ((a 0).1 0 (ix2 (1 : Fin 2) (cell t 12)) : BitVec 32).toNat] : Fin 2 → ℕ) x * S16x512.size x + ((ix2 r l : S16x512.Idx) x).val := fun x => by
    blk_simp [index0_12]
    rfl
  exact congrArg (fun z : S1024x32768.Idx => V c main_v0 z) (mk2_ext ((hi 0).trans hY.symm) ((hi 1).trans hX.symm))

theorem index0_13 (t : Fin grid0.N) : ((C0 a).win 13).index t = ![((a 0).1 0 (ix2 (0 : Fin 2) (cell t 13)) : BitVec 32).toNat, ((a 0).1 0 (ix2 (1 : Fin 2) (cell t 13)) : BitVec 32).toNat] := by
  show cc0_transform_13 Facts₀.k0_off1_inb Facts₀.numel1_S1x1 Facts₀.k0_off2_inb (a 0).1 (grid0.coords t) = _
  have hw := wj (grid0.coords t 0).val 13 (by rw [co0]; exact t.isLt) (by decide)
  rw [co0] at hw
  unfold cc0_transform_13
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 13))).toNat) (co0 t)).trans hw)
  · exact (Nat.add_zero _).trans ((congrArg (fun z => (Scalar.indexCast (Scalar.addi (Scalar.muli 16#32 (BitVec.ofNat 32 z)) (BitVec.ofNat 32 13))).toNat) (co0 t)).trans hw)

theorem blk0_13 (c : Dev nD) (t : Fin grid0.N) (r : Fin 16) (l : Fin 512) (Y : Fin 1024) (X : Fin 32768)
    (hY : Y.val = ((a 0).1 0 (ix2 (0 : Fin 2) (cell t 13)) : BitVec 32).toNat * 16 + r.val)
    (hX : X.val = ((a 0).1 0 (ix2 (1 : Fin 2) (cell t 13)) : BitVec 32).toNat * 512 + l.val) :
    blk0 a V c 13 t (ix2 r l) = V c main_v0 (ix2 Y X) := by
  have hi : ∀ x : Fin 2, ((((C0 a).win 13).blk t).view.emb (ix2 r l) x).val = (![((a 0).1 0 (ix2 (0 : Fin 2) (cell t 13)) : BitVec 32).toNat, ((a 0).1 0 (ix2 (1 : Fin 2) (cell t 13)) : BitVec 32).toNat] : Fin 2 → ℕ) x * S16x512.size x + ((ix2 r l : S16x512.Idx) x).val := fun x => by
    blk_simp [index0_13]
    rfl
  exact congrArg (fun z : S1024x32768.Idx => V c main_v0 z) (mk2_ext ((hi 0).trans hY.symm) ((hi 1).trans hX.symm))

theorem index0_14 (t : Fin grid0.N) : ((C0 a).win 14).index t = ![((a 0).1 0 (ix2 (0 : Fin 2) (cell t 14)) : BitVec 32).toNat, ((a 0).1 0 (ix2 (1 : Fin 2) (cell t 14)) : BitVec 32).toNat] := by
  show cc0_transform_14 Facts₀.k0_off1_inb Facts₀.numel1_S1x1 Facts₀.k0_off2_inb (a 0).1 (grid0.coords t) = _
  have hw := wj (grid0.coords t 0).val 14 (by rw [co0]; exact t.isLt) (by decide)
  rw [co0] at hw
  unfold cc0_transform_14
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 14))).toNat) (co0 t)).trans hw)
  · exact (Nat.add_zero _).trans ((congrArg (fun z => (Scalar.indexCast (Scalar.addi (Scalar.muli 16#32 (BitVec.ofNat 32 z)) (BitVec.ofNat 32 14))).toNat) (co0 t)).trans hw)

theorem blk0_14 (c : Dev nD) (t : Fin grid0.N) (r : Fin 16) (l : Fin 512) (Y : Fin 1024) (X : Fin 32768)
    (hY : Y.val = ((a 0).1 0 (ix2 (0 : Fin 2) (cell t 14)) : BitVec 32).toNat * 16 + r.val)
    (hX : X.val = ((a 0).1 0 (ix2 (1 : Fin 2) (cell t 14)) : BitVec 32).toNat * 512 + l.val) :
    blk0 a V c 14 t (ix2 r l) = V c main_v0 (ix2 Y X) := by
  have hi : ∀ x : Fin 2, ((((C0 a).win 14).blk t).view.emb (ix2 r l) x).val = (![((a 0).1 0 (ix2 (0 : Fin 2) (cell t 14)) : BitVec 32).toNat, ((a 0).1 0 (ix2 (1 : Fin 2) (cell t 14)) : BitVec 32).toNat] : Fin 2 → ℕ) x * S16x512.size x + ((ix2 r l : S16x512.Idx) x).val := fun x => by
    blk_simp [index0_14]
    rfl
  exact congrArg (fun z : S1024x32768.Idx => V c main_v0 z) (mk2_ext ((hi 0).trans hY.symm) ((hi 1).trans hX.symm))

theorem index0_15 (t : Fin grid0.N) : ((C0 a).win 15).index t = ![((a 0).1 0 (ix2 (0 : Fin 2) (cell t 15)) : BitVec 32).toNat, ((a 0).1 0 (ix2 (1 : Fin 2) (cell t 15)) : BitVec 32).toNat] := by
  show cc0_transform_15 Facts₀.k0_off1_inb Facts₀.numel1_S1x1 Facts₀.k0_off2_inb (a 0).1 (grid0.coords t) = _
  have hw := wj (grid0.coords t 0).val 15 (by rw [co0]; exact t.isLt) (by decide)
  rw [co0] at hw
  unfold cc0_transform_15
  refine congrArg₂ (fun p q : S2x400.Idx => (![((a 0).1 0 p : BitVec 32).toNat, ((a 0).1 0 q : BitVec 32).toNat] : Fin 2 → ℕ)) (mk2_ext rfl ?_) (mk2_ext rfl ?_)
  · exact (Nat.add_zero _).trans ((congrArg (fun z => (Scalar.indexCast (Scalar.addi (Scalar.muli 16#32 (BitVec.ofNat 32 z)) (BitVec.ofNat 32 15))).toNat) (co0 t)).trans hw)
  · exact (Nat.add_zero _).trans ((congrArg (fun z => (Scalar.indexCast (Scalar.addi (Scalar.muli 16#32 (BitVec.ofNat 32 z)) (BitVec.ofNat 32 15))).toNat) (co0 t)).trans hw)

theorem blk0_15 (c : Dev nD) (t : Fin grid0.N) (r : Fin 16) (l : Fin 512) (Y : Fin 1024) (X : Fin 32768)
    (hY : Y.val = ((a 0).1 0 (ix2 (0 : Fin 2) (cell t 15)) : BitVec 32).toNat * 16 + r.val)
    (hX : X.val = ((a 0).1 0 (ix2 (1 : Fin 2) (cell t 15)) : BitVec 32).toNat * 512 + l.val) :
    blk0 a V c 15 t (ix2 r l) = V c main_v0 (ix2 Y X) := by
  have hi : ∀ x : Fin 2, ((((C0 a).win 15).blk t).view.emb (ix2 r l) x).val = (![((a 0).1 0 (ix2 (0 : Fin 2) (cell t 15)) : BitVec 32).toNat, ((a 0).1 0 (ix2 (1 : Fin 2) (cell t 15)) : BitVec 32).toNat] : Fin 2 → ℕ) x * S16x512.size x + ((ix2 r l : S16x512.Idx) x).val := fun x => by
    blk_simp [index0_15]
    rfl
  exact congrArg (fun z : S1024x32768.Idx => V c main_v0 z) (mk2_ext ((hi 0).trans hY.symm) ((hi 1).trans hX.symm))

end Cert.Proof.KernelIdeal

end
-- ==== Proof.KIVImg.lean ====
module

public import proofs.«01_k».proof.Proof.KIVOut
public import proofs.«01_k».proof.Proof.KITab
public import Idealize.ShloMosaic.Lib.StableHlo.ReadAt
public import Idealize.ShloMosaic.Lib.Tactic.WordOmega

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.StableHlo (after)

variable {F : FTy → Type} [FloatOps F]

/-- The band after its blocks: whatever holds of every block placed at the entry's column, and of the image if none is, holds of
    the entry. -/
theorem bandSt_spec {α : Type} (P : α → Prop) (lb : ℕ) (T : S400.Idx → BitVec 32) (D : S400x16x512.Idx → α) (X : S16x64x512.Idx → α)
    (y : S16x64x512.Idx) (n : ℕ)
    (hD : ∀ k, k < n → (y 1).val = (T (i400 (lb + k))).toNat → P (D (mk3 (n400 (lb + k)) (y 0) (y 2))))
    (hX : (∀ k, k < n → (y 1).val ≠ (T (i400 (lb + k))).toNat) → P (X y)) : P (bandSt lb T D X n y) := by
  induction n with
  | zero => exact hX fun k hk => absurd hk (Nat.not_lt_zero _)
  | succ n ih =>
    show P (if (y 1).val = (T (i400 (lb + n))).toNat then D (mk3 (n400 (lb + n)) (y 0) (y 2)) else bandSt lb T D X n y)
    by_cases h : (y 1).val = (T (i400 (lb + n))).toNat
    · rw [if_pos h]; exact hD n (Nat.lt_succ_self n) h
    · rw [if_neg h]
      refine ih (fun k hk => hD k (Nat.lt_succ_of_lt hk)) fun hn => hX fun k hk => ?_
      rcases Nat.lt_succ_iff_lt_or_eq.1 hk with hk | rfl
      · exact hn k hk
      · exact h

/-- In a table sorted upwards the entries below `v` are the first ones. -/
theorem lt_below_iff (a : Fin 400 → BitVec 32) (hs : ∀ i j : Fin 400, i ≤ j → (a i).toNat ≤ (a j).toNat) (k : Fin 400) (v : ℕ) :
    k.val < below a v ↔ (a k).toNat < v := by
  unfold below
  constructor
  · intro h
    by_contra hv
    have hsub : (Finset.univ.filter fun q : Fin 400 => (a q).toNat < v) ⊆ Finset.Iio k := fun q hq => by
      rw [Finset.mem_filter] at hq
      rw [Finset.mem_Iio]
      refine lt_of_not_ge fun hkq => ?_
      have := hs k q hkq
      omega
    have := Finset.card_le_card hsub
    rw [Fin.card_Iio] at this
    omega
  · intro h
    have hsub : Finset.Iic k ⊆ Finset.univ.filter fun q : Fin 400 => (a q).toNat < v := fun q hq => by
      rw [Finset.mem_Iic] at hq
      rw [Finset.mem_filter]
      exact ⟨Finset.mem_univ _, lt_of_le_of_lt (hs q k hq) h⟩
    have := Finset.card_le_card hsub
    rw [Fin.card_Iic] at this
    omega

theorem modW_toInt (r : BitVec 32) : (modW r).toInt = ((modW r).toNat : ℤ) := by
  have := modW_lt r
  rw [BitVec.toInt_eq_toNat_cond]; split <;> omega

variable (m : (ℓ : Loc nD τ sig) → Buf (Elt F) ℓ)

theorem by_sorted (c : Dev nD) (i j : Fin 400) (h : i ≤ j) : (byT m c (sg m c i)).toNat ≤ (byT m c (sg m c j)).toNat := by
  have := ordP_sorted (byT m c) i j h
  have h1 := modW_toInt ((m ((c : Thread nD τ).loc main_arg1) : S400x3.Idx → BitVec 32) (ix2 (ordP (byT m c) i) 1))
  have h2 := modW_toInt ((m ((c : Thread nD τ).loc main_arg1) : S400x3.Idx → BitVec 32) (ix2 (ordP (byT m c) j) 1))
  unfold sg byT
  unfold byT at this h1 h2
  omega

/-! ### The image as the two kernels read it -/

theorem st0_v0 (V : Valuation τ sig (Elt F)) (Y : Fin 1024) (X : Fin 32768) :
    (after Gen.hostOps0 V main_v0 : S1024x32768.Idx → F .f32) (ix2 Y X)
      = (V main_arg0 : S1x1024x1024x32.Idx → F .f32) (ix4 0 Y ⟨X.val / 32, by omega⟩ ⟨X.val % 32, by omega⟩) := by
  after_reads_at

theorem st0_v1 (V : Valuation τ sig (Elt F)) (Y : Fin 1024) (q : Fin 64) (l : Fin 512) :
    (after Gen.hostOps0 V main_v1 : S1024x64x512.Idx → F .f32) (ix3 Y q l)
      = (V main_arg0 : S1x1024x1024x32.Idx → F .f32) (ix4 0 Y ⟨q.val * 16 + l.val / 32, by omega⟩ ⟨l.val % 32, by omega⟩) := by
  after_reads_at

theorem st2_v145 (V : Valuation τ sig (Elt F)) (Y X : Fin 1024) (ch : Fin 32) :
    (after Gen.hostOps2 V main_v145 : S1x1024x1024x32.Idx → F .f32) (ix4 0 Y X ch)
      = (V main_v144 : S1024x64x512.Idx → F .f32) (ix3 Y ⟨X.val / 16, by omega⟩ ⟨X.val % 16 * 32 + ch.val, by omega⟩) := by
  after_reads_at

theorem V24_v0 (c : Dev nD) (Y : Fin 1024) (X : Fin 32768) :
    (Gen.V24 m c main_v0 : S1024x32768.Idx → F .f32) (ix2 Y X)
      = (m ((c : Thread nD τ).loc main_arg0) : S1x1024x1024x32.Idx → F .f32) (ix4 0 Y ⟨X.val / 32, by omega⟩ ⟨X.val % 32, by omega⟩) := by
  refine (congrFun ((Gen.V24_of m c main_v0 (by decide)).trans ((Gen.V23_of m c main_v0 (by decide)).trans ((Gen.V22_of m c main_v0 (by decide)).trans ((Gen.V21_of m c main_v0 (by decide)).trans ((Gen.V20_of m c main_v0 (by decide)).trans ((Gen.V19_of m c main_v0 (by decide)).trans ((Gen.V18_of m c main_v0 (by decide)).trans ((Gen.V17_of m c main_v0 (by decide)).trans ((Gen.V16_of m c main_v0 (by decide)).trans ((Gen.V15_of m c main_v0 (by decide)).trans ((Gen.V14_of m c main_v0 (by decide)).trans ((Gen.V13_of m c main_v0 (by decide)).trans ((Gen.V12_of m c main_v0 (by decide)).trans ((Gen.V11_of m c main_v0 (by decide)).trans ((Gen.V10_of m c main_v0 (by decide)).trans ((Gen.V9_of m c main_v0 (by decide)).trans ((Gen.V8_of m c main_v0 (by decide)).trans ((Gen.V7_of m c main_v0 (by decide)).trans ((Gen.V6_of m c main_v0 (by decide)).trans ((Gen.V5_of m c main_v0 (by decide)).trans ((Gen.V4_of m c main_v0 (by decide)).trans ((Gen.V3_of m c main_v0 (by decide)).trans ((Gen.V2_of m c main_v0 (by decide))))))))))))))))))))))))) (ix2 Y X)).trans ?_
  unfold Gen.V1
  rw [st0_v0]

theorem V24_v1 (c : Dev nD) (Y : Fin 1024) (q : Fin 64) (l : Fin 512) :
    (Gen.V24 m c main_v1 : S1024x64x512.Idx → F .f32) (ix3 Y q l)
      = (m ((c : Thread nD τ).loc main_arg0) : S1x1024x1024x32.Idx → F .f32) (ix4 0 Y ⟨q.val * 16 + l.val / 32, by omega⟩ ⟨l.val % 32, by omega⟩) := by
  refine (congrFun ((Gen.V24_of m c main_v1 (by decide)).trans ((Gen.V23_of m c main_v1 (by decide)).trans ((Gen.V22_of m c main_v1 (by decide)).trans ((Gen.V21_of m c main_v1 (by decide)).trans ((Gen.V20_of m c main_v1 (by decide)).trans ((Gen.V19_of m c main_v1 (by decide)).trans ((Gen.V18_of m c main_v1 (by decide)).trans ((Gen.V17_of m c main_v1 (by decide)).trans ((Gen.V16_of m c main_v1 (by decide)).trans ((Gen.V15_of m c main_v1 (by decide)).trans ((Gen.V14_of m c main_v1 (by decide)).trans ((Gen.V13_of m c main_v1 (by decide)).trans ((Gen.V12_of m c main_v1 (by decide)).trans ((Gen.V11_of m c main_v1 (by decide)).trans ((Gen.V10_of m c main_v1 (by decide)).trans ((Gen.V9_of m c main_v1 (by decide)).trans ((Gen.V8_of m c main_v1 (by decide)).trans ((Gen.V7_of m c main_v1 (by decide)).trans ((Gen.V6_of m c main_v1 (by decide)).trans ((Gen.V5_of m c main_v1 (by decide)).trans ((Gen.V4_of m c main_v1 (by decide)).trans ((Gen.V3_of m c main_v1 (by decide)).trans ((Gen.V2_of m c main_v1 (by decide))))))))))))))))))))))))) (ix3 Y q l)).trans ?_
  unfold Gen.V1
  rw [st0_v1]

theorem v0_ne : main_v0 ≠ main_v143 := by decide
theorem v1_ne : main_v1 ≠ main_v143 := by decide
theorem mk3_ix3 (i : Fin 400) (j : Fin 16) (k : Fin 512) : (mk3 (n := S400x16x512.size) i j k) = (ix3 i j k : S400x16x512.Idx) := by
  funext a; match a with | ⟨0, _⟩ => rfl | ⟨1, _⟩ => rfl | ⟨2, _⟩ => rfl
theorem mk3_ix3' (i : Fin 16) (j : Fin 64) (k : Fin 512) : (mk3 (n := S16x64x512.size) i j k) = (ix3 i j k : S16x64x512.Idx) := by
  funext a; match a with | ⟨0, _⟩ => rfl | ⟨1, _⟩ => rfl | ⟨2, _⟩ => rfl
theorem mk3_ix3'' (i : Fin 16) (j : Fin 16) (k : Fin 512) : (mk3 (n := S16x16x512.size) i j k) = (ix3 i j k : S16x16x512.Idx) := by
  funext a; match a with | ⟨0, _⟩ => rfl | ⟨1, _⟩ => rfl | ⟨2, _⟩ => rfl
theorem i400_eq (k : Fin 400) : i400 k.val = (ix1 k : S400.Idx) := by
  funext a; match a with | ⟨0, _⟩ => exact Fin.ext (Nat.mod_eq_of_lt k.isLt)

variable (hT : TabOK (Gen.V24 m 0))

/-- Tile `k` of the sorted list as the convolution leaves it. -/
def tileAt (c : Dev nD) (k : Fin 400) (r : Fin 16) (l : Fin 512) : F .f32 :=
  tile0 (adm m hT) (Gen.V24 m) c ⟨k.val / 16, by show _ < 25; omega⟩ (ix3 ⟨k.val % 16, by omega⟩ r l)

theorem out0_at (c : Dev nD) (k : Fin 400) (r : Fin 16) (l : Fin 512) :
    (V25' m hT c main_v143 : S400x16x512.Idx → F .f32) (ix3 k r l) = tileAt m hT c k r l := by
  unfold V25'
  refine (congrFun (Function.update_self (β := fun b : DevRef τ sig => b.ty.Contents (Elt F)) (Proc.devRef .tc main_v143) (out0 m hT c) (Gen.V24 m c)) (ix3 k r l)).trans ?_
  unfold out0
  refine (congrFun (out0_G (adm m hT) (Gen.V24 m) c) (ix3 k r l)).trans ?_
  exact congrArg (tile0 (adm m hT) (Gen.V24 m) c ⟨k.val / 16, _⟩) (mk3_ix3'' _ _ _)

theorem image_at (c : Dev nD) (Y : Fin 1024) (q : Fin 64) (l : Fin 512) :
    (V25' m hT c main_v1 : S1024x64x512.Idx → F .f32) (ix3 Y q l)
      = (m ((c : Thread nD τ).loc main_arg0) : S1x1024x1024x32.Idx → F .f32) (ix4 0 Y ⟨q.val * 16 + l.val / 32, by omega⟩ ⟨l.val % 32, by omega⟩) := by
  unfold V25'
  refine (congrFun (Function.update_of_ne (β := fun b : DevRef τ sig => b.ty.Contents (Elt F)) (StableHlo.devRef_ne_of_ne v1_ne) (out0 m hT c) (Gen.V24 m c)) (ix3 Y q l)).trans ?_
  exact V24_v1 m c Y q l

theorem colT_at (c : Dev nD) (k : Fin 400) : (colT (adm m hT) (i400 k.val)) = bxT m c (sg m c k) := by
  rw [i400_eq, one_dev c]
  exact (congrFun (colT_of _ hT) (ix1 k)).trans (V24_v22 m 0 k)

theorem rowT_at (c : Dev nD) (v : Fin 65) : (rowT (adm m hT) (i65 v)).toNat = below (fun k => byT m c (sg m c k)) v.val := by
  rw [i65_eq, one_dev c]
  exact (congrArg BitVec.toNat (congrFun (rowT_of _ hT) (ix1 v))).trans (V24_v33 m 0 v)

/-- The band kernel's image, entry by entry. -/
theorem out1_spec (P : F .f32 → Prop) (c : Dev nD) (Y : Fin 1024) (q : Fin 64) (l : Fin 512)
    (hD : ∀ k : Fin 400, (byT m c (sg m c k)).toNat = Y.val / 16 → (bxT m c (sg m c k)).toNat = q.val → P (tileAt m hT c k ⟨Y.val % 16, by omega⟩ l))
    (hX : (∀ k : Fin 400, ¬ ((byT m c k).toNat = Y.val / 16 ∧ (bxT m c k).toNat = q.val)) →
      P ((m ((c : Thread nD τ).loc main_arg0) : S1x1024x1024x32.Idx → F .f32) (ix4 0 Y ⟨q.val * 16 + l.val / 32, by omega⟩ ⟨l.val % 32, by omega⟩))) :
    P ((out1 m hT c : S1024x64x512.Idx → F .f32) (ix3 Y q l)) := by
  have hY : Y.val < 1024 := Y.isLt
  have e : (out1 m hT c : S1024x64x512.Idx → F .f32) (ix3 Y q l) = band1 (adm m hT) (V25' m hT) c ⟨Y.val / 16, by show _ < 64; omega⟩ (ix3 ⟨Y.val % 16, by omega⟩ q l) := by
    unfold out1
    refine (congrFun (out1_G (adm m hT) (V25' m hT) c) (ix3 Y q l)).trans ?_
    exact congrArg (band1 (adm m hT) (V25' m hT) c ⟨Y.val / 16, _⟩) (mk3_ix3' _ _ _)
  rw [e]
  unfold band1
  have hlo : (loW (rowT (adm m hT)) (grid1.coords ⟨Y.val / 16, by show _ < 64; omega⟩)).toNat = below (fun k => byT m c (sg m c k)) (Y.val / 16) := by
    unfold loW
    refine (rowT_at m hT c _).trans ?_
    exact congrArg (below _) (co1 _)
  have hhi : (hiW (rowT (adm m hT)) (grid1.coords ⟨Y.val / 16, by show _ < 64; omega⟩)).toNat = below (fun k => byT m c (sg m c k)) (Y.val / 16 + 1) := by
    unfold hiW
    refine (rowT_at m hT c _).trans ?_
    exact congrArg (fun z => below _ (z + 1)) (co1 _)
  rw [hlo, hhi]
  have hle := below_le (fun k => byT m c (sg m c k)) (Y.val / 16 + 1)
  have hs := by_sorted m c
  refine bandSt_spec P _ _ _ _ _ _ (fun k hk hq => ?_) (fun hn => ?_)
  · obtain ⟨k', hk'⟩ : ∃ k' : Fin 400, k'.val = below (fun k => byT m c (sg m c k)) (Y.val / 16) + k := ⟨⟨_, by omega⟩, rfl⟩
    rw [← hk'] at hq ⊢
    have h1 := (lt_below_iff _ hs k' (Y.val / 16 + 1)).1 (by omega)
    have h2 := mt (lt_below_iff _ hs k' (Y.val / 16)).2 (by omega)
    have e2 : blk1 (adm m hT) (V25' m hT) c 1 ⟨Y.val / 16, by show _ < 64; omega⟩ (mk3 (n := S400x16x512.size) (n400 k'.val) ⟨Y.val % 16, by show _ < 16; omega⟩ l) = tileAt m hT c k' ⟨Y.val % 16, by omega⟩ l := by
      have e3 : n400 k'.val = k' := Fin.ext (Nat.mod_eq_of_lt k'.isLt)
      rw [e3]
      exact (congrArg _ (mk3_ix3 _ _ _)).trans ((blk1_1 _ _ c _ _ _ _).trans (out0_at m hT c k' _ l))
    refine (congrArg P e2).mpr (hD k' (by omega) ?_)
    rw [colT_at m hT c k'] at hq
    exact hq.symm
  · refine (congrArg P ((blk1_0 (adm m hT) (V25' m hT) c _ _ q l Y ?_).trans (image_at m hT c Y q l))).mpr (hX fun k hk => ?_)
    · show Y.val = Y.val / 16 * 16 + Y.val % 16; omega
    · obtain ⟨k', rfl⟩ := ordP_surjective (byT m c) k
      have h1 := (lt_below_iff _ hs k' (Y.val / 16 + 1)).2 (by have := hk.1; show (byT m c (ordP (byT m c) k')).toNat < _; omega)
      have h2 := mt (lt_below_iff _ hs k' (Y.val / 16)).1 (by have := hk.1; show ¬ (byT m c (ordP (byT m c) k')).toNat < _; omega)
      refine hn (k'.val - below (fun k => byT m c (sg m c k)) (Y.val / 16)) (by omega) ?_
      have e4 : below (fun k => byT m c (sg m c k)) (Y.val / 16) + (k'.val - below (fun k => byT m c (sg m c k)) (Y.val / 16)) = k'.val := by omega
      rw [e4, colT_at m hT c k']
      exact hk.2.symm

/-- The result, entry by entry. -/
theorem result_spec (P : F .f32 → Prop) (c : Dev nD) (Y X : Fin 1024) (ch : Fin 32)
    (hD : ∀ k : Fin 400, (byT m c (sg m c k)).toNat = Y.val / 16 → (bxT m c (sg m c k)).toNat = X.val / 16 →
      P (tileAt m hT c k ⟨Y.val % 16, by omega⟩ ⟨X.val % 16 * 32 + ch.val, by omega⟩))
    (hX : (∀ k : Fin 400, ¬ ((byT m c k).toNat = Y.val / 16 ∧ (bxT m c k).toNat = X.val / 16)) →
      P ((m ((c : Thread nD τ).loc main_arg0) : S1x1024x1024x32.Idx → F .f32) (ix4 0 Y X ch))) :
    P ((Gen.V27 m (outsOf m hT) c main_v145 : S1x1024x1024x32.Idx → F .f32) (ix4 0 Y X ch)) := by
  have e : (Gen.V27 m (outsOf m hT) c main_v145 : S1x1024x1024x32.Idx → F .f32) (ix4 0 Y X ch)
      = (out1 m hT c : S1024x64x512.Idx → F .f32) (ix3 Y ⟨X.val / 16, by omega⟩ ⟨X.val % 16 * 32 + ch.val, by omega⟩) := by
    unfold Gen.V27
    rw [st2_v145, V26_eq]
    exact congrFun (Function.update_self (β := fun b : DevRef τ sig => b.ty.Contents (Elt F)) (Proc.devRef .tc main_v144) (out1 m hT c) (V25' m hT c)) _
  rw [e]
  refine out1_spec m hT P c Y _ _ hD fun h => ?_
  refine (congrArg (fun z => P ((m ((c : Thread nD τ).loc main_arg0) : S1x1024x1024x32.Idx → F .f32) z)) ?_).mpr (hX h)
  funext a
  match a with
  | ⟨0, _⟩ => rfl
  | ⟨1, _⟩ => rfl
  | ⟨2, _⟩ => exact Fin.ext (by show X.val / 16 * 16 + (X.val % 16 * 32 + ch.val) / 32 = X.val; omega)
  | ⟨3, _⟩ => exact Fin.ext (by show (X.val % 16 * 32 + ch.val) % 32 = ch.val; omega)

end Cert.Proof.KernelIdeal

end
-- ==== Proof.KIVHost.lean ====
module

public import proofs.«01_k».proof.Proof.KIVImg

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.StableHlo (after)

/-- Product and sum of two numbers, named so that both factors are read as numbers. -/
abbrev mulE (a b : EReal) : EReal := a * b
abbrev addE (a b : EReal) : EReal := a + b

theorem uit_if (p : Prop) [Decidable p] : (FloatOps.uitofp FTy.f32 (if p then 1#1 else 0#1 : BitVec 1) : Ideal .f32) = (if p then (1 : EReal) else 0) := by
  split
  · show (((1#1 : BitVec 1).toNat : ℝ) : EReal) = 1
    simp
  · show (((0#1 : BitVec 1).toNat : ℝ) : EReal) = 0
    simp

theorem eyeB0 : ∀ i j : Fin 16, IntOp.cmpi CmpIPredicate.eq (IntOp.addi (BitVec.ofNat 32 i.val) 1#32) (BitVec.ofNat 32 j.val) = if i.val + 1 = j.val then 1#1 else 0#1 := by decide
theorem eye0 (i j : Fin 16) : (FloatOps.uitofp FTy.f32 (IntOp.cmpi CmpIPredicate.eq (IntOp.addi (BitVec.ofNat 32 i.val) 1#32) (BitVec.ofNat 32 j.val)) : Ideal .f32) = (if i.val + 1 = j.val then (1 : EReal) else 0) := by
  rw [eyeB0 i j]; exact uit_if _
theorem eyeB1 : ∀ i j : Fin 16, IntOp.cmpi CmpIPredicate.eq (IntOp.addi (BitVec.ofNat 32 i.val) 0#32) (BitVec.ofNat 32 j.val) = if i.val = j.val then 1#1 else 0#1 := by decide
theorem eye1 (i j : Fin 16) : (FloatOps.uitofp FTy.f32 (IntOp.cmpi CmpIPredicate.eq (IntOp.addi (BitVec.ofNat 32 i.val) 0#32) (BitVec.ofNat 32 j.val)) : Ideal .f32) = (if i.val = j.val then (1 : EReal) else 0) := by
  rw [eyeB1 i j]; exact uit_if _
theorem eyeB2 : ∀ i j : Fin 16, IntOp.cmpi CmpIPredicate.eq (IntOp.addi (BitVec.ofNat 32 i.val) 4294967295#32) (BitVec.ofNat 32 j.val) = if i.val = j.val + 1 then 1#1 else 0#1 := by decide
theorem eye2 (i j : Fin 16) : (FloatOps.uitofp FTy.f32 (IntOp.cmpi CmpIPredicate.eq (IntOp.addi (BitVec.ofNat 32 i.val) 4294967295#32) (BitVec.ofNat 32 j.val)) : Ideal .f32) = (if i.val = j.val + 1 then (1 : EReal) else 0) := by
  rw [eyeB2 i j]; exact uit_if _

variable (V : Valuation τ sig (Elt Ideal))

theorem st5_v44 (p q : Fin 3) (i j : Fin 32) :
    @Eq EReal ((after Gen.hostOps0_5 V main_v44 : S3x3x32x32.Idx → EReal) (ix4 p q i j))
      (mulE ((V main_arg3 : S32x32x3x3.Idx → EReal) (ix4 j i p q)) (mulE ((V main_arg5 : S32.Idx → EReal) (ix1 j)) (Ideal.rsqrt (addE ((V main_arg8 : S32.Idx → EReal) (ix1 j)) (Ideal.ofBits FTy.f32 0x3A83126F#32))))) := by
  after_reads_at
theorem st5_v40 (i : Fin 32) :
    @Eq EReal ((after Gen.hostOps0_5 V main_v40 : S32.Idx → EReal) (ix1 i))
      (addE (mulE (@HSub.hSub EReal EReal EReal _ ((V main_arg4 : S32.Idx → EReal) (ix1 i)) ((V main_arg7 : S32.Idx → EReal) (ix1 i))) (mulE ((V main_arg5 : S32.Idx → EReal) (ix1 i)) (Ideal.rsqrt (addE ((V main_arg8 : S32.Idx → EReal) (ix1 i)) (Ideal.ofBits FTy.f32 0x3A83126F#32))))) ((V main_arg6 : S32.Idx → EReal) (ix1 i))) := by
  after_reads_at
theorem st5_v53 (i j : Fin 32) :
    @Eq EReal ((after Gen.hostOps0_5 V main_v53 : S32x32.Idx → EReal) (ix2 i j)) ((after Gen.hostOps0_5 V main_v44 : S3x3x32x32.Idx → EReal) (ix4 0 0 i j)) := by
  refine Eq.trans ?_ (st5_v44 V 0 0 i j).symm
  after_reads_at
theorem st23_v142 (l : Fin 512) :
    (after Gen.hostOps0_23 V main_v142 : S1x512.Idx → EReal) (ix2 0 l)
      = (V main_v40 : S32.Idx → EReal) (ix1 ⟨l.val % 32, by omega⟩) := by
  after_reads_at
theorem st23_v138 (k : Fin 1536) (l : Fin 512) :
    (after Gen.hostOps0_23 V main_v138 : S1536x512.Idx → EReal) (ix2 k l)
      = if h : k.val < 512 then (V main_v75 : S512x512.Idx → EReal) (ix2 ⟨k.val, h⟩ l)
        else if h : k.val - 512 < 512 then (V main_v106 : S512x512.Idx → EReal) (ix2 ⟨k.val - 512, h⟩ l)
        else (after Gen.hostOps0_23 V main_v137 : S512x512.Idx → EReal) (ix2 ⟨k.val - 512 - 512, by omega⟩ l) := by
  after_reads_at
  rfl

theorem st5_v51 (i j : Fin 16) :
    @Eq EReal ((after Gen.hostOps0_5 V main_v51 : S16x16.Idx → EReal) (ix2 i j)) (if i.val + 1 = j.val then 1 else 0) := by
  refine Eq.trans ?_ (eye0 i j)
  after_reads_at
theorem st6_v54 (k l : Fin 512) :
    @Eq EReal ((after Gen.hostOps0_6 V main_v54 : S512x512.Idx → EReal) (ix2 k l))
      (mulE ((V main_v51 : S16x16.Idx → EReal) (ix2 ⟨k.val / 32, by omega⟩ ⟨l.val / 32, by omega⟩))
        ((V main_v53 : S32x32.Idx → EReal) (ix2 ⟨k.val % 32, by omega⟩ ⟨l.val % 32, by omega⟩))) := by
  after_reads_at

theorem st7_v61 (i j : Fin 16) :
    @Eq EReal ((after Gen.hostOps0_7 V main_v61 : S16x16.Idx → EReal) (ix2 i j)) (if i.val = j.val then 1 else 0) := by
  refine Eq.trans ?_ (eye1 i j)
  after_reads_at
theorem st7_v63 (i j : Fin 32) :
    (after Gen.hostOps0_7 V main_v63 : S32x32.Idx → EReal) (ix2 i j) = (V main_v44 : S3x3x32x32.Idx → EReal) (ix4 0 1 i j) := by
  after_reads_at
theorem st8_v64 (k l : Fin 512) :
    @Eq EReal ((after Gen.hostOps0_8 V main_v64 : S512x512.Idx → EReal) (ix2 k l))
      (mulE ((V main_v61 : S16x16.Idx → EReal) (ix2 ⟨k.val / 32, by omega⟩ ⟨l.val / 32, by omega⟩))
        ((V main_v63 : S32x32.Idx → EReal) (ix2 ⟨k.val % 32, by omega⟩ ⟨l.val % 32, by omega⟩))) := by
  after_reads_at

theorem st9_v71 (i j : Fin 16) :
    @Eq EReal ((after Gen.hostOps0_9 V main_v71 : S16x16.Idx → EReal) (ix2 i j)) (if i.val = j.val + 1 then 1 else 0) := by
  refine Eq.trans ?_ (eye2 i j)
  after_reads_at
theorem st9_v73 (i j : Fin 32) :
    (after Gen.hostOps0_9 V main_v73 : S32x32.Idx → EReal) (ix2 i j) = (V main_v44 : S3x3x32x32.Idx → EReal) (ix4 0 2 i j) := by
  after_reads_at
theorem st10_v74 (k l : Fin 512) :
    @Eq EReal ((after Gen.hostOps0_10 V main_v74 : S512x512.Idx → EReal) (ix2 k l))
      (mulE ((V main_v71 : S16x16.Idx → EReal) (ix2 ⟨k.val / 32, by omega⟩ ⟨l.val / 32, by omega⟩))
        ((V main_v73 : S32x32.Idx → EReal) (ix2 ⟨k.val % 32, by omega⟩ ⟨l.val % 32, by omega⟩))) := by
  after_reads_at

theorem st11_v82 (i j : Fin 16) :
    @Eq EReal ((after Gen.hostOps0_11 V main_v82 : S16x16.Idx → EReal) (ix2 i j)) (if i.val + 1 = j.val then 1 else 0) := by
  refine Eq.trans ?_ (eye0 i j)
  after_reads_at
theorem st11_v84 (i j : Fin 32) :
    (after Gen.hostOps0_11 V main_v84 : S32x32.Idx → EReal) (ix2 i j) = (V main_v44 : S3x3x32x32.Idx → EReal) (ix4 1 0 i j) := by
  after_reads_at
theorem st12_v85 (k l : Fin 512) :
    @Eq EReal ((after Gen.hostOps0_12 V main_v85 : S512x512.Idx → EReal) (ix2 k l))
      (mulE ((V main_v82 : S16x16.Idx → EReal) (ix2 ⟨k.val / 32, by omega⟩ ⟨l.val / 32, by omega⟩))
        ((V main_v84 : S32x32.Idx → EReal) (ix2 ⟨k.val % 32, by omega⟩ ⟨l.val % 32, by omega⟩))) := by
  after_reads_at

theorem st13_v92 (i j : Fin 16) :
    @Eq EReal ((after Gen.hostOps0_13 V main_v92 : S16x16.Idx → EReal) (ix2 i j)) (if i.val = j.val then 1 else 0) := by
  refine Eq.trans ?_ (eye1 i j)
  after_reads_at
theorem st13_v94 (i j : Fin 32) :
    (after Gen.hostOps0_13 V main_v94 : S32x32.Idx → EReal) (ix2 i j) = (V main_v44 : S3x3x32x32.Idx → EReal) (ix4 1 1 i j) := by
  after_reads_at
theorem st14_v95 (k l : Fin 512) :
    @Eq EReal ((after Gen.hostOps0_14 V main_v95 : S512x512.Idx → EReal) (ix2 k l))
      (mulE ((V main_v92 : S16x16.Idx → EReal) (ix2 ⟨k.val / 32, by omega⟩ ⟨l.val / 32, by omega⟩))
        ((V main_v94 : S32x32.Idx → EReal) (ix2 ⟨k.val % 32, by omega⟩ ⟨l.val % 32, by omega⟩))) := by
  after_reads_at

theorem st15_v102 (i j : Fin 16) :
    @Eq EReal ((after Gen.hostOps0_15 V main_v102 : S16x16.Idx → EReal) (ix2 i j)) (if i.val = j.val + 1 then 1 else 0) := by
  refine Eq.trans ?_ (eye2 i j)
  after_reads_at
theorem st15_v104 (i j : Fin 32) :
    (after Gen.hostOps0_15 V main_v104 : S32x32.Idx → EReal) (ix2 i j) = (V main_v44 : S3x3x32x32.Idx → EReal) (ix4 1 2 i j) := by
  after_reads_at
theorem st16_v105 (k l : Fin 512) :
    @Eq EReal ((after Gen.hostOps0_16 V main_v105 : S512x512.Idx → EReal) (ix2 k l))
      (mulE ((V main_v102 : S16x16.Idx → EReal) (ix2 ⟨k.val / 32, by omega⟩ ⟨l.val / 32, by omega⟩))
        ((V main_v104 : S32x32.Idx → EReal) (ix2 ⟨k.val % 32, by omega⟩ ⟨l.val % 32, by omega⟩))) := by
  after_reads_at

theorem st17_v113 (i j : Fin 16) :
    @Eq EReal ((after Gen.hostOps0_17 V main_v113 : S16x16.Idx → EReal) (ix2 i j)) (if i.val + 1 = j.val then 1 else 0) := by
  refine Eq.trans ?_ (eye0 i j)
  after_reads_at
theorem st17_v115 (i j : Fin 32) :
    (after Gen.hostOps0_17 V main_v115 : S32x32.Idx → EReal) (ix2 i j) = (V main_v44 : S3x3x32x32.Idx → EReal) (ix4 2 0 i j) := by
  after_reads_at
theorem st18_v116 (k l : Fin 512) :
    @Eq EReal ((after Gen.hostOps0_18 V main_v116 : S512x512.Idx → EReal) (ix2 k l))
      (mulE ((V main_v113 : S16x16.Idx → EReal) (ix2 ⟨k.val / 32, by omega⟩ ⟨l.val / 32, by omega⟩))
        ((V main_v115 : S32x32.Idx → EReal) (ix2 ⟨k.val % 32, by omega⟩ ⟨l.val % 32, by omega⟩))) := by
  after_reads_at

theorem st19_v123 (i j : Fin 16) :
    @Eq EReal ((after Gen.hostOps0_19 V main_v123 : S16x16.Idx → EReal) (ix2 i j)) (if i.val = j.val then 1 else 0) := by
  refine Eq.trans ?_ (eye1 i j)
  after_reads_at
theorem st19_v125 (i j : Fin 32) :
    (after Gen.hostOps0_19 V main_v125 : S32x32.Idx → EReal) (ix2 i j) = (V main_v44 : S3x3x32x32.Idx → EReal) (ix4 2 1 i j) := by
  after_reads_at
theorem st20_v126 (k l : Fin 512) :
    @Eq EReal ((after Gen.hostOps0_20 V main_v126 : S512x512.Idx → EReal) (ix2 k l))
      (mulE ((V main_v123 : S16x16.Idx → EReal) (ix2 ⟨k.val / 32, by omega⟩ ⟨l.val / 32, by omega⟩))
        ((V main_v125 : S32x32.Idx → EReal) (ix2 ⟨k.val % 32, by omega⟩ ⟨l.val % 32, by omega⟩))) := by
  after_reads_at

theorem st21_v133 (i j : Fin 16) :
    @Eq EReal ((after Gen.hostOps0_21 V main_v133 : S16x16.Idx → EReal) (ix2 i j)) (if i.val = j.val + 1 then 1 else 0) := by
  refine Eq.trans ?_ (eye2 i j)
  after_reads_at
theorem st21_v135 (i j : Fin 32) :
    (after Gen.hostOps0_21 V main_v135 : S32x32.Idx → EReal) (ix2 i j) = (V main_v44 : S3x3x32x32.Idx → EReal) (ix4 2 2 i j) := by
  after_reads_at
theorem st22_v136 (k l : Fin 512) :
    @Eq EReal ((after Gen.hostOps0_22 V main_v136 : S512x512.Idx → EReal) (ix2 k l))
      (mulE ((V main_v133 : S16x16.Idx → EReal) (ix2 ⟨k.val / 32, by omega⟩ ⟨l.val / 32, by omega⟩))
        ((V main_v135 : S32x32.Idx → EReal) (ix2 ⟨k.val % 32, by omega⟩ ⟨l.val % 32, by omega⟩))) := by
  after_reads_at
theorem st7_v55 (k l : Fin 512) :
    @Eq EReal ((after Gen.hostOps0_7 V main_v55 : S512x512.Idx → EReal) (ix2 k l))
      (addE ((V main_v45 : S512x512.Idx → EReal) (ix2 k l)) ((V main_v54 : S512x512.Idx → EReal) (ix2 k l))) := by
  after_reads_at
theorem st9_v65 (k l : Fin 512) :
    @Eq EReal ((after Gen.hostOps0_9 V main_v65 : S512x512.Idx → EReal) (ix2 k l))
      (addE ((V main_v55 : S512x512.Idx → EReal) (ix2 k l)) ((V main_v64 : S512x512.Idx → EReal) (ix2 k l))) := by
  after_reads_at
theorem st11_v75 (k l : Fin 512) :
    @Eq EReal ((after Gen.hostOps0_11 V main_v75 : S512x512.Idx → EReal) (ix2 k l))
      (addE ((V main_v65 : S512x512.Idx → EReal) (ix2 k l)) ((V main_v74 : S512x512.Idx → EReal) (ix2 k l))) := by
  after_reads_at
theorem st13_v86 (k l : Fin 512) :
    @Eq EReal ((after Gen.hostOps0_13 V main_v86 : S512x512.Idx → EReal) (ix2 k l))
      (addE ((V main_v76 : S512x512.Idx → EReal) (ix2 k l)) ((V main_v85 : S512x512.Idx → EReal) (ix2 k l))) := by
  after_reads_at
theorem st15_v96 (k l : Fin 512) :
    @Eq EReal ((after Gen.hostOps0_15 V main_v96 : S512x512.Idx → EReal) (ix2 k l))
      (addE ((V main_v86 : S512x512.Idx → EReal) (ix2 k l)) ((V main_v95 : S512x512.Idx → EReal) (ix2 k l))) := by
  after_reads_at
theorem st17_v106 (k l : Fin 512) :
    @Eq EReal ((after Gen.hostOps0_17 V main_v106 : S512x512.Idx → EReal) (ix2 k l))
      (addE ((V main_v96 : S512x512.Idx → EReal) (ix2 k l)) ((V main_v105 : S512x512.Idx → EReal) (ix2 k l))) := by
  after_reads_at
theorem st19_v117 (k l : Fin 512) :
    @Eq EReal ((after Gen.hostOps0_19 V main_v117 : S512x512.Idx → EReal) (ix2 k l))
      (addE ((V main_v107 : S512x512.Idx → EReal) (ix2 k l)) ((V main_v116 : S512x512.Idx → EReal) (ix2 k l))) := by
  after_reads_at
theorem st21_v127 (k l : Fin 512) :
    @Eq EReal ((after Gen.hostOps0_21 V main_v127 : S512x512.Idx → EReal) (ix2 k l))
      (addE ((V main_v117 : S512x512.Idx → EReal) (ix2 k l)) ((V main_v126 : S512x512.Idx → EReal) (ix2 k l))) := by
  after_reads_at
theorem st23_v137 (k l : Fin 512) :
    @Eq EReal ((after Gen.hostOps0_23 V main_v137 : S512x512.Idx → EReal) (ix2 k l))
      (addE ((V main_v127 : S512x512.Idx → EReal) (ix2 k l)) ((V main_v136 : S512x512.Idx → EReal) (ix2 k l))) := by
  after_reads_at
theorem st5_v45 (k l : Fin 512) :
    @Eq EReal ((after Gen.hostOps0_5 V main_v45 : S512x512.Idx → EReal) (ix2 k l)) 0 := by
  after_reads_at
theorem st11_v76 (k l : Fin 512) :
    @Eq EReal ((after Gen.hostOps0_11 V main_v76 : S512x512.Idx → EReal) (ix2 k l)) 0 := by
  after_reads_at
theorem st17_v107 (k l : Fin 512) :
    @Eq EReal ((after Gen.hostOps0_17 V main_v107 : S512x512.Idx → EReal) (ix2 k l)) 0 := by
  after_reads_at

variable (m : (ℓ : Loc nD τ sig) → Buf (Elt Ideal) ℓ) (c : Dev nD)

/-- The scale of channel `o`, and its shift. -/
def scl (o : Fin 32) : EReal :=
  mulE ((m ((c : Thread nD τ).loc main_arg5) : S32.Idx → EReal) (ix1 o)) (Ideal.rsqrt (addE ((m ((c : Thread nD τ).loc main_arg8) : S32.Idx → EReal) (ix1 o)) (Ideal.ofBits FTy.f32 0x3A83126F#32)))
def shf (o : Fin 32) : EReal :=
  addE (mulE (@HSub.hSub EReal EReal EReal _ ((m ((c : Thread nD τ).loc main_arg4) : S32.Idx → EReal) (ix1 o)) ((m ((c : Thread nD τ).loc main_arg7) : S32.Idx → EReal) (ix1 o))) (scl m c o)) ((m ((c : Thread nD τ).loc main_arg6) : S32.Idx → EReal) (ix1 o))
/-- The scaled weight. -/
def wts (p q : Fin 3) (i o : Fin 32) : EReal := mulE ((m ((c : Thread nD τ).loc main_arg3) : S32x32x3x3.Idx → EReal) (ix4 o i p q)) (scl m c o)
/-- One entry of the banded matrix: the three products with the three shifted unit matrices, summed. -/
def band (p : Fin 3) (k l : Fin 512) : EReal :=
  ((0 + (if k.val / 32 + 1 = l.val / 32 then 1 else 0) * wts m c p 0 ⟨k.val % 32, by omega⟩ ⟨l.val % 32, by omega⟩)
    + (if k.val / 32 = l.val / 32 then 1 else 0) * wts m c p 1 ⟨k.val % 32, by omega⟩ ⟨l.val % 32, by omega⟩)
    + (if k.val / 32 = l.val / 32 + 1 then 1 else 0) * wts m c p 2 ⟨k.val % 32, by omega⟩ ⟨l.val % 32, by omega⟩

theorem V5_arg3 : Gen.V5 m c main_arg3 = m ((c : Thread nD τ).loc main_arg3) := ((Gen.V5_of m c main_arg3 (by decide)).trans ((Gen.V4_of m c main_arg3 (by decide)).trans ((Gen.V3_of m c main_arg3 (by decide)).trans ((Gen.V2_of m c main_arg3 (by decide)).trans ((Gen.V1_of m c main_arg3 (by decide)))))))
theorem V5_arg4 : Gen.V5 m c main_arg4 = m ((c : Thread nD τ).loc main_arg4) := ((Gen.V5_of m c main_arg4 (by decide)).trans ((Gen.V4_of m c main_arg4 (by decide)).trans ((Gen.V3_of m c main_arg4 (by decide)).trans ((Gen.V2_of m c main_arg4 (by decide)).trans ((Gen.V1_of m c main_arg4 (by decide)))))))
theorem V5_arg5 : Gen.V5 m c main_arg5 = m ((c : Thread nD τ).loc main_arg5) := ((Gen.V5_of m c main_arg5 (by decide)).trans ((Gen.V4_of m c main_arg5 (by decide)).trans ((Gen.V3_of m c main_arg5 (by decide)).trans ((Gen.V2_of m c main_arg5 (by decide)).trans ((Gen.V1_of m c main_arg5 (by decide)))))))
theorem V5_arg6 : Gen.V5 m c main_arg6 = m ((c : Thread nD τ).loc main_arg6) := ((Gen.V5_of m c main_arg6 (by decide)).trans ((Gen.V4_of m c main_arg6 (by decide)).trans ((Gen.V3_of m c main_arg6 (by decide)).trans ((Gen.V2_of m c main_arg6 (by decide)).trans ((Gen.V1_of m c main_arg6 (by decide)))))))
theorem V5_arg7 : Gen.V5 m c main_arg7 = m ((c : Thread nD τ).loc main_arg7) := ((Gen.V5_of m c main_arg7 (by decide)).trans ((Gen.V4_of m c main_arg7 (by decide)).trans ((Gen.V3_of m c main_arg7 (by decide)).trans ((Gen.V2_of m c main_arg7 (by decide)).trans ((Gen.V1_of m c main_arg7 (by decide)))))))
theorem V5_arg8 : Gen.V5 m c main_arg8 = m ((c : Thread nD τ).loc main_arg8) := ((Gen.V5_of m c main_arg8 (by decide)).trans ((Gen.V4_of m c main_arg8 (by decide)).trans ((Gen.V3_of m c main_arg8 (by decide)).trans ((Gen.V2_of m c main_arg8 (by decide)).trans ((Gen.V1_of m c main_arg8 (by decide)))))))

theorem V6_v44 (p q : Fin 3) (i o : Fin 32) : @Eq EReal ((Gen.V6 m c main_v44 : S3x3x32x32.Idx → EReal) (ix4 p q i o)) (wts m c p q i o) := by
  unfold Gen.V6
  refine (st5_v44 (Gen.V5 m c) p q i o).trans ?_
  rw [V5_arg3, V5_arg5, V5_arg8]
  rfl
theorem V6_v40 (o : Fin 32) : @Eq EReal ((Gen.V6 m c main_v40 : S32.Idx → EReal) (ix1 o)) (shf m c o) := by
  unfold Gen.V6
  refine (st5_v40 (Gen.V5 m c) o).trans ?_
  rw [V5_arg4, V5_arg5, V5_arg6, V5_arg7, V5_arg8]
  rfl

theorem V6_v51 (i j : Fin 16) : @Eq EReal ((Gen.V6 m c main_v51 : S16x16.Idx → EReal) (ix2 i j)) (if i.val + 1 = j.val then 1 else 0) := by
  unfold Gen.V6; exact st5_v51 _ i j
theorem V6_v53 (i j : Fin 32) : @Eq EReal ((Gen.V6 m c main_v53 : S32x32.Idx → EReal) (ix2 i j)) (wts m c 0 0 i j) := by
  refine Eq.trans ?_ (V6_v44 m c 0 0 i j)
  unfold Gen.V6; exact st5_v53 _ i j
theorem V7_v54 (k l : Fin 512) : @Eq EReal ((Gen.V7 m c main_v54 : S512x512.Idx → EReal) (ix2 k l))
    (mulE (if k.val / 32 + 1 = l.val / 32 then 1 else 0) (wts m c 0 0 ⟨k.val % 32, by omega⟩ ⟨l.val % 32, by omega⟩)) := by
  unfold Gen.V7
  refine (st6_v54 (Gen.V6 m c) k l).trans ?_
  exact congrArg₂ mulE (V6_v51 m c _ _) (V6_v53 m c _ _)

theorem V8_v61 (i j : Fin 16) : @Eq EReal ((Gen.V8 m c main_v61 : S16x16.Idx → EReal) (ix2 i j)) (if i.val = j.val then 1 else 0) := by
  unfold Gen.V8; exact st7_v61 _ i j
theorem V8_v63 (i j : Fin 32) : @Eq EReal ((Gen.V8 m c main_v63 : S32x32.Idx → EReal) (ix2 i j)) (wts m c 0 1 i j) := by
  refine Eq.trans ?_ ((congrFun ((Gen.V7_of m c main_v44 (by decide))) (ix4 0 1 i j)).trans (V6_v44 m c 0 1 i j))
  unfold Gen.V8; exact st7_v63 _ i j
theorem V9_v64 (k l : Fin 512) : @Eq EReal ((Gen.V9 m c main_v64 : S512x512.Idx → EReal) (ix2 k l))
    (mulE (if k.val / 32 = l.val / 32 then 1 else 0) (wts m c 0 1 ⟨k.val % 32, by omega⟩ ⟨l.val % 32, by omega⟩)) := by
  unfold Gen.V9
  refine (st8_v64 (Gen.V8 m c) k l).trans ?_
  exact congrArg₂ mulE (V8_v61 m c _ _) (V8_v63 m c _ _)

theorem V10_v71 (i j : Fin 16) : @Eq EReal ((Gen.V10 m c main_v71 : S16x16.Idx → EReal) (ix2 i j)) (if i.val = j.val + 1 then 1 else 0) := by
  unfold Gen.V10; exact st9_v71 _ i j
theorem V10_v73 (i j : Fin 32) : @Eq EReal ((Gen.V10 m c main_v73 : S32x32.Idx → EReal) (ix2 i j)) (wts m c 0 2 i j) := by
  refine Eq.trans ?_ ((congrFun ((Gen.V9_of m c main_v44 (by decide)).trans ((Gen.V8_of m c main_v44 (by decide)).trans ((Gen.V7_of m c main_v44 (by decide))))) (ix4 0 2 i j)).trans (V6_v44 m c 0 2 i j))
  unfold Gen.V10; exact st9_v73 _ i j
theorem V11_v74 (k l : Fin 512) : @Eq EReal ((Gen.V11 m c main_v74 : S512x512.Idx → EReal) (ix2 k l))
    (mulE (if k.val / 32 = l.val / 32 + 1 then 1 else 0) (wts m c 0 2 ⟨k.val % 32, by omega⟩ ⟨l.val % 32, by omega⟩)) := by
  unfold Gen.V11
  refine (st10_v74 (Gen.V10 m c) k l).trans ?_
  exact congrArg₂ mulE (V10_v71 m c _ _) (V10_v73 m c _ _)

theorem V12_v82 (i j : Fin 16) : @Eq EReal ((Gen.V12 m c main_v82 : S16x16.Idx → EReal) (ix2 i j)) (if i.val + 1 = j.val then 1 else 0) := by
  unfold Gen.V12; exact st11_v82 _ i j
theorem V12_v84 (i j : Fin 32) : @Eq EReal ((Gen.V12 m c main_v84 : S32x32.Idx → EReal) (ix2 i j)) (wts m c 1 0 i j) := by
  refine Eq.trans ?_ ((congrFun ((Gen.V11_of m c main_v44 (by decide)).trans ((Gen.V10_of m c main_v44 (by decide)).trans ((Gen.V9_of m c main_v44 (by decide)).trans ((Gen.V8_of m c main_v44 (by decide)).trans ((Gen.V7_of m c main_v44 (by decide))))))) (ix4 1 0 i j)).trans (V6_v44 m c 1 0 i j))
  unfold Gen.V12; exact st11_v84 _ i j
theorem V13_v85 (k l : Fin 512) : @Eq EReal ((Gen.V13 m c main_v85 : S512x512.Idx → EReal) (ix2 k l))
    (mulE (if k.val / 32 + 1 = l.val / 32 then 1 else 0) (wts m c 1 0 ⟨k.val % 32, by omega⟩ ⟨l.val % 32, by omega⟩)) := by
  unfold Gen.V13
  refine (st12_v85 (Gen.V12 m c) k l).trans ?_
  exact congrArg₂ mulE (V12_v82 m c _ _) (V12_v84 m c _ _)

theorem V14_v92 (i j : Fin 16) : @Eq EReal ((Gen.V14 m c main_v92 : S16x16.Idx → EReal) (ix2 i j)) (if i.val = j.val then 1 else 0) := by
  unfold Gen.V14; exact st13_v92 _ i j
theorem V14_v94 (i j : Fin 32) : @Eq EReal ((Gen.V14 m c main_v94 : S32x32.Idx → EReal) (ix2 i j)) (wts m c 1 1 i j) := by
  refine Eq.trans ?_ ((congrFun ((Gen.V13_of m c main_v44 (by decide)).trans ((Gen.V12_of m c main_v44 (by decide)).trans ((Gen.V11_of m c main_v44 (by decide)).trans ((Gen.V10_of m c main_v44 (by decide)).trans ((Gen.V9_of m c main_v44 (by decide)).trans ((Gen.V8_of m c main_v44 (by decide)).trans ((Gen.V7_of m c main_v44 (by decide))))))))) (ix4 1 1 i j)).trans (V6_v44 m c 1 1 i j))
  unfold Gen.V14; exact st13_v94 _ i j
theorem V15_v95 (k l : Fin 512) : @Eq EReal ((Gen.V15 m c main_v95 : S512x512.Idx → EReal) (ix2 k l))
    (mulE (if k.val / 32 = l.val / 32 then 1 else 0) (wts m c 1 1 ⟨k.val % 32, by omega⟩ ⟨l.val % 32, by omega⟩)) := by
  unfold Gen.V15
  refine (st14_v95 (Gen.V14 m c) k l).trans ?_
  exact congrArg₂ mulE (V14_v92 m c _ _) (V14_v94 m c _ _)

theorem V16_v102 (i j : Fin 16) : @Eq EReal ((Gen.V16 m c main_v102 : S16x16.Idx → EReal) (ix2 i j)) (if i.val = j.val + 1 then 1 else 0) := by
  unfold Gen.V16; exact st15_v102 _ i j
theorem V16_v104 (i j : Fin 32) : @Eq EReal ((Gen.V16 m c main_v104 : S32x32.Idx → EReal) (ix2 i j)) (wts m c 1 2 i j) := by
  refine Eq.trans ?_ ((congrFun ((Gen.V15_of m c main_v44 (by decide)).trans ((Gen.V14_of m c main_v44 (by decide)).trans ((Gen.V13_of m c main_v44 (by decide)).trans ((Gen.V12_of m c main_v44 (by decide)).trans ((Gen.V11_of m c main_v44 (by decide)).trans ((Gen.V10_of m c main_v44 (by decide)).trans ((Gen.V9_of m c main_v44 (by decide)).trans ((Gen.V8_of m c main_v44 (by decide)).trans ((Gen.V7_of m c main_v44 (by decide))))))))))) (ix4 1 2 i j)).trans (V6_v44 m c 1 2 i j))
  unfold Gen.V16; exact st15_v104 _ i j
theorem V17_v105 (k l : Fin 512) : @Eq EReal ((Gen.V17 m c main_v105 : S512x512.Idx → EReal) (ix2 k l))
    (mulE (if k.val / 32 = l.val / 32 + 1 then 1 else 0) (wts m c 1 2 ⟨k.val % 32, by omega⟩ ⟨l.val % 32, by omega⟩)) := by
  unfold Gen.V17
  refine (st16_v105 (Gen.V16 m c) k l).trans ?_
  exact congrArg₂ mulE (V16_v102 m c _ _) (V16_v104 m c _ _)

theorem V18_v113 (i j : Fin 16) : @Eq EReal ((Gen.V18 m c main_v113 : S16x16.Idx → EReal) (ix2 i j)) (if i.val + 1 = j.val then 1 else 0) := by
  unfold Gen.V18; exact st17_v113 _ i j
theorem V18_v115 (i j : Fin 32) : @Eq EReal ((Gen.V18 m c main_v115 : S32x32.Idx → EReal) (ix2 i j)) (wts m c 2 0 i j) := by
  refine Eq.trans ?_ ((congrFun ((Gen.V17_of m c main_v44 (by decide)).trans ((Gen.V16_of m c main_v44 (by decide)).trans ((Gen.V15_of m c main_v44 (by decide)).trans ((Gen.V14_of m c main_v44 (by decide)).trans ((Gen.V13_of m c main_v44 (by decide)).trans ((Gen.V12_of m c main_v44 (by decide)).trans ((Gen.V11_of m c main_v44 (by decide)).trans ((Gen.V10_of m c main_v44 (by decide)).trans ((Gen.V9_of m c main_v44 (by decide)).trans ((Gen.V8_of m c main_v44 (by decide)).trans ((Gen.V7_of m c main_v44 (by decide))))))))))))) (ix4 2 0 i j)).trans (V6_v44 m c 2 0 i j))
  unfold Gen.V18; exact st17_v115 _ i j
theorem V19_v116 (k l : Fin 512) : @Eq EReal ((Gen.V19 m c main_v116 : S512x512.Idx → EReal) (ix2 k l))
    (mulE (if k.val / 32 + 1 = l.val / 32 then 1 else 0) (wts m c 2 0 ⟨k.val % 32, by omega⟩ ⟨l.val % 32, by omega⟩)) := by
  unfold Gen.V19
  refine (st18_v116 (Gen.V18 m c) k l).trans ?_
  exact congrArg₂ mulE (V18_v113 m c _ _) (V18_v115 m c _ _)

theorem V20_v123 (i j : Fin 16) : @Eq EReal ((Gen.V20 m c main_v123 : S16x16.Idx → EReal) (ix2 i j)) (if i.val = j.val then 1 else 0) := by
  unfold Gen.V20; exact st19_v123 _ i j
theorem V20_v125 (i j : Fin 32) : @Eq EReal ((Gen.V20 m c main_v125 : S32x32.Idx → EReal) (ix2 i j)) (wts m c 2 1 i j) := by
  refine Eq.trans ?_ ((congrFun ((Gen.V19_of m c main_v44 (by decide)).trans ((Gen.V18_of m c main_v44 (by decide)).trans ((Gen.V17_of m c main_v44 (by decide)).trans ((Gen.V16_of m c main_v44 (by decide)).trans ((Gen.V15_of m c main_v44 (by decide)).trans ((Gen.V14_of m c main_v44 (by decide)).trans ((Gen.V13_of m c main_v44 (by decide)).trans ((Gen.V12_of m c main_v44 (by decide)).trans ((Gen.V11_of m c main_v44 (by decide)).trans ((Gen.V10_of m c main_v44 (by decide)).trans ((Gen.V9_of m c main_v44 (by decide)).trans ((Gen.V8_of m c main_v44 (by decide)).trans ((Gen.V7_of m c main_v44 (by decide))))))))))))))) (ix4 2 1 i j)).trans (V6_v44 m c 2 1 i j))
  unfold Gen.V20; exact st19_v125 _ i j
theorem V21_v126 (k l : Fin 512) : @Eq EReal ((Gen.V21 m c main_v126 : S512x512.Idx → EReal) (ix2 k l))
    (mulE (if k.val / 32 = l.val / 32 then 1 else 0) (wts m c 2 1 ⟨k.val % 32, by omega⟩ ⟨l.val % 32, by omega⟩)) := by
  unfold Gen.V21
  refine (st20_v126 (Gen.V20 m c) k l).trans ?_
  exact congrArg₂ mulE (V20_v123 m c _ _) (V20_v125 m c _ _)

theorem V22_v133 (i j : Fin 16) : @Eq EReal ((Gen.V22 m c main_v133 : S16x16.Idx → EReal) (ix2 i j)) (if i.val = j.val + 1 then 1 else 0) := by
  unfold Gen.V22; exact st21_v133 _ i j
theorem V22_v135 (i j : Fin 32) : @Eq EReal ((Gen.V22 m c main_v135 : S32x32.Idx → EReal) (ix2 i j)) (wts m c 2 2 i j) := by
  refine Eq.trans ?_ ((congrFun ((Gen.V21_of m c main_v44 (by decide)).trans ((Gen.V20_of m c main_v44 (by decide)).trans ((Gen.V19_of m c main_v44 (by decide)).trans ((Gen.V18_of m c main_v44 (by decide)).trans ((Gen.V17_of m c main_v44 (by decide)).trans ((Gen.V16_of m c main_v44 (by decide)).trans ((Gen.V15_of m c main_v44 (by decide)).trans ((Gen.V14_of m c main_v44 (by decide)).trans ((Gen.V13_of m c main_v44 (by decide)).trans ((Gen.V12_of m c main_v44 (by decide)).trans ((Gen.V11_of m c main_v44 (by decide)).trans ((Gen.V10_of m c main_v44 (by decide)).trans ((Gen.V9_of m c main_v44 (by decide)).trans ((Gen.V8_of m c main_v44 (by decide)).trans ((Gen.V7_of m c main_v44 (by decide))))))))))))))))) (ix4 2 2 i j)).trans (V6_v44 m c 2 2 i j))
  unfold Gen.V22; exact st21_v135 _ i j
theorem V23_v136 (k l : Fin 512) : @Eq EReal ((Gen.V23 m c main_v136 : S512x512.Idx → EReal) (ix2 k l))
    (mulE (if k.val / 32 = l.val / 32 + 1 then 1 else 0) (wts m c 2 2 ⟨k.val % 32, by omega⟩ ⟨l.val % 32, by omega⟩)) := by
  unfold Gen.V23
  refine (st22_v136 (Gen.V22 m c) k l).trans ?_
  exact congrArg₂ mulE (V22_v133 m c _ _) (V22_v135 m c _ _)
theorem V6_v45 (k l : Fin 512) : @Eq EReal ((Gen.V6 m c main_v45 : S512x512.Idx → EReal) (ix2 k l)) 0 := by
  unfold Gen.V6; exact st5_v45 _ k l
theorem V12_v76 (k l : Fin 512) : @Eq EReal ((Gen.V12 m c main_v76 : S512x512.Idx → EReal) (ix2 k l)) 0 := by
  unfold Gen.V12; exact st11_v76 _ k l
theorem V18_v107 (k l : Fin 512) : @Eq EReal ((Gen.V18 m c main_v107 : S512x512.Idx → EReal) (ix2 k l)) 0 := by
  unfold Gen.V18; exact st17_v107 _ k l
theorem V8_v55 (k l : Fin 512) : @Eq EReal ((Gen.V8 m c main_v55 : S512x512.Idx → EReal) (ix2 k l))
    (addE 0 (mulE (if k.val / 32 + 1 = l.val / 32 then 1 else 0) (wts m c 0 0 ⟨k.val % 32, by omega⟩ ⟨l.val % 32, by omega⟩))) := by
  unfold Gen.V8
  refine (st7_v55 (Gen.V7 m c) k l).trans ?_
  exact congrArg₂ addE ((congrFun ((Gen.V7_of m c main_v45 (by decide))) (ix2 k l)).trans (V6_v45 m c k l)) (V7_v54 m c k l)
theorem V10_v65 (k l : Fin 512) : @Eq EReal ((Gen.V10 m c main_v65 : S512x512.Idx → EReal) (ix2 k l))
    (addE (addE 0 (mulE (if k.val / 32 + 1 = l.val / 32 then 1 else 0) (wts m c 0 0 ⟨k.val % 32, by omega⟩ ⟨l.val % 32, by omega⟩))) (mulE (if k.val / 32 = l.val / 32 then 1 else 0) (wts m c 0 1 ⟨k.val % 32, by omega⟩ ⟨l.val % 32, by omega⟩))) := by
  unfold Gen.V10
  refine (st9_v65 (Gen.V9 m c) k l).trans ?_
  exact congrArg₂ addE ((congrFun ((Gen.V9_of m c main_v55 (by decide))) (ix2 k l)).trans (V8_v55 m c k l)) (V9_v64 m c k l)
theorem V12_v75 (k l : Fin 512) : @Eq EReal ((Gen.V12 m c main_v75 : S512x512.Idx → EReal) (ix2 k l))
    (addE (addE (addE 0 (mulE (if k.val / 32 + 1 = l.val / 32 then 1 else 0) (wts m c 0 0 ⟨k.val % 32, by omega⟩ ⟨l.val % 32, by omega⟩))) (mulE (if k.val / 32 = l.val / 32 then 1 else 0) (wts m c 0 1 ⟨k.val % 32, by omega⟩ ⟨l.val % 32, by omega⟩))) (mulE (if k.val / 32 = l.val / 32 + 1 then 1 else 0) (wts m c 0 2 ⟨k.val % 32, by omega⟩ ⟨l.val % 32, by omega⟩))) := by
  unfold Gen.V12
  refine (st11_v75 (Gen.V11 m c) k l).trans ?_
  exact congrArg₂ addE ((congrFun ((Gen.V11_of m c main_v65 (by decide))) (ix2 k l)).trans (V10_v65 m c k l)) (V11_v74 m c k l)
theorem V14_v86 (k l : Fin 512) : @Eq EReal ((Gen.V14 m c main_v86 : S512x512.Idx → EReal) (ix2 k l))
    (addE 0 (mulE (if k.val / 32 + 1 = l.val / 32 then 1 else 0) (wts m c 1 0 ⟨k.val % 32, by omega⟩ ⟨l.val % 32, by omega⟩))) := by
  unfold Gen.V14
  refine (st13_v86 (Gen.V13 m c) k l).trans ?_
  exact congrArg₂ addE ((congrFun ((Gen.V13_of m c main_v76 (by decide))) (ix2 k l)).trans (V12_v76 m c k l)) (V13_v85 m c k l)
theorem V16_v96 (k l : Fin 512) : @Eq EReal ((Gen.V16 m c main_v96 : S512x512.Idx → EReal) (ix2 k l))
    (addE (addE 0 (mulE (if k.val / 32 + 1 = l.val / 32 then 1 else 0) (wts m c 1 0 ⟨k.val % 32, by omega⟩ ⟨l.val % 32, by omega⟩))) (mulE (if k.val / 32 = l.val / 32 then 1 else 0) (wts m c 1 1 ⟨k.val % 32, by omega⟩ ⟨l.val % 32, by omega⟩))) := by
  unfold Gen.V16
  refine (st15_v96 (Gen.V15 m c) k l).trans ?_
  exact congrArg₂ addE ((congrFun ((Gen.V15_of m c main_v86 (by decide))) (ix2 k l)).trans (V14_v86 m c k l)) (V15_v95 m c k l)
theorem V18_v106 (k l : Fin 512) : @Eq EReal ((Gen.V18 m c main_v106 : S512x512.Idx → EReal) (ix2 k l))
    (addE (addE (addE 0 (mulE (if k.val / 32 + 1 = l.val / 32 then 1 else 0) (wts m c 1 0 ⟨k.val % 32, by omega⟩ ⟨l.val % 32, by omega⟩))) (mulE (if k.val / 32 = l.val / 32 then 1 else 0) (wts m c 1 1 ⟨k.val % 32, by omega⟩ ⟨l.val % 32, by omega⟩))) (mulE (if k.val / 32 = l.val / 32 + 1 then 1 else 0) (wts m c 1 2 ⟨k.val % 32, by omega⟩ ⟨l.val % 32, by omega⟩))) := by
  unfold Gen.V18
  refine (st17_v106 (Gen.V17 m c) k l).trans ?_
  exact congrArg₂ addE ((congrFun ((Gen.V17_of m c main_v96 (by decide))) (ix2 k l)).trans (V16_v96 m c k l)) (V17_v105 m c k l)
theorem V20_v117 (k l : Fin 512) : @Eq EReal ((Gen.V20 m c main_v117 : S512x512.Idx → EReal) (ix2 k l))
    (addE 0 (mulE (if k.val / 32 + 1 = l.val / 32 then 1 else 0) (wts m c 2 0 ⟨k.val % 32, by omega⟩ ⟨l.val % 32, by omega⟩))) := by
  unfold Gen.V20
  refine (st19_v117 (Gen.V19 m c) k l).trans ?_
  exact congrArg₂ addE ((congrFun ((Gen.V19_of m c main_v107 (by decide))) (ix2 k l)).trans (V18_v107 m c k l)) (V19_v116 m c k l)
theorem V22_v127 (k l : Fin 512) : @Eq EReal ((Gen.V22 m c main_v127 : S512x512.Idx → EReal) (ix2 k l))
    (addE (addE 0 (mulE (if k.val / 32 + 1 = l.val / 32 then 1 else 0) (wts m c 2 0 ⟨k.val % 32, by omega⟩ ⟨l.val % 32, by omega⟩))) (mulE (if k.val / 32 = l.val / 32 then 1 else 0) (wts m c 2 1 ⟨k.val % 32, by omega⟩ ⟨l.val % 32, by omega⟩))) := by
  unfold Gen.V22
  refine (st21_v127 (Gen.V21 m c) k l).trans ?_
  exact congrArg₂ addE ((congrFun ((Gen.V21_of m c main_v117 (by decide))) (ix2 k l)).trans (V20_v117 m c k l)) (V21_v126 m c k l)
theorem V24_v137 (k l : Fin 512) : @Eq EReal ((Gen.V24 m c main_v137 : S512x512.Idx → EReal) (ix2 k l))
    (addE (addE (addE 0 (mulE (if k.val / 32 + 1 = l.val / 32 then 1 else 0) (wts m c 2 0 ⟨k.val % 32, by omega⟩ ⟨l.val % 32, by omega⟩))) (mulE (if k.val / 32 = l.val / 32 then 1 else 0) (wts m c 2 1 ⟨k.val % 32, by omega⟩ ⟨l.val % 32, by omega⟩))) (mulE (if k.val / 32 = l.val / 32 + 1 then 1 else 0) (wts m c 2 2 ⟨k.val % 32, by omega⟩ ⟨l.val % 32, by omega⟩))) := by
  unfold Gen.V24
  refine (st23_v137 (Gen.V23 m c) k l).trans ?_
  exact congrArg₂ addE ((congrFun ((Gen.V23_of m c main_v127 (by decide))) (ix2 k l)).trans (V22_v127 m c k l)) (V23_v136 m c k l)

theorem V24_v142 (l : Fin 512) : @Eq EReal ((Gen.V24 m c main_v142 : S1x512.Idx → EReal) (ix2 0 l)) (shf m c ⟨l.val % 32, by omega⟩) := by
  unfold Gen.V24
  refine (st23_v142 (Gen.V23 m c) l).trans ?_
  exact (congrFun ((Gen.V23_of m c main_v40 (by decide)).trans ((Gen.V22_of m c main_v40 (by decide)).trans ((Gen.V21_of m c main_v40 (by decide)).trans ((Gen.V20_of m c main_v40 (by decide)).trans ((Gen.V19_of m c main_v40 (by decide)).trans ((Gen.V18_of m c main_v40 (by decide)).trans ((Gen.V17_of m c main_v40 (by decide)).trans ((Gen.V16_of m c main_v40 (by decide)).trans ((Gen.V15_of m c main_v40 (by decide)).trans ((Gen.V14_of m c main_v40 (by decide)).trans ((Gen.V13_of m c main_v40 (by decide)).trans ((Gen.V12_of m c main_v40 (by decide)).trans ((Gen.V11_of m c main_v40 (by decide)).trans ((Gen.V10_of m c main_v40 (by decide)).trans ((Gen.V9_of m c main_v40 (by decide)).trans ((Gen.V8_of m c main_v40 (by decide)).trans ((Gen.V7_of m c main_v40 (by decide))))))))))))))))))) (ix1 ⟨l.val % 32, by omega⟩)).trans (V6_v40 m c _)

/-- The matrix the convolution multiplies with, entry by entry. -/
theorem V24_v138 (k : Fin 1536) (l : Fin 512) : @Eq EReal ((Gen.V24 m c main_v138 : S1536x512.Idx → EReal) (ix2 k l))
    (band m c ⟨k.val / 512, by omega⟩ ⟨k.val % 512, by omega⟩ l) := by
  unfold Gen.V24
  refine (st23_v138 (Gen.V23 m c) k l).trans ?_
  by_cases h0 : k.val < 512
  · have e0 : (⟨k.val / 512, by omega⟩ : Fin 3) = 0 := Fin.ext (by show k.val / 512 = 0; omega)
    have e1 : (⟨k.val % 512, by omega⟩ : Fin 512) = ⟨k.val, h0⟩ := Fin.ext (by show k.val % 512 = k.val; omega)
    rw [dif_pos h0, e0, e1]
    exact (congrFun ((Gen.V23_of m c main_v75 (by decide)).trans ((Gen.V22_of m c main_v75 (by decide)).trans ((Gen.V21_of m c main_v75 (by decide)).trans ((Gen.V20_of m c main_v75 (by decide)).trans ((Gen.V19_of m c main_v75 (by decide)).trans ((Gen.V18_of m c main_v75 (by decide)).trans ((Gen.V17_of m c main_v75 (by decide)).trans ((Gen.V16_of m c main_v75 (by decide)).trans ((Gen.V15_of m c main_v75 (by decide)).trans ((Gen.V14_of m c main_v75 (by decide)).trans ((Gen.V13_of m c main_v75 (by decide))))))))))))) (ix2 ⟨k.val, h0⟩ l)).trans (V12_v75 m c _ l)
  · rw [dif_neg h0]
    by_cases h1 : k.val - 512 < 512
    · have e0 : (⟨k.val / 512, by omega⟩ : Fin 3) = 1 := Fin.ext (by show k.val / 512 = 1; omega)
      have e1 : (⟨k.val % 512, by omega⟩ : Fin 512) = ⟨k.val - 512, h1⟩ := Fin.ext (by show k.val % 512 = k.val - 512; omega)
      rw [dif_pos h1, e0, e1]
      exact (congrFun ((Gen.V23_of m c main_v106 (by decide)).trans ((Gen.V22_of m c main_v106 (by decide)).trans ((Gen.V21_of m c main_v106 (by decide)).trans ((Gen.V20_of m c main_v106 (by decide)).trans ((Gen.V19_of m c main_v106 (by decide))))))) (ix2 ⟨k.val - 512, h1⟩ l)).trans (V18_v106 m c _ l)
    · have e0 : (⟨k.val / 512, by omega⟩ : Fin 3) = 2 := Fin.ext (by show k.val / 512 = 2; omega)
      have e1 : (⟨k.val % 512, by omega⟩ : Fin 512) = ⟨k.val - 512 - 512, by omega⟩ := Fin.ext (by show k.val % 512 = k.val - 512 - 512; omega)
      rw [dif_neg h1, e0, e1]
      exact V24_v137 m c _ l

end Cert.Proof.KernelIdeal

end
-- ==== Proof.Spec.lean ====
module

public import Idealize.ShloMosaic.Lib.Pointwise
public import Idealize.ShloMosaic.Lib.IdealHost
public import Mathlib.Data.EReal.Operations
public import Mathlib.Algebra.BigOperators.Fin

@[expose] public section

noncomputable section

/-! The block convolution written twice over plain functions: with the batch normalisation after
    the sums, as the reference has it, and with the scale inside the weights and the sums taken
    along a banded matrix, as the kernel has it.  On finite entries the two agree. -/

namespace Cert.Proof

open Idealize.ShloMosaic

/-- The entries both programs read. -/
structure Par where
  x : Fin 1024 → Fin 1024 → Fin 32 → EReal
  W : Fin 32 → Fin 32 → Fin 3 → Fin 3 → EReal
  b : Fin 32 → EReal
  γ : Fin 32 → EReal
  β : Fin 32 → EReal
  μ : Fin 32 → EReal
  v : Fin 32 → EReal

/-- The added constant of the normalisation. -/
def eps : EReal := Ideal.ofBits FTy.f32 0x3A83126F#32

namespace Par

variable (p : Par)

/-- Row `i`, column `j` of block `(B, C)` with a border of zeros around it. -/
def px (B C : Fin 64) (i j : ℕ) (ci : Fin 32) : EReal :=
  if h : (1 ≤ i ∧ i - 1 < 16) ∧ 1 ≤ j ∧ j - 1 < 16 then
    p.x ⟨B.val * 16 + (i - 1), by omega⟩ ⟨C.val * 16 + (j - 1), by omega⟩ ci
  else 0

/-- The reciprocal deviation of channel `o`. -/
def rs (o : Fin 32) : EReal := Ideal.rsqrt (p.v o + eps)

/-- The three by three convolution at one place of a block. -/
def conv (B C : Fin 64) (r q : Fin 16) (o : Fin 32) : EReal :=
  ∑ dy : Fin 3, ∑ dx : Fin 3, ∑ ci : Fin 32, p.px B C (dy.val + r.val) (dx.val + q.val) ci * p.W o ci dy dx

/-- The reference's value. -/
def plain (B C : Fin 64) (r q : Fin 16) (o : Fin 32) : EReal :=
  max ((p.conv B C r q o + p.b o - p.μ o) * (p.rs o * p.γ o) + p.β o) 0

/-- The kernel's scale and shift. -/
def sc (o : Fin 32) : EReal := p.γ o * p.rs o
def sh (o : Fin 32) : EReal := (p.b o - p.μ o) * p.sc o + p.β o

/-- The kernel's banded weights for row offset `dy`. -/
def bnd (dy : Fin 3) (xi : Fin 16) (ci : Fin 32) (q : Fin 16) (o : Fin 32) : EReal :=
  ((0 + (if xi.val + 1 = q.val then 1 else 0) * (p.W o ci dy 0 * p.sc o))
    + (if xi.val = q.val then 1 else 0) * (p.W o ci dy 1 * p.sc o))
    + (if xi.val = q.val + 1 then 1 else 0) * (p.W o ci dy 2 * p.sc o)

/-- The kernel's value. -/
def folded (B C : Fin 64) (r q : Fin 16) (o : Fin 32) : EReal :=
  max ((∑ dy : Fin 3, ∑ xi : Fin 16, ∑ ci : Fin 32, p.px B C (dy.val + r.val) (xi.val + 1) ci * p.bnd dy xi ci q o) + p.sh o) 0

/-- Every input, weight and scale is a number, and no variance is negative; the bias, the mean and
    the shift may be anything. -/
structure Fin' : Prop where
  x : ∀ i j c, ∃ t : ℝ, p.x i j c = t
  W : ∀ o i a b, ∃ t : ℝ, p.W o i a b = t
  γ : ∀ o, ∃ t : ℝ, p.γ o = t
  v : ∀ o, 0 ≤ p.v o

end Par

theorem eps_pos : ∃ t : ℝ, 0 < t ∧ eps = t := by
  refine ⟨(8589935 : ℝ) / 8589934592, by norm_num, ?_⟩
  unfold eps
  simp [Ideal.ofBits, Ideal.ieee, -EReal.coe_mul]
  norm_num

theorem rs_real (p : Par) (h : p.Fin') (o : Fin 32) : ∃ t : ℝ, p.rs o = t := by
  obtain ⟨e, he, h2⟩ := eps_pos
  have hv := h.v o
  unfold Par.rs
  rw [h2]
  induction hx : p.v o with
  | bot => rw [hx] at hv; exact absurd hv (by simp)
  | top => exact ⟨0, by rw [EReal.top_add_coe]; rfl⟩
  | coe a =>
    rw [hx] at hv
    have ha : 0 ≤ a := by exact_mod_cast hv
    rw [← EReal.coe_add, Ideal.rsqrt_coe, if_neg (by linarith), if_neg (by linarith)]
    exact ⟨_, rfl⟩

/-- Three neighbours picked by the band out of a row with zeros at both ends. -/
theorem pick (P : ℕ → ℝ) (h0 : P 0 = 0) (h17 : P 17 = 0) (q : Fin 16) (a b c : ℝ) :
    ∑ xi : Fin 16, P (xi.val + 1) * (((0 + (if xi.val + 1 = q.val then 1 else 0) * a) + (if xi.val = q.val then 1 else 0) * b) + (if xi.val = q.val + 1 then 1 else 0) * c)
      = P (0 + q.val) * a + P (1 + q.val) * b + P (2 + q.val) * c := by
  have e1 : ∑ xi : Fin 16, P (xi.val + 1) * ((if xi.val + 1 = q.val then 1 else 0) * a) = P (0 + q.val) * a := by
    by_cases hq : q.val = 0
    · rw [hq, h0, zero_mul]
      refine Finset.sum_eq_zero fun xi _ => ?_
      rw [if_neg (by omega)]; ring
    · rw [Finset.sum_eq_single (⟨q.val - 1, by omega⟩ : Fin 16)]
      · rw [if_pos (show q.val - 1 + 1 = q.val by omega), show q.val - 1 + 1 = 0 + q.val by omega]; ring
      · intro xi _ hne
        rw [if_neg (fun he => hne (Fin.ext (show xi.val = q.val - 1 by omega)))]; ring
      · intro hx; exact absurd (Finset.mem_univ _) hx
  have e2 : ∑ xi : Fin 16, P (xi.val + 1) * ((if xi.val = q.val then 1 else 0) * b) = P (1 + q.val) * b := by
    rw [Finset.sum_eq_single q]
    · rw [if_pos rfl, show q.val + 1 = 1 + q.val by omega]; ring
    · intro xi _ hne
      rw [if_neg (fun he => hne (Fin.ext he))]; ring
    · intro hx; exact absurd (Finset.mem_univ _) hx
  have e3 : ∑ xi : Fin 16, P (xi.val + 1) * ((if xi.val = q.val + 1 then 1 else 0) * c) = P (2 + q.val) * c := by
    by_cases hq : q.val = 15
    · rw [hq, show 2 + 15 = 17 from rfl, h17, zero_mul]
      refine Finset.sum_eq_zero fun xi _ => ?_
      rw [if_neg (by omega)]; ring
    · rw [Finset.sum_eq_single (⟨q.val + 1, by omega⟩ : Fin 16)]
      · rw [if_pos rfl, show q.val + 1 + 1 = 2 + q.val by omega]; ring
      · intro xi _ hne
        rw [if_neg (fun he => hne (Fin.ext he))]; ring
      · intro hx; exact absurd (Finset.mem_univ _) hx
  rw [← e1, ← e2, ← e3, ← Finset.sum_add_distrib, ← Finset.sum_add_distrib]
  refine Finset.sum_congr rfl fun xi _ => ?_
  ring

theorem ite_coe (P : Prop) [Decidable P] : (if P then (1 : EReal) else 0) = (((if P then 1 else 0 : ℝ)) : EReal) := by
  split <;> simp

theorem sum_coe {ι : Type} [Fintype ι] (f : ι → ℝ) : (∑ i, ((f i : ℝ) : EReal)) = ((∑ i, f i : ℝ) : EReal) :=
  (map_sum (⟨⟨fun t : ℝ => (t : EReal), rfl⟩, fun a b => EReal.coe_add a b⟩ : ℝ →+ EReal) f Finset.univ).symm

/-- A sum over the 1536 columns as one over row offset, pixel and channel. -/
theorem sum_split (f : Fin 1536 → EReal) (g : Fin 3 → Fin 16 → Fin 32 → EReal)
    (h : ∀ (dy : Fin 3) (xi : Fin 16) (ci : Fin 32) (k : Fin 1536), k.val = dy.val * 512 + (xi.val * 32 + ci.val) → f k = g dy xi ci) :
    ∑ k, f k = ∑ dy, ∑ xi, ∑ ci, g dy xi ci := by
  refine ((Equiv.sum_comp (finProdFinEquiv (m := 3) (n := 512)) f).symm.trans (Fintype.sum_prod_type _)).trans ?_
  refine Finset.sum_congr rfl fun dy _ => ?_
  refine ((Equiv.sum_comp (finProdFinEquiv (m := 16) (n := 32)) (fun n : Fin 512 => f (finProdFinEquiv (dy, n)))).symm.trans (Fintype.sum_prod_type _)).trans ?_
  refine Finset.sum_congr rfl fun xi _ => Finset.sum_congr rfl fun ci _ => h dy xi ci _ ?_
  show (ci.val + 32 * xi.val) + 512 * dy.val = _
  omega

/-- A real factor distributes over a sum of which one term is real. -/
theorem real_add_mul (S c : ℝ) (e : EReal) : ((S : EReal) + e) * (c : EReal) = S * c + e * c := by
  rcases lt_trichotomy c 0 with hc | rfl | hc
  · induction e with
    | bot => rw [EReal.add_bot, EReal.bot_mul_coe_of_neg hc, ← EReal.coe_mul, EReal.coe_add_top]
    | top => rw [EReal.coe_add_top, EReal.top_mul_coe_of_neg hc, ← EReal.coe_mul, EReal.add_bot]
    | coe a => rw [← EReal.coe_add, ← EReal.coe_mul, ← EReal.coe_mul, ← EReal.coe_mul, ← EReal.coe_add, add_mul]
  · simp
  · induction e with
    | bot => rw [EReal.add_bot, EReal.bot_mul_coe_of_pos hc, ← EReal.coe_mul, EReal.add_bot]
    | top => rw [EReal.coe_add_top, EReal.top_mul_coe_of_pos hc, ← EReal.coe_mul, EReal.coe_add_top]
    | coe a => rw [← EReal.coe_add, ← EReal.coe_mul, ← EReal.coe_mul, ← EReal.coe_mul, ← EReal.coe_add, add_mul]

/-- Folding the scale into the weights changes nothing on finite entries. -/
theorem folded_eq_plain (p : Par) (h : p.Fin') (B C : Fin 64) (r q : Fin 16) (o : Fin 32) :
    p.folded B C r q o = p.plain B C r q o := by
  have hpx : ∀ i j ci, ∃ t : ℝ, p.px B C i j ci = t := by
    intro i j ci
    unfold Par.px
    split
    · exact h.x _ _ _
    · exact ⟨0, rfl⟩
  choose P hP using hpx
  choose W hW using h.W
  obtain ⟨g, hg⟩ := h.γ o
  obtain ⟨s, hs⟩ := rs_real p h o
  have P0 : ∀ i ci, P i 0 ci = 0 := by
    intro i ci
    have := hP i 0 ci
    unfold Par.px at this
    rw [dif_neg (by omega)] at this
    exact_mod_cast this.symm
  have P17 : ∀ i ci, P i 17 ci = 0 := by
    intro i ci
    have := hP i 17 ci
    unfold Par.px at this
    rw [dif_neg (by omega)] at this
    exact_mod_cast this.symm
  have key : (∑ dy : Fin 3, ∑ xi : Fin 16, ∑ ci : Fin 32, p.px B C (dy.val + r.val) (xi.val + 1) ci * p.bnd dy xi ci q o)
      = (((∑ dy : Fin 3, ∑ dx : Fin 3, ∑ ci : Fin 32, P (dy.val + r.val) (dx.val + q.val) ci * W o ci dy dx) * (g * s) : ℝ) : EReal) := by
    have e : ∀ (dy : Fin 3) (xi : Fin 16) (ci : Fin 32), p.px B C (dy.val + r.val) (xi.val + 1) ci * p.bnd dy xi ci q o
        = ((P (dy.val + r.val) (xi.val + 1) ci * (((0 + (if xi.val + 1 = q.val then 1 else 0) * (W o ci dy 0 * (g * s))) + (if xi.val = q.val then 1 else 0) * (W o ci dy 1 * (g * s))) + (if xi.val = q.val + 1 then 1 else 0) * (W o ci dy 2 * (g * s))) : ℝ) : EReal) := by
      intro dy xi ci
      unfold Par.bnd Par.sc
      rw [hP, hW, hW, hW, hg, hs, ite_coe, ite_coe, ite_coe]
      push_cast
      rfl
    simp only [e, sum_coe]
    congr 1
    rw [Finset.sum_mul]
    refine Finset.sum_congr rfl fun dy _ => ?_
    rw [Finset.sum_comm]
    refine (Finset.sum_congr rfl fun ci _ => pick (fun j => P (dy.val + r.val) j ci) (P0 _ _) (P17 _ _) q _ _ _).trans ?_
    rw [Fin.sum_univ_three, add_mul, add_mul, Finset.sum_mul, Finset.sum_mul, Finset.sum_mul, ← Finset.sum_add_distrib, ← Finset.sum_add_distrib]
    refine Finset.sum_congr rfl fun ci _ => ?_
    show _ = P (dy.val + r.val) (0 + q.val) ci * W o ci dy 0 * (g * s) + P (dy.val + r.val) (1 + q.val) ci * W o ci dy 1 * (g * s) + P (dy.val + r.val) (2 + q.val) ci * W o ci dy 2 * (g * s)
    ring
  have key2 : p.conv B C r q o = ((∑ dy : Fin 3, ∑ dx : Fin 3, ∑ ci : Fin 32, P (dy.val + r.val) (dx.val + q.val) ci * W o ci dy dx : ℝ) : EReal) := by
    unfold Par.conv
    simp only [hP, hW, ← EReal.coe_mul, sum_coe]
  unfold Par.folded Par.plain Par.sh Par.sc
  rw [key, key2, hg, hs]
  generalize (∑ dy : Fin 3, ∑ dx : Fin 3, ∑ ci : Fin 32, P (dy.val + r.val) (dx.val + q.val) ci * W o ci dy dx) = S
  rw [← add_assoc]
  refine congrArg (fun t => max (t + p.β o) 0) ?_
  rw [add_sub_assoc, ← EReal.coe_mul, ← EReal.coe_mul, mul_comm s g, real_add_mul, EReal.coe_mul S]

end Cert.Proof
end
-- ==== Proof.KIVTile.lean ====
module

public import proofs.«01_k».proof.Proof.KIVHost
public import proofs.«01_k».proof.Proof.KIVConv
public import proofs.«01_k».proof.Proof.Spec

@[expose] public section

set_option maxRecDepth 16384

noncomputable section

/-! One tile of the convolution, as the plain functions have it. -/

namespace Cert.Proof.KernelIdeal

open Cert.KernelIdeal Cert.KernelIdeal.Gen
open Idealize.ShloMosaic Idealize.ShloMosaic.TcCoe Idealize.ShloMosaic.Tactic

section
variable {F : FTy → Type} [FloatOps F]
variable (a : (p : Fin 2) → (pcfgs (F := F) p).Adm) (V : Dev nD → Valuation τ sig (Elt F))

/-- The sixteen blocks a step of the convolution works on. -/
def tiles (c : Dev nD) (t : Fin grid0.N) : Fin 16 → Vec F S16x512 .f32 :=
  ![blk0 a V c 0 t, blk0 a V c 1 t, blk0 a V c 2 t, blk0 a V c 3 t, blk0 a V c 4 t, blk0 a V c 5 t, blk0 a V c 6 t, blk0 a V c 7 t, blk0 a V c 8 t, blk0 a V c 9 t, blk0 a V c 10 t, blk0 a V c 11 t, blk0 a V c 12 t, blk0 a V c 13 t, blk0 a V c 14 t, blk0 a V c 15 t]

theorem tiles_at (c : Dev nD) (t : Fin grid0.N) (j r : Fin 16) (l : Fin 512) (Y : Fin 1024) (X : Fin 32768)
    (hY : Y.val = ((a 0).1 0 (ix2 (0 : Fin 2) (cell t j)) : BitVec 32).toNat * 16 + r.val)
    (hX : X.val = ((a 0).1 0 (ix2 (1 : Fin 2) (cell t j)) : BitVec 32).toNat * 512 + l.val) :
    tiles a V c t j (ix2 r l) = V c main_v0 (ix2 Y X) := by
  match j with
  | ⟨0, _⟩ => exact blk0_0 a V c t r l Y X hY hX
  | ⟨1, _⟩ => exact blk0_1 a V c t r l Y X hY hX
  | ⟨2, _⟩ => exact blk0_2 a V c t r l Y X hY hX
  | ⟨3, _⟩ => exact blk0_3 a V c t r l Y X hY hX
  | ⟨4, _⟩ => exact blk0_4 a V c t r l Y X hY hX
  | ⟨5, _⟩ => exact blk0_5 a V c t r l Y X hY hX
  | ⟨6, _⟩ => exact blk0_6 a V c t r l Y X hY hX
  | ⟨7, _⟩ => exact blk0_7 a V c t r l Y X hY hX
  | ⟨8, _⟩ => exact blk0_8 a V c t r l Y X hY hX
  | ⟨9, _⟩ => exact blk0_9 a V c t r l Y X hY hX
  | ⟨10, _⟩ => exact blk0_10 a V c t r l Y X hY hX
  | ⟨11, _⟩ => exact blk0_11 a V c t r l Y X hY hX
  | ⟨12, _⟩ => exact blk0_12 a V c t r l Y X hY hX
  | ⟨13, _⟩ => exact blk0_13 a V c t r l Y X hY hX
  | ⟨14, _⟩ => exact blk0_14 a V c t r l Y X hY hX
  | ⟨15, _⟩ => exact blk0_15 a V c t r l Y X hY hX
  | ⟨n + 16, h⟩ => exact absurd h (by omega)

end

variable (m : (ℓ : Loc nD τ sig) → Buf (Elt Ideal) ℓ)

/-- The entries of the arguments. -/
def parOf (c : Dev nD) : Par where
  x Y X ch := (m ((c : Thread nD τ).loc main_arg0) : S1x1024x1024x32.Idx → EReal) (ix4 0 Y X ch)
  W o i p q := (m ((c : Thread nD τ).loc main_arg3) : S32x32x3x3.Idx → EReal) (ix4 o i p q)
  b o := (m ((c : Thread nD τ).loc main_arg4) : S32.Idx → EReal) (ix1 o)
  γ o := (m ((c : Thread nD τ).loc main_arg5) : S32.Idx → EReal) (ix1 o)
  β o := (m ((c : Thread nD τ).loc main_arg6) : S32.Idx → EReal) (ix1 o)
  μ o := (m ((c : Thread nD τ).loc main_arg7) : S32.Idx → EReal) (ix1 o)
  v o := (m ((c : Thread nD τ).loc main_arg8) : S32.Idx → EReal) (ix1 o)

variable (hT : TabOK (Gen.V24 m 0))

theorem row_at (c : Dev nD) (k : Fin 400) (B C : Fin 64) (hB : (byT m c (sg m c k)).toNat = B.val) (hC : (bxT m c (sg m c k)).toNat = C.val)
    (t : Fin grid0.N) (j : Fin 16) (hk : k.val = 16 * t.val + j.val) (i : ℕ) (hi : i < 18) (xi : Fin 16) (ci : Fin 32) (n : ℕ) (hn : n = xi.val * 32 + ci.val) :
    prow (tiles (adm m hT) (Gen.V24 m) c t j) i n = (parOf m c).px B C i (xi.val + 1) ci := by
  have hcell : cell t j = k := Fin.ext hk.symm
  have h0 : ((adm m hT 0).1 0 (ix2 (0 : Fin 2) (cell t j)) : BitVec 32).toNat = B.val := by
    rw [tab0 m hT c 0, hcell]
    exact (congrArg BitVec.toNat (V24_v25_0 m c k)).trans hB
  have h1 : ((adm m hT 0).1 0 (ix2 (1 : Fin 2) (cell t j)) : BitVec 32).toNat = C.val := by
    rw [tab0 m hT c 0, hcell]
    exact (congrArg BitVec.toNat (V24_v25_1 m c k)).trans hC
  unfold Par.px
  by_cases h : 1 ≤ i ∧ i - 1 < 16
  · rw [dif_pos ⟨h, by omega, by omega⟩]
    rw [prow_of _ i n ⟨i - 1, h.2⟩ ⟨n, by omega⟩ (by show i = i - 1 + 1; omega) rfl]
    refine (tiles_at (adm m hT) (Gen.V24 m) c t j ⟨i - 1, h.2⟩ ⟨n, by omega⟩ ⟨B.val * 16 + (i - 1), by omega⟩ ⟨C.val * 512 + n, by omega⟩ (by rw [h0]) (by rw [h1])).trans ?_
    refine (V24_v0 m c _ _).trans ?_
    have ea : (C.val * 512 + n) / 32 = C.val * 16 + (xi.val + 1 - 1) := by omega
    have eb : (C.val * 512 + n) % 32 = ci.val := by omega
    refine congrArg₂ (fun (u : Fin 1024) (w : Fin 32) => (m ((c : Thread nD τ).loc main_arg0) : S1x1024x1024x32.Idx → EReal) (ix4 0 ⟨B.val * 16 + (i - 1), by omega⟩ u w)) (Fin.ext ea) (Fin.ext eb)
  · rw [dif_neg (fun hh => h hh.1)]
    exact prow_zero _ _ _ (by omega)

theorem tile_at (c : Dev nD) (k : Fin 400) (B C : Fin 64) (hB : (byT m c (sg m c k)).toNat = B.val) (hC : (bxT m c (sg m c k)).toNat = C.val)
    (r q : Fin 16) (o : Fin 32) (l : Fin 512) (hl : l.val = q.val * 32 + o.val) :
    @Eq EReal (tileAt m hT c k r l) ((parOf m c).folded B C r q o) := by
  have hq : (⟨l.val % 32, by omega⟩ : Fin 32) = o := Fin.ext (by show l.val % 32 = o.val; omega)
  unfold tileAt tile0
  refine (convTile_apply (tiles (adm m hT) (Gen.V24 m) c ⟨k.val / 16, _⟩) _ _ ⟨k.val % 16, _⟩ r l).trans ?_
  unfold Par.folded
  refine congrArg₂ (fun s t : EReal => max (s + t) 0) ?_ ?_
  · refine sum_split _ _ fun dy xi ci n hn => ?_
    refine congrArg₂ mulE (y' := (parOf m c).bnd dy xi ci q o) ((row_at m hT c k B C hB hC _ _ (by show k.val = 16 * (k.val / 16) + k.val % 16; omega) _ (by omega) xi ci _ (by omega)).trans ?_) ?_
    · rw [show r.val + n.val / 512 = dy.val + r.val by omega]
    · refine (blk0_16 (adm m hT) (Gen.V24 m) c _ n l).trans ((V24_v138 m c n l).trans ?_)
      have e1 : (⟨n.val / 512, by omega⟩ : Fin 3) = dy := Fin.ext (by show n.val / 512 = dy.val; omega)
      have e2 : (⟨n.val % 512 % 32, by omega⟩ : Fin 32) = ci := Fin.ext (by show n.val % 512 % 32 = ci.val; omega)
      have e3 : n.val % 512 / 32 = xi.val := by omega
      have e4 : l.val / 32 = q.val := by omega
      unfold band
      simp only [e1, e2, e3, e4, hq]
      rfl
  · refine (blk0_17 (adm m hT) (Gen.V24 m) c _ 0 l).trans ((V24_v142 m c l).trans ?_)
    rw [hq]
    rfl

end Cert.Proof.KernelIdeal
end
-- ==== Proof.RIdx.lean ====
module

public import proofs.«01_k».proof.Proof.RefRun
public import Idealize.ShloMosaic.Lib.Pointwise
public import Idealize.ShloMosaic.Lib.Routing.OpsSet
public import Idealize.ShloMosaic.Lib.Routing.OpsPair

@[expose] public section

set_option maxRecDepth 16384

noncomputable section

/-! Where one update of the reference's scatter lands, and which element its gather reads: both
    name the image by three index words, the batch, the row and the column. -/

namespace Cert.Proof.ReferenceIdeal

open Cert.ReferenceIdeal
open Idealize.ShloMosaic Idealize.ShloMosaic.TcCoe Idealize.ShloMosaic.Tactic

abbrev sdim := scatter_S1x1024x1024x32_S400x16x16x3_S400x16x16x32_3_012_012_3
abbrev gdim := gather_S1x1024x1024x32_S400x16x16x3_S400x16x16x32_3_012_n_n_012_3_11132

theorem s_start0 (idx : IVec S400x16x16x3 32) (k : Fin 400) (r q : Fin 16) (o : Fin 32) :
    sdim.start (ix4 k r q o) idx 0 = (idx (ix4 k r q 0)).toInt := by
  refine congrArg (fun t => (idx t).toInt) (funext fun b => ?_)
  match b with
  | ⟨0, _⟩ => rfl
  | ⟨1, _⟩ => rfl
  | ⟨2, _⟩ => rfl
  | ⟨3, _⟩ => rfl

theorem s_start1 (idx : IVec S400x16x16x3 32) (k : Fin 400) (r q : Fin 16) (o : Fin 32) :
    sdim.start (ix4 k r q o) idx 1 = (idx (ix4 k r q 1)).toInt := by
  refine congrArg (fun t => (idx t).toInt) (funext fun b => ?_)
  match b with
  | ⟨0, _⟩ => rfl
  | ⟨1, _⟩ => rfl
  | ⟨2, _⟩ => rfl
  | ⟨3, _⟩ => rfl

theorem s_start2 (idx : IVec S400x16x16x3 32) (k : Fin 400) (r q : Fin 16) (o : Fin 32) :
    sdim.start (ix4 k r q o) idx 2 = (idx (ix4 k r q 2)).toInt := by
  refine congrArg (fun t => (idx t).toInt) (funext fun b => ?_)
  match b with
  | ⟨0, _⟩ => rfl
  | ⟨1, _⟩ => rfl
  | ⟨2, _⟩ => rfl
  | ⟨3, _⟩ => rfl

theorem s_start3 (idx : IVec S400x16x16x3 32) (k : Fin 400) (r q : Fin 16) (o : Fin 32) :
    sdim.start (ix4 k r q o) idx 3 = 0 := rfl

theorem s_win (k : Fin 400) (r q : Fin 16) (o : Fin 32) :
    sdim.window (ix4 k r q o) 0 = 0 ∧ sdim.window (ix4 k r q o) 1 = 0 ∧ sdim.window (ix4 k r q o) 2 = 0
      ∧ sdim.window (ix4 k r q o) 3 = o.val := ⟨rfl, rfl, rfl, rfl⟩

theorem lands (idx : IVec S400x16x16x3 32) (k : Fin 400) (r q : Fin 16) (o : Fin 32) (Y X : Fin 1024) (ch : Fin 32) :
    sdim.resultIdx? (ix4 k r q o) idx = some (ix4 0 Y X ch)
      ↔ (idx (ix4 k r q 0)).toInt = 0 ∧ (idx (ix4 k r q 1)).toInt = Y.val ∧ (idx (ix4 k r q 2)).toInt = X.val ∧ o = ch := by
  obtain ⟨w0, w1, w2, w3⟩ := s_win k r q o
  rw [Routing.resultIdx?_eq_some]
  constructor
  · intro h
    have h0 : _ = (0 : Int) := h 0
    have h1 : _ = (Y.val : Int) := h 1
    have h2 : _ = (X.val : Int) := h 2
    have h3 : _ = (ch.val : Int) := h 3
    rw [s_start0, w0] at h0
    rw [s_start1, w1] at h1
    rw [s_start2, w2] at h2
    rw [s_start3, w3] at h3
    exact ⟨by omega, by omega, by omega, Fin.ext (by omega)⟩
  · rintro ⟨h0, h1, h2, rfl⟩ a
    match a with
    | ⟨0, _⟩ =>
      show sdim.start (ix4 k r q o) idx 0 + ((sdim.window (ix4 k r q o) 0 : ℕ) : Int) = (0 : Int)
      rw [s_start0, w0, h0]; rfl
    | ⟨1, _⟩ =>
      show sdim.start (ix4 k r q o) idx 1 + ((sdim.window (ix4 k r q o) 1 : ℕ) : Int) = (Y.val : Int)
      rw [s_start1, w1, h1]; omega
    | ⟨2, _⟩ =>
      show sdim.start (ix4 k r q o) idx 2 + ((sdim.window (ix4 k r q o) 2 : ℕ) : Int) = (X.val : Int)
      rw [s_start2, w2, h2]; omega
    | ⟨3, _⟩ =>
      show sdim.start (ix4 k r q o) idx 3 + ((sdim.window (ix4 k r q o) 3 : ℕ) : Int) = (o.val : Int)
      rw [s_start3, w3]; omega

theorem gather_at {α : Type} (x : S1x1024x1024x32.Idx → α) (idx : IVec S400x16x16x3 32) (k : Fin 400) (r q : Fin 16) (o : Fin 32)
    (Y X : Fin 1024) (h1 : (idx (ix4 k r q 1)).toInt = Y.val) (h2 : (idx (ix4 k r q 2)).toInt = X.val) :
    Host.gather gdim x idx (ix4 k r q o) = x (ix4 0 Y X o) := by
  refine congrArg x (funext fun a => Fin.ext ?_)
  match a with
  | ⟨0, _⟩ =>
    have h : (gdim.operandIdx (ix4 k r q o) idx 0).val < 1 := (gdim.operandIdx (ix4 k r q o) idx 0).isLt
    exact Nat.lt_one_iff.1 h
  | ⟨1, _⟩ =>
    have e : gdim.start (ix4 k r q o) idx 1 = min (idx (ix4 k r q 1)).toInt.toNat 1023 := by
      refine congrArg (fun t => min (idx t).toInt.toNat 1023) (funext fun b => ?_)
      match b with
      | ⟨0, _⟩ => rfl
      | ⟨1, _⟩ => rfl
      | ⟨2, _⟩ => rfl
      | ⟨3, _⟩ => rfl
    show gdim.start (ix4 k r q o) idx 1 + gdim.batchCoord (ix4 k r q o) 1 + gdim.offCoord (ix4 k r q o) 1 = Y.val
    rw [e, h1, show gdim.batchCoord (ix4 k r q o) 1 = 0 from rfl, show gdim.offCoord (ix4 k r q o) 1 = 0 from rfl]
    have := Y.isLt
    omega
  | ⟨2, _⟩ =>
    have e : gdim.start (ix4 k r q o) idx 2 = min (idx (ix4 k r q 2)).toInt.toNat 1023 := by
      refine congrArg (fun t => min (idx t).toInt.toNat 1023) (funext fun b => ?_)
      match b with
      | ⟨0, _⟩ => rfl
      | ⟨1, _⟩ => rfl
      | ⟨2, _⟩ => rfl
      | ⟨3, _⟩ => rfl
    show gdim.start (ix4 k r q o) idx 2 + gdim.batchCoord (ix4 k r q o) 2 + gdim.offCoord (ix4 k r q o) 2 = X.val
    rw [e, h2, show gdim.batchCoord (ix4 k r q o) 2 = 0 from rfl, show gdim.offCoord (ix4 k r q o) 2 = 0 from rfl]
    have := X.isLt
    omega
  | ⟨3, _⟩ =>
    show gdim.start (ix4 k r q o) idx 3 + gdim.batchCoord (ix4 k r q o) 3 + gdim.offCoord (ix4 k r q o) 3 = o.val
    rw [show gdim.start (ix4 k r q o) idx 3 = 0 from rfl, show gdim.batchCoord (ix4 k r q o) 3 = 0 from rfl, show gdim.offCoord (ix4 k r q o) 3 = o.val from rfl]
    omega

end Cert.Proof.ReferenceIdeal
end
-- ==== Proof.RVal.lean ====
module

public import proofs.«01_k».proof.Proof.RIdx
public import proofs.«01_k».proof.Proof.HostWords
public import Idealize.ShloMosaic.Lib.Pointwise
public import Idealize.ShloMosaic.Lib.StableHlo.ReadAt
public import Idealize.ShloMosaic.Lib.Tactic.WordOmega

@[expose] public section

set_option maxRecDepth 16384

noncomputable section

/-! The reference's stages read element by element, each over whatever the buffers before it hold. -/

namespace Cert.Proof.ReferenceIdeal

open Cert.ReferenceIdeal
open Idealize.ShloMosaic Idealize.ShloMosaic.TcCoe Idealize.ShloMosaic.Tactic
open Idealize.ShloMosaic.StableHlo (after)

variable (V : Valuation τ sig (Elt Ideal))

/-- An index word with a negative one moved up by `n`. -/
def upW (w n : BitVec 32) : BitVec 32 := Scalar.select (IntOp.cmpi .slt w 0#32) (IntOp.addi w n) w

theorem upW_of_small (w n : BitVec 32) (h : w.toNat < 1024) : upW w n = w := by
  unfold upW
  rw [show IntOp.cmpi .slt w 0#32 = 0#1 from ?_]
  · rfl
  · show BitVec.ofBool (w.slt 0#32) = 0#1
    rw [show w.slt 0#32 = false from ?_]
    · rfl
    · rw [BitVec.slt_eq_decide]
      rw [BitVec.toInt_eq_toNat_of_lt (by omega)]
      simp

/-- The remainder by one that takes the divisor's sign, as jnp prints it. -/
def modOne (x : BitVec 32) : BitVec 32 :=
  Scalar.select
    (IntOp.andi
      (IntOp.cmpi CmpIPredicate.ne (IntOp.cmpi CmpIPredicate.slt (IntOp.remsi ArithUnit.host x 1#32) 0#32) (IntOp.cmpi CmpIPredicate.slt (1#32 : BitVec 32) 0#32))
      (IntOp.cmpi CmpIPredicate.ne (IntOp.remsi ArithUnit.host x 1#32) 0#32))
    (IntOp.addi (IntOp.remsi ArithUnit.host x 1#32) 1#32)
    (IntOp.remsi ArithUnit.host x 1#32)

theorem modOne_eq (x : BitVec 32) : modOne x = 0#32 := by
  unfold modOne
  have h1 : IntOp.remsi ArithUnit.host x 1#32 = 0#32 := by
    rw [IntOp.remsi_of_pos _ (by decide)]
    apply BitVec.eq_of_toInt_eq
    rw [BitVec.toInt_srem]
    show x.toInt.tmod 1 = 0
    exact Int.tmod_one _
  rw [h1]
  decide

theorem r0_v2 (k : Fin 400) :
    @Eq (BitVec 32) ((after rOps0 V main_v2 : S400.Idx → BitVec 32) (ix1 k)) 0#32 := by
  refine Eq.trans ?_ (modOne_eq ((V main_arg1 : S400x3.Idx → BitVec 32) (ix2 k 0)))
  after_reads_at
  rfl
theorem r1_v5 (k : Fin 400) :
    @Eq (BitVec 32) ((after rOps1 V main_v5 : S400.Idx → BitVec 32) (ix1 k)) (modW ((V main_arg1 : S400x3.Idx → BitVec 32) (ix2 k 1))) := by
  after_reads_at
  rfl
theorem r2_v8 (k : Fin 400) :
    @Eq (BitVec 32) ((after rOps2 V main_v8 : S400.Idx → BitVec 32) (ix1 k)) (modW ((V main_arg1 : S400x3.Idx → BitVec 32) (ix2 k 2))) := by
  after_reads_at
  rfl

theorem r3_v16 (k : Fin 400) (r : Fin 16) :
    @Eq (BitVec 32) ((after rOps3 V main_v16 : S400x16.Idx → BitVec 32) (ix2 k r)) (IntOp.addi (IntOp.muli ((V main_v5 : S400.Idx → BitVec 32) (ix1 k)) 16#32) (BitVec.ofNat 32 r.val)) := by
  after_reads_at
theorem r3_v23 (k : Fin 400) (r : Fin 16) :
    @Eq (BitVec 32) ((after rOps3 V main_v23 : S400x16.Idx → BitVec 32) (ix2 k r)) (IntOp.addi (IntOp.muli ((V main_v8 : S400.Idx → BitVec 32) (ix1 k)) 16#32) (BitVec.ofNat 32 r.val)) := by
  after_reads_at
theorem r3_v46 (k : Fin 400) (r q : Fin 16) :
    @Eq (BitVec 32) ((after rOps3 V main_v46 : S400x16x16x1.Idx → BitVec 32) (ix4 k r q 0)) (upW (IntOp.addi (IntOp.muli ((V main_v5 : S400.Idx → BitVec 32) (ix1 k)) 16#32) (BitVec.ofNat 32 r.val)) 1024#32) := by
  after_reads_at
  all_goals rfl
theorem r3_v48_1' (z : S400x16x16x1.Idx → BitVec 32) (hz : z = (after rOps3 V main_v46 : S400x16x16x1.Idx → BitVec 32)) (k : Fin 400) (r q : Fin 16) :
    @Eq (BitVec 32) ((after rOps3 V main_v48 : S400x16x16x3.Idx → BitVec 32) (ix4 k r q 1)) (z (ix4 k r q 0)) := by
  after_reads_at
  rw [hz]
  rfl
theorem r3_v48_1 (k : Fin 400) (r q : Fin 16) :
    @Eq (BitVec 32) ((after rOps3 V main_v48 : S400x16x16x3.Idx → BitVec 32) (ix4 k r q 1)) (upW (IntOp.addi (IntOp.muli ((V main_v5 : S400.Idx → BitVec 32) (ix1 k)) 16#32) (BitVec.ofNat 32 r.val)) 1024#32) :=
  (r3_v48_1' V _ rfl k r q).trans (r3_v46 V k r q)
theorem r3_v47 (k : Fin 400) (r q : Fin 16) :
    @Eq (BitVec 32) ((after rOps3 V main_v47 : S400x16x16x1.Idx → BitVec 32) (ix4 k r q 0)) (upW (IntOp.addi (IntOp.muli ((V main_v8 : S400.Idx → BitVec 32) (ix1 k)) 16#32) (BitVec.ofNat 32 q.val)) 1024#32) := by
  after_reads_at
  all_goals rfl
theorem r3_v48_2' (z : S400x16x16x1.Idx → BitVec 32) (hz : z = (after rOps3 V main_v47 : S400x16x16x1.Idx → BitVec 32)) (k : Fin 400) (r q : Fin 16) :
    @Eq (BitVec 32) ((after rOps3 V main_v48 : S400x16x16x3.Idx → BitVec 32) (ix4 k r q 2)) (z (ix4 k r q 0)) := by
  after_reads_at
  rw [hz]
  rfl
theorem r3_v48_2 (k : Fin 400) (r q : Fin 16) :
    @Eq (BitVec 32) ((after rOps3 V main_v48 : S400x16x16x3.Idx → BitVec 32) (ix4 k r q 2)) (upW (IntOp.addi (IntOp.muli ((V main_v8 : S400.Idx → BitVec 32) (ix1 k)) 16#32) (BitVec.ofNat 32 q.val)) 1024#32) :=
  (r3_v48_2' V _ rfl k r q).trans (r3_v47 V k r q)
theorem r7_v145 (k : Fin 400) (r q : Fin 16) :
    @Eq (BitVec 32) ((after rOps7 V main_v145 : S400x16x16x1.Idx → BitVec 32) (ix4 k r q 0)) (upW ((V main_v2 : S400.Idx → BitVec 32) (ix1 k)) 1#32) := by
  after_reads_at
  all_goals rfl
theorem r7_v148_0' (z : S400x16x16x1.Idx → BitVec 32) (hz : z = (after rOps7 V main_v145 : S400x16x16x1.Idx → BitVec 32)) (k : Fin 400) (r q : Fin 16) :
    @Eq (BitVec 32) ((after rOps7 V main_v148 : S400x16x16x3.Idx → BitVec 32) (ix4 k r q 0)) (z (ix4 k r q 0)) := by
  after_reads_at
  rw [hz]
  rfl
theorem r7_v148_0 (k : Fin 400) (r q : Fin 16) :
    @Eq (BitVec 32) ((after rOps7 V main_v148 : S400x16x16x3.Idx → BitVec 32) (ix4 k r q 0)) (upW ((V main_v2 : S400.Idx → BitVec 32) (ix1 k)) 1#32) :=
  (r7_v148_0' V _ rfl k r q).trans (r7_v145 V k r q)
theorem r7_v146 (k : Fin 400) (r q : Fin 16) :
    @Eq (BitVec 32) ((after rOps7 V main_v146 : S400x16x16x1.Idx → BitVec 32) (ix4 k r q 0)) (upW ((V main_v16 : S400x16.Idx → BitVec 32) (ix2 k r)) 1024#32) := by
  after_reads_at
  all_goals rfl
theorem r7_v148_1' (z : S400x16x16x1.Idx → BitVec 32) (hz : z = (after rOps7 V main_v146 : S400x16x16x1.Idx → BitVec 32)) (k : Fin 400) (r q : Fin 16) :
    @Eq (BitVec 32) ((after rOps7 V main_v148 : S400x16x16x3.Idx → BitVec 32) (ix4 k r q 1)) (z (ix4 k r q 0)) := by
  after_reads_at
  rw [hz]
  rfl
theorem r7_v148_1 (k : Fin 400) (r q : Fin 16) :
    @Eq (BitVec 32) ((after rOps7 V main_v148 : S400x16x16x3.Idx → BitVec 32) (ix4 k r q 1)) (upW ((V main_v16 : S400x16.Idx → BitVec 32) (ix2 k r)) 1024#32) :=
  (r7_v148_1' V _ rfl k r q).trans (r7_v146 V k r q)
theorem r7_v147 (k : Fin 400) (r q : Fin 16) :
    @Eq (BitVec 32) ((after rOps7 V main_v147 : S400x16x16x1.Idx → BitVec 32) (ix4 k r q 0)) (upW ((V main_v23 : S400x16.Idx → BitVec 32) (ix2 k q)) 1024#32) := by
  after_reads_at
  all_goals rfl
theorem r7_v148_2' (z : S400x16x16x1.Idx → BitVec 32) (hz : z = (after rOps7 V main_v147 : S400x16x16x1.Idx → BitVec 32)) (k : Fin 400) (r q : Fin 16) :
    @Eq (BitVec 32) ((after rOps7 V main_v148 : S400x16x16x3.Idx → BitVec 32) (ix4 k r q 2)) (z (ix4 k r q 0)) := by
  after_reads_at
  rw [hz]
  rfl
theorem r7_v148_2 (k : Fin 400) (r q : Fin 16) :
    @Eq (BitVec 32) ((after rOps7 V main_v148 : S400x16x16x3.Idx → BitVec 32) (ix4 k r q 2)) (upW ((V main_v23 : S400x16.Idx → BitVec 32) (ix2 k q)) 1024#32) :=
  (r7_v148_2' V _ rfl k r q).trans (r7_v147 V k r q)

theorem r8_v149 (i : S1x1024x1024x32.Idx) :
    @Eq EReal ((after rOps8 V main_v149 : S1x1024x1024x32.Idx → EReal) i) (Host.scatter sdim (fun _ b => b) (V main_arg0 : S1x1024x1024x32.Idx → EReal) (V main_v148 : S400x16x16x3.Idx → BitVec 32) (V main_v123 : S400x16x16x32.Idx → EReal) i) := by
  after_reads_at

theorem r4_v50_in (k : Fin 400) (r q : Fin 18) (o : Fin 32) (h : (1 ≤ r.val ∧ r.val - 1 < 16) ∧ 1 ≤ q.val ∧ q.val - 1 < 16) :
    @Eq EReal ((after rOps4 V main_v50 : S400x18x18x32.Idx → EReal) (ix4 k r q o))
      (Host.gather gdim (V main_arg0 : S1x1024x1024x32.Idx → EReal) (V main_v48 : S400x16x16x3.Idx → BitVec 32) (ix4 k ⟨r.val - 1, h.1.2⟩ ⟨q.val - 1, h.2.2⟩ o)) := by
  after_reads_at
  exact dif_pos h
theorem r4_v50_out (k : Fin 400) (r q : Fin 18) (o : Fin 32) (h : ¬ ((1 ≤ r.val ∧ r.val - 1 < 16) ∧ 1 ≤ q.val ∧ q.val - 1 < 16)) :
    @Eq EReal ((after rOps4 V main_v50 : S400x18x18x32.Idx → EReal) (ix4 k r q o)) 0 := by
  after_reads_at
  refine (dif_neg h).trans ?_
  show ((((0#32 : BitVec 32).toInt : ℤ) : ℝ) : EReal) = 0
  simp

/-- Product and sum of two numbers, named so that both factors are read as numbers. -/
abbrev mulE (a b : EReal) : EReal := a * b
abbrev addE (a b : EReal) : EReal := a + b

theorem r5_v105 (k : Fin 400) (r q : Fin 16) (o : Fin 32) :
    @Eq EReal ((after rOps5 V main_v105 : S400x16x16x32.Idx → EReal) (ix4 k r q o))
      (addE (addE (addE (addE (addE (addE (addE (addE (addE ((0 : EReal))
        (∑ x : Fin 32, mulE ((V main_v50 : S400x18x18x32.Idx → EReal) (ix4 k ⟨r.val, by omega⟩ ⟨q.val, by omega⟩ x)) ((V main_arg3 : S32x32x3x3.Idx → EReal) (ix4 o x 0 0))))
        (∑ x : Fin 32, mulE ((V main_v50 : S400x18x18x32.Idx → EReal) (ix4 k ⟨r.val, by omega⟩ ⟨1 + q.val, by omega⟩ x)) ((V main_arg3 : S32x32x3x3.Idx → EReal) (ix4 o x 0 1))))
        (∑ x : Fin 32, mulE ((V main_v50 : S400x18x18x32.Idx → EReal) (ix4 k ⟨r.val, by omega⟩ ⟨2 + q.val, by omega⟩ x)) ((V main_arg3 : S32x32x3x3.Idx → EReal) (ix4 o x 0 2))))
        (∑ x : Fin 32, mulE ((V main_v50 : S400x18x18x32.Idx → EReal) (ix4 k ⟨1 + r.val, by omega⟩ ⟨q.val, by omega⟩ x)) ((V main_arg3 : S32x32x3x3.Idx → EReal) (ix4 o x 1 0))))
        (∑ x : Fin 32, mulE ((V main_v50 : S400x18x18x32.Idx → EReal) (ix4 k ⟨1 + r.val, by omega⟩ ⟨1 + q.val, by omega⟩ x)) ((V main_arg3 : S32x32x3x3.Idx → EReal) (ix4 o x 1 1))))
        (∑ x : Fin 32, mulE ((V main_v50 : S400x18x18x32.Idx → EReal) (ix4 k ⟨1 + r.val, by omega⟩ ⟨2 + q.val, by omega⟩ x)) ((V main_arg3 : S32x32x3x3.Idx → EReal) (ix4 o x 1 2))))
        (∑ x : Fin 32, mulE ((V main_v50 : S400x18x18x32.Idx → EReal) (ix4 k ⟨2 + r.val, by omega⟩ ⟨q.val, by omega⟩ x)) ((V main_arg3 : S32x32x3x3.Idx → EReal) (ix4 o x 2 0))))
        (∑ x : Fin 32, mulE ((V main_v50 : S400x18x18x32.Idx → EReal) (ix4 k ⟨2 + r.val, by omega⟩ ⟨1 + q.val, by omega⟩ x)) ((V main_arg3 : S32x32x3x3.Idx → EReal) (ix4 o x 2 1))))
        (∑ x : Fin 32, mulE ((V main_v50 : S400x18x18x32.Idx → EReal) (ix4 k ⟨2 + r.val, by omega⟩ ⟨2 + q.val, by omega⟩ x)) ((V main_arg3 : S32x32x3x3.Idx → EReal) (ix4 o x 2 2)))) := by
  after_reads_at

theorem r6_v123 (k : Fin 400) (r q : Fin 16) (o : Fin 32) :
    @Eq EReal ((after rOps6 V main_v123 : S400x16x16x32.Idx → EReal) (ix4 k r q o))
      (max (addE (mulE (@HSub.hSub EReal EReal EReal _ (addE ((V main_v105 : S400x16x16x32.Idx → EReal) (ix4 k r q o)) ((V main_arg4 : S32.Idx → EReal) (ix1 o))) ((V main_arg7 : S32.Idx → EReal) (ix1 o)))
          (mulE (Ideal.rsqrt (addE ((V main_arg8 : S32.Idx → EReal) (ix1 o)) (Ideal.ofBits FTy.f32 0x3A83126F#32))) ((V main_arg5 : S32.Idx → EReal) (ix1 o))))
        ((V main_arg6 : S32.Idx → EReal) (ix1 o))) 0) := by
  after_reads_at

end Cert.Proof.ReferenceIdeal
end
-- ==== Proof.RRef.lean ====
module

public import proofs.«01_k».proof.Proof.RVal
public import proofs.«01_k».proof.Proof.Spec

@[expose] public section

set_option maxRecDepth 16384

noncomputable section

/-! The reference's result, as the plain functions have it. -/

namespace Cert.Proof.ReferenceIdeal

open Cert.ReferenceIdeal
open Idealize.ShloMosaic Idealize.ShloMosaic.TcCoe Idealize.ShloMosaic.Tactic
open Idealize.ShloMosaic.StableHlo (after)

/-- Sixteen times a small word plus a lane is what it says. -/
theorem word_row (z : BitVec 32) (r : Fin 16) :
    (IntOp.addi (IntOp.muli (modW z) 16#32) (BitVec.ofNat 32 r.val)).toNat = (modW z).toNat * 16 + r.val := by
  have h := modW_lt z
  have hr := r.isLt
  show (modW z * 16#32 + BitVec.ofNat 32 r.val).toNat = _
  rw [BitVec.toNat_add, BitVec.toNat_mul, BitVec.toNat_ofNat, BitVec.toNat_ofNat]
  omega

theorem word_row_up (z : BitVec 32) (r : Fin 16) :
    (upW (IntOp.addi (IntOp.muli (modW z) 16#32) (BitVec.ofNat 32 r.val)) 1024#32).toInt = ((modW z).toNat * 16 + r.val : ℕ) := by
  have h := modW_lt z
  have hr := r.isLt
  have e := word_row z r
  rw [upW_of_small _ _ (by omega), BitVec.toInt_eq_toNat_of_lt (by omega), e]

variable (m : (ℓ : Loc nD τ sig) → Buf (Elt Ideal) ℓ) (c : Dev nD)

/-- The block that entry `k` of the index table names. -/
def bR (k : Fin 400) : Fin 64 := ⟨(modW ((m ((c : Thread nD τ).loc main_arg1) : S400x3.Idx → BitVec 32) (ix2 k 1))).toNat, modW_lt _⟩
def cR (k : Fin 400) : Fin 64 := ⟨(modW ((m ((c : Thread nD τ).loc main_arg1) : S400x3.Idx → BitVec 32) (ix2 k 2))).toNat, modW_lt _⟩

/-- The entries of the arguments. -/
def parR : Par where
  x Y X ch := (m ((c : Thread nD τ).loc main_arg0) : S1x1024x1024x32.Idx → EReal) (ix4 0 Y X ch)
  W o i p q := (m ((c : Thread nD τ).loc main_arg3) : S32x32x3x3.Idx → EReal) (ix4 o i p q)
  b o := (m ((c : Thread nD τ).loc main_arg4) : S32.Idx → EReal) (ix1 o)
  γ o := (m ((c : Thread nD τ).loc main_arg5) : S32.Idx → EReal) (ix1 o)
  β o := (m ((c : Thread nD τ).loc main_arg6) : S32.Idx → EReal) (ix1 o)
  μ o := (m ((c : Thread nD τ).loc main_arg7) : S32.Idx → EReal) (ix1 o)
  v o := (m ((c : Thread nD τ).loc main_arg8) : S32.Idx → EReal) (ix1 o)

theorem R6_v2 (k : Fin 400) : @Eq (BitVec 32) ((R6 m c main_v2 : S400.Idx → BitVec 32) (ix1 k)) 0#32 := by
  refine (congrFun ((R6_of m c main_v2 (by decide)).trans ((R5_of m c main_v2 (by decide)).trans ((R4_of m c main_v2 (by decide)).trans ((R3_of m c main_v2 (by decide)).trans ((R2_of m c main_v2 (by decide)).trans (R1_of m c main_v2 (by decide))))))) (ix1 k)).trans ?_
  unfold R0
  exact r0_v2 _ k
theorem R2_v5 (k : Fin 400) : @Eq (BitVec 32) ((R2 m c main_v5 : S400.Idx → BitVec 32) (ix1 k)) (modW ((m ((c : Thread nD τ).loc main_arg1) : S400x3.Idx → BitVec 32) (ix2 k 1))) := by
  refine (congrFun (R2_of m c main_v5 (by decide)) (ix1 k)).trans ?_
  unfold R1
  refine (r1_v5 _ k).trans ?_
  exact congrArg modW (congrFun (R0_of m c main_arg1 (by decide)) (ix2 k 1))
theorem R2_v8 (k : Fin 400) : @Eq (BitVec 32) ((R2 m c main_v8 : S400.Idx → BitVec 32) (ix1 k)) (modW ((m ((c : Thread nD τ).loc main_arg1) : S400x3.Idx → BitVec 32) (ix2 k 2))) := by
  unfold R2
  refine (r2_v8 _ k).trans ?_
  exact congrArg modW (congrFun ((R1_of m c main_arg1 (by decide)).trans (R0_of m c main_arg1 (by decide))) (ix2 k 2))
theorem R6_v16 (k : Fin 400) (r : Fin 16) : @Eq (BitVec 32) ((R6 m c main_v16 : S400x16.Idx → BitVec 32) (ix2 k r)) (IntOp.addi (IntOp.muli (modW ((m ((c : Thread nD τ).loc main_arg1) : S400x3.Idx → BitVec 32) (ix2 k 1))) 16#32) (BitVec.ofNat 32 r.val)) := by
  refine (congrFun ((R6_of m c main_v16 (by decide)).trans ((R5_of m c main_v16 (by decide)).trans (R4_of m c main_v16 (by decide)))) (ix2 k r)).trans ?_
  unfold R3
  refine (r3_v16 _ k r).trans ?_
  rw [R2_v5 m c k]
theorem R6_v23 (k : Fin 400) (r : Fin 16) : @Eq (BitVec 32) ((R6 m c main_v23 : S400x16.Idx → BitVec 32) (ix2 k r)) (IntOp.addi (IntOp.muli (modW ((m ((c : Thread nD τ).loc main_arg1) : S400x3.Idx → BitVec 32) (ix2 k 2))) 16#32) (BitVec.ofNat 32 r.val)) := by
  refine (congrFun ((R6_of m c main_v23 (by decide)).trans ((R5_of m c main_v23 (by decide)).trans (R4_of m c main_v23 (by decide)))) (ix2 k r)).trans ?_
  unfold R3
  refine (r3_v23 _ k r).trans ?_
  rw [R2_v8 m c k]
theorem R3_v48_1 (k : Fin 400) (r q : Fin 16) : ((R3 m c main_v48 : S400x16x16x3.Idx → BitVec 32) (ix4 k r q 1)).toInt = ((modW ((m ((c : Thread nD τ).loc main_arg1) : S400x3.Idx → BitVec 32) (ix2 k 1))).toNat * 16 + r.val : ℕ) := by
  refine Eq.trans (congrArg BitVec.toInt (?_ : _ = upW (IntOp.addi (IntOp.muli (modW ((m ((c : Thread nD τ).loc main_arg1) : S400x3.Idx → BitVec 32) (ix2 k 1))) 16#32) (BitVec.ofNat 32 r.val)) 1024#32)) (word_row_up _ r)
  unfold R3
  refine (r3_v48_1 _ k r q).trans ?_
  rw [R2_v5 m c k]
theorem R7_v148_1 (k : Fin 400) (r q : Fin 16) : ((R7 m c main_v148 : S400x16x16x3.Idx → BitVec 32) (ix4 k r q 1)).toInt = ((modW ((m ((c : Thread nD τ).loc main_arg1) : S400x3.Idx → BitVec 32) (ix2 k 1))).toNat * 16 + r.val : ℕ) := by
  refine Eq.trans (congrArg BitVec.toInt (?_ : _ = upW (IntOp.addi (IntOp.muli (modW ((m ((c : Thread nD τ).loc main_arg1) : S400x3.Idx → BitVec 32) (ix2 k 1))) 16#32) (BitVec.ofNat 32 r.val)) 1024#32)) (word_row_up _ r)
  unfold R7
  refine (r7_v148_1 _ k r q).trans ?_
  rw [R6_v16 m c k r]
theorem R3_v48_2 (k : Fin 400) (r q : Fin 16) : ((R3 m c main_v48 : S400x16x16x3.Idx → BitVec 32) (ix4 k r q 2)).toInt = ((modW ((m ((c : Thread nD τ).loc main_arg1) : S400x3.Idx → BitVec 32) (ix2 k 2))).toNat * 16 + q.val : ℕ) := by
  refine Eq.trans (congrArg BitVec.toInt (?_ : _ = upW (IntOp.addi (IntOp.muli (modW ((m ((c : Thread nD τ).loc main_arg1) : S400x3.Idx → BitVec 32) (ix2 k 2))) 16#32) (BitVec.ofNat 32 q.val)) 1024#32)) (word_row_up _ q)
  unfold R3
  refine (r3_v48_2 _ k r q).trans ?_
  rw [R2_v8 m c k]
theorem R7_v148_2 (k : Fin 400) (r q : Fin 16) : ((R7 m c main_v148 : S400x16x16x3.Idx → BitVec 32) (ix4 k r q 2)).toInt = ((modW ((m ((c : Thread nD τ).loc main_arg1) : S400x3.Idx → BitVec 32) (ix2 k 2))).toNat * 16 + q.val : ℕ) := by
  refine Eq.trans (congrArg BitVec.toInt (?_ : _ = upW (IntOp.addi (IntOp.muli (modW ((m ((c : Thread nD τ).loc main_arg1) : S400x3.Idx → BitVec 32) (ix2 k 2))) 16#32) (BitVec.ofNat 32 q.val)) 1024#32)) (word_row_up _ q)
  unfold R7
  refine (r7_v148_2 _ k r q).trans ?_
  rw [R6_v23 m c k q]
theorem R7_v148_0 (k : Fin 400) (r q : Fin 16) : ((R7 m c main_v148 : S400x16x16x3.Idx → BitVec 32) (ix4 k r q 0)).toInt = 0 := by
  refine Eq.trans (congrArg BitVec.toInt (?_ : _ = 0#32)) (by decide)
  unfold R7
  refine (r7_v148_0 _ k r q).trans ?_
  rw [R6_v2 m c k]
  exact upW_of_small _ _ (by decide)

theorem R4_v50 (k : Fin 400) (i j : Fin 18) (ci : Fin 32) :
    @Eq EReal ((R4 m c main_v50 : S400x18x18x32.Idx → EReal) (ix4 k i j ci)) ((parR m c).px (bR m c k) (cR m c k) i.val j.val ci) := by
  unfold R4 Par.px
  by_cases h : (1 ≤ i.val ∧ i.val - 1 < 16) ∧ 1 ≤ j.val ∧ j.val - 1 < 16
  · rw [dif_pos h]
    refine (r4_v50_in _ k i j ci h).trans ?_
    refine (gather_at _ _ k ⟨i.val - 1, h.1.2⟩ ⟨j.val - 1, h.2.2⟩ ci ⟨(bR m c k).val * 16 + (i.val - 1), by omega⟩ ⟨(cR m c k).val * 16 + (j.val - 1), by omega⟩ (R3_v48_1 m c k _ _) (R3_v48_2 m c k _ _)).trans ?_
    exact congrFun ((R3_of m c main_arg0 (by decide)).trans ((R2_of m c main_arg0 (by decide)).trans ((R1_of m c main_arg0 (by decide)).trans (R0_of m c main_arg0 (by decide))))) _
  · rw [dif_neg h]
    exact r4_v50_out _ k i j ci h

theorem R5_v105 (k : Fin 400) (r q : Fin 16) (o : Fin 32) :
    @Eq EReal ((R5 m c main_v105 : S400x16x16x32.Idx → EReal) (ix4 k r q o)) ((parR m c).conv (bR m c k) (cR m c k) r q o) := by
  have e : ∀ (dy dx : Fin 3) (i j : Fin 18), i.val = dy.val + r.val → j.val = dx.val + q.val →
      (∑ x : Fin 32, mulE ((R4 m c main_v50 : S400x18x18x32.Idx → EReal) (ix4 k i j x)) ((R4 m c main_arg3 : S32x32x3x3.Idx → EReal) (ix4 o x dy dx)))
        = ∑ ci : Fin 32, (parR m c).px (bR m c k) (cR m c k) (dy.val + r.val) (dx.val + q.val) ci * (parR m c).W o ci dy dx := fun dy dx i j hi hj =>
    Finset.sum_congr rfl fun x _ => congrArg₂ mulE ((R4_v50 m c k i j x).trans (by rw [hi, hj])) (congrFun ((R4_of m c main_arg3 (by decide)).trans ((R3_of m c main_arg3 (by decide)).trans ((R2_of m c main_arg3 (by decide)).trans ((R1_of m c main_arg3 (by decide)).trans (R0_of m c main_arg3 (by decide)))))) (ix4 o x dy dx))
  unfold R5 Par.conv
  refine (r5_v105 _ k r q o).trans ?_
  rw [e 0 0 _ _ (by show r.val = 0 + r.val; omega) (by show q.val = 0 + q.val; omega), e 0 1 _ _ (by show r.val = 0 + r.val; omega) rfl, e 0 2 _ _ (by show r.val = 0 + r.val; omega) rfl,
    e 1 0 _ _ rfl (by show q.val = 0 + q.val; omega), e 1 1 _ _ rfl rfl, e 1 2 _ _ rfl rfl,
    e 2 0 _ _ rfl (by show q.val = 0 + q.val; omega), e 2 1 _ _ rfl rfl, e 2 2 _ _ rfl rfl]
  simp only [Fin.sum_univ_three, addE, zero_add, add_assoc]

theorem R6_v123 (k : Fin 400) (r q : Fin 16) (o : Fin 32) :
    @Eq EReal ((R6 m c main_v123 : S400x16x16x32.Idx → EReal) (ix4 k r q o)) ((parR m c).plain (bR m c k) (cR m c k) r q o) := by
  unfold R6 Par.plain Par.rs eps
  refine (r6_v123 _ k r q o).trans ?_
  rw [R5_v105 m c k r q o, ((R5_of m c main_arg4 (by decide)).trans ((R4_of m c main_arg4 (by decide)).trans ((R3_of m c main_arg4 (by decide)).trans ((R2_of m c main_arg4 (by decide)).trans ((R1_of m c main_arg4 (by decide)).trans (R0_of m c main_arg4 (by decide))))))), ((R5_of m c main_arg7 (by decide)).trans ((R4_of m c main_arg7 (by decide)).trans ((R3_of m c main_arg7 (by decide)).trans ((R2_of m c main_arg7 (by decide)).trans ((R1_of m c main_arg7 (by decide)).trans (R0_of m c main_arg7 (by decide))))))), ((R5_of m c main_arg8 (by decide)).trans ((R4_of m c main_arg8 (by decide)).trans ((R3_of m c main_arg8 (by decide)).trans ((R2_of m c main_arg8 (by decide)).trans ((R1_of m c main_arg8 (by decide)).trans (R0_of m c main_arg8 (by decide))))))), ((R5_of m c main_arg5 (by decide)).trans ((R4_of m c main_arg5 (by decide)).trans ((R3_of m c main_arg5 (by decide)).trans ((R2_of m c main_arg5 (by decide)).trans ((R1_of m c main_arg5 (by decide)).trans (R0_of m c main_arg5 (by decide))))))), ((R5_of m c main_arg6 (by decide)).trans ((R4_of m c main_arg6 (by decide)).trans ((R3_of m c main_arg6 (by decide)).trans ((R2_of m c main_arg6 (by decide)).trans ((R1_of m c main_arg6 (by decide)).trans (R0_of m c main_arg6 (by decide)))))))]
  rfl

theorem R7_v123 (k : Fin 400) (r q : Fin 16) (o : Fin 32) :
    @Eq EReal ((R7 m c main_v123 : S400x16x16x32.Idx → EReal) (ix4 k r q o)) ((parR m c).plain (bR m c k) (cR m c k) r q o) :=
  (congrFun (R7_of m c main_v123 (by decide)) (ix4 k r q o)).trans (R6_v123 m c k r q o)

theorem plain_congr (p : Par) {B B' C C' : Fin 64} {r r' q q' : Fin 16} (o : Fin 32) (hB : B.val = B'.val) (hC : C.val = C'.val) (hr : r.val = r'.val) (hq : q.val = q'.val) :
    p.plain B C r q o = p.plain B' C' r' q' o := by
  rw [Fin.ext hB, Fin.ext hC, Fin.ext hr, Fin.ext hq]

/-- Where some entry names the block, the result is the convolved block. -/
theorem ref_hit (Y X : Fin 1024) (ch : Fin 32) (k : Fin 400) (hB : (bR m c k).val = Y.val / 16) (hC : (cR m c k).val = X.val / 16) :
    @Eq EReal ((R8 m c main_v149 : S1x1024x1024x32.Idx → EReal) (ix4 0 Y X ch))
      ((parR m c).plain ⟨Y.val / 16, by omega⟩ ⟨X.val / 16, by omega⟩ ⟨Y.val % 16, by omega⟩ ⟨X.val % 16, by omega⟩ ch) := by
  unfold R8
  refine (r8_v149 _ _).trans ?_
  refine Routing.scatter_set_hit sdim _ _ _ (ix4 0 Y X ch) _ (fun j hj => ?_) (ix4 k ⟨Y.val % 16, by omega⟩ ⟨X.val % 16, by omega⟩ ch) ?_
  · obtain ⟨k', r, q, o, rfl⟩ : ∃ (k' : Fin 400) (r q : Fin 16) (o : Fin 32), j = ix4 k' r q o := ⟨j 0, j 1, j 2, j 3, eq_ix4 j⟩
    obtain ⟨-, h1, h2, rfl⟩ := (lands _ k' r q o Y X ch).1 hj
    rw [R7_v148_1] at h1
    rw [R7_v148_2] at h2
    have h1' : (bR m c k').val * 16 + r.val = Y.val := by exact_mod_cast h1
    have h2' : (cR m c k').val * 16 + q.val = X.val := by exact_mod_cast h2
    exact (R7_v123 m c k' r q o).trans (plain_congr _ _ (by show _ = Y.val / 16; omega) (by show _ = X.val / 16; omega) (by show _ = Y.val % 16; omega) (by show _ = X.val % 16; omega))
  · refine (lands _ k _ _ ch Y X ch).2 ⟨R7_v148_0 m c k _ _, ?_, ?_, rfl⟩
    · rw [R7_v148_1]
      have : (bR m c k).val * 16 + Y.val % 16 = Y.val := by omega
      exact_mod_cast this
    · rw [R7_v148_2]
      have : (cR m c k).val * 16 + X.val % 16 = X.val := by omega
      exact_mod_cast this

/-- Where none does, the result is the argument. -/
theorem ref_miss (Y X : Fin 1024) (ch : Fin 32) (h : ∀ k : Fin 400, ¬ ((bR m c k).val = Y.val / 16 ∧ (cR m c k).val = X.val / 16)) :
    @Eq EReal ((R8 m c main_v149 : S1x1024x1024x32.Idx → EReal) (ix4 0 Y X ch))
      ((m ((c : Thread nD τ).loc main_arg0) : S1x1024x1024x32.Idx → EReal) (ix4 0 Y X ch)) := by
  unfold R8
  refine (r8_v149 _ _).trans ?_
  refine (Routing.scatter_set_miss sdim _ _ _ (ix4 0 Y X ch) fun j hj => ?_).trans (congrFun ((R7_of m c main_arg0 (by decide)).trans ((R6_of m c main_arg0 (by decide)).trans ((R5_of m c main_arg0 (by decide)).trans ((R4_of m c main_arg0 (by decide)).trans ((R3_of m c main_arg0 (by decide)).trans ((R2_of m c main_arg0 (by decide)).trans ((R1_of m c main_arg0 (by decide)).trans (R0_of m c main_arg0 (by decide))))))))) _)
  obtain ⟨k', r, q, o, rfl⟩ : ∃ (k' : Fin 400) (r q : Fin 16) (o : Fin 32), j = ix4 k' r q o := ⟨j 0, j 1, j 2, j 3, eq_ix4 j⟩
  obtain ⟨-, h1, h2, -⟩ := (lands _ k' r q o Y X ch).1 hj
  rw [R7_v148_1] at h1
  rw [R7_v148_2] at h2
  have h1' : (bR m c k').val * 16 + r.val = Y.val := by exact_mod_cast h1
  have h2' : (cR m c k').val * 16 + q.val = X.val := by exact_mod_cast h2
  exact h k' ⟨by omega, by omega⟩

end Cert.Proof.ReferenceIdeal
end
-- ==== Proof.Value.lean ====
module

public import proofs.«01_k».proof.Defs
public import proofs.«01_k».proof.Proof.KIVTile
public import proofs.«01_k».proof.Proof.RRef
public import Idealize.ShloMosaic.Lib.ReduceAll

@[expose] public section

set_option maxRecDepth 16384

noncomputable section

/-! The values: what the precondition says of the entries, and the two results equal under it. -/

namespace Cert.Proof

open Idealize.ShloMosaic Idealize.ShloMosaic.TcCoe Idealize.ShloMosaic.Tactic Idealize.SL.Sem

instance tameFacts : Cert.Pre_tame.Facts where
  bcast_S_S1x1024x1024x32 := by decide
  reducesTo_S1x1024x1024x32_S_d0_1_2_3 := by decide
  h_S_ := by decide
  bcast_S_S32x32x3x3 := by decide
  reducesTo_S32x32x3x3_S_d0_1_2_3 := by decide
  bcast_S_S32 := by decide
  reducesTo_S32_S_d0 := by decide

theorem andi_both (a b : BitVec 1) (h : IntOp.andi a b = 1#1) : a = 1#1 ∧ b = 1#1 := by
  revert a b; decide

/-- A number whose magnitude is below infinity is real. -/
theorem real_of_lt (x : EReal) (h : FloatOps.cmpf (F := Ideal) (φ := .f32) .olt (max x (-x)) (Ideal.ofBits FTy.f32 0x7F800000#32) = 1#1) : ∃ t : ℝ, x = t := by
  have ht : Ideal.ofBits FTy.f32 0x7F800000#32 = (⊤ : EReal) := by simp [Ideal.ofBits, Ideal.ieee]
  rw [ht] at h
  induction x with
  | bot => exact absurd h (by simp [FloatOps.cmpf, Ideal.cmp])
  | top => exact absurd h (by simp [FloatOps.cmpf, Ideal.cmp])
  | coe a => exact ⟨a, rfl⟩

/-- A number found at least zero is nonnegative. -/
theorem nonneg_of_ge (x : EReal) (h : FloatOps.cmpf (F := Ideal) (φ := .f32) .oge x (Ideal.ofBits FTy.f32 0x00000000#32) = 1#1) : 0 ≤ x := by
  rw [Ideal.ofBits_zero_f32] at h
  by_contra hn
  exact absurd h (by simp [FloatOps.cmpf, Ideal.cmp, hn])

open Cert.Pre_tame in
/-- What the precondition says of the entries. -/
theorem tame_fin (a0 : FVec Ideal S1x1024x1024x32 .f32) (a1 : IVec S400x3 32) (a2 : IVec S1 32) (a3 : FVec Ideal S32x32x3x3 .f32) (a4 a5 a6 a7 a8 : FVec Ideal S32 .f32)
    (h : Cert.Pre_tame.fn (F := Ideal) a0 a1 a2 a3 a4 a5 a6 a7 a8 = fun _ => 1#1) :
    (∀ i, ∃ t : ℝ, (a0 i : EReal) = t) ∧ (∀ i, ∃ t : ℝ, (a3 i : EReal) = t) ∧ (∀ i, ∃ t : ℝ, (a5 i : EReal) = t)
      ∧ (∀ i, (0 : EReal) ≤ a8 i) := by
  haveI : Subsingleton S_.Idx := ⟨fun x y => funext fun a => a.elim0⟩
  have h0 : fn (F := Ideal) a0 a1 a2 a3 a4 a5 a6 a7 a8 ix0 = 1#1 := congrFun h ix0
  obtain ⟨h0, h8⟩ := andi_both _ _ h0
  obtain ⟨h0, h5⟩ := andi_both _ _ h0
  obtain ⟨h0, h3⟩ := andi_both _ _ h0
  exact ⟨fun i => real_of_lt _ (Host.reduce_andi_all _ _ _ _ _ h0 i), fun i => real_of_lt _ (Host.reduce_andi_all _ _ _ _ _ h3 i),
    fun i => real_of_lt _ (Host.reduce_andi_all _ _ _ _ _ h5 i),
    fun i => nonneg_of_ge _ (Host.reduce_andi_all _ _ _ _ _ h8 i)⟩

theorem par_fin (m : (ℓ : Loc Cert.KernelIdeal.nD Cert.KernelIdeal.τ Cert.KernelIdeal.sig) → Buf (Elt Ideal) ℓ) (h : Cert.Pre_KernelIdeal_tame m)
    (c : Dev Cert.KernelIdeal.nD) : (KernelIdeal.parOf m c).Fin' := by
  obtain ⟨h0, h3, h5, h8⟩ := tame_fin _ _ _ _ _ _ _ _ _ (h c)
  exact ⟨fun i j k => h0 _, fun o i a b => h3 _, fun o => h5 _, fun o => h8 _⟩

/-- From equal arguments the two results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_tame m) (c : Dev Cert.KernelIdeal.nD)
    (hp : ReferenceIdeal.parR m' c = KernelIdeal.parOf m c)
    (hi : (m' ((c.tc : Thread Cert.ReferenceIdeal.nD Cert.ReferenceIdeal.τ).loc Cert.ReferenceIdeal.main_arg1) : Cert.ReferenceIdeal.S400x3.Idx → BitVec 32) = m ((c.tc : Thread Cert.KernelIdeal.nD Cert.KernelIdeal.τ).loc Cert.KernelIdeal.main_arg1)) :
    (ReferenceIdeal.R8 m' c Cert.ReferenceIdeal.main_v149 : Cert.ReferenceIdeal.S1x1024x1024x32.Idx → EReal)
      = Cert.KernelIdeal.Gen.V27 m (KernelIdeal.outsOf m (KernelIdeal.tab_ok m 0)) c Cert.KernelIdeal.main_v145 := by
  funext i
  obtain ⟨z, Y, X, ch, rfl⟩ : ∃ (z : Fin 1) (Y X : Fin 1024) (ch : Fin 32), i = ix4 z Y X ch := ⟨i 0, i 1, i 2, i 3, eq_ix4 i⟩
  obtain rfl : z = 0 := Subsingleton.elim _ _
  have hb : ∀ k, (ReferenceIdeal.bR m' c k).val = (KernelIdeal.byT m c k).toNat := fun k => congrArg (fun t => (modW t).toNat) (congrFun hi (ix2 k 1))
  have hc : ∀ k, (ReferenceIdeal.cR m' c k).val = (KernelIdeal.bxT m c k).toNat := fun k => congrArg (fun t => (modW t).toNat) (congrFun hi (ix2 k 2))
  refine KernelIdeal.result_spec m (KernelIdeal.tab_ok m 0)
    (fun z : EReal => @Eq EReal ((ReferenceIdeal.R8 m' c Cert.ReferenceIdeal.main_v149 : Cert.ReferenceIdeal.S1x1024x1024x32.Idx → EReal) (ix4 0 Y X ch)) z)
    c Y X ch (fun k hB hC => ?_) (fun hn => ?_)
  · refine (ReferenceIdeal.ref_hit m' c Y X ch (KernelIdeal.sg m c k) ((hb _).trans hB) ((hc _).trans hC)).trans ?_
    rw [hp]
    refine Eq.trans ?_ (KernelIdeal.tile_at m (KernelIdeal.tab_ok m 0) c k ⟨Y.val / 16, by omega⟩ ⟨X.val / 16, by omega⟩ hB hC _ ⟨X.val % 16, by omega⟩ ch _ rfl).symm
    exact (folded_eq_plain _ (par_fin m h c) _ _ _ _ _).symm
  · refine (ReferenceIdeal.ref_miss m' c Y X ch fun k hk => hn k ⟨(hb k).symm.trans hk.1, (hc k).symm.trans hk.2⟩).trans ?_
    exact congrFun (congrFun (congrFun (congrArg Par.x hp) Y) X) ch

theorem values_agree : Cert.algebraic_KernelIdeal_ReferenceIdeal_pre_tame := fun m g m' g' hpre hargs => by
  refine ⟨fun c => Cert.KernelIdeal.Gen.V27 m (KernelIdeal.outsOf m (KernelIdeal.tab_ok m 0)) c Cert.KernelIdeal.main_v145, ?_, ?_⟩
  · exact θ_run_mono (KernelIdeal.whole_run m (KernelIdeal.tab_ok m 0) g) fun _ hr => hr.1
  · refine θ_run_mono (ReferenceIdeal.ref_run m' g') fun r hr c => ?_
    obtain ⟨a0, a1, a2, a3, a4, a5, a6, a7, a8⟩ := hargs c
    refine ⟨(hr c _).trans (results_eq m m' hpre c ?_ a1),
      (hr c _).trans (ReferenceIdeal.R_arg0 m' c), (hr c _).trans (ReferenceIdeal.R_arg1 m' c), (hr c _).trans (ReferenceIdeal.R_arg2 m' c),
      (hr c _).trans (ReferenceIdeal.R_arg3 m' c), (hr c _).trans (ReferenceIdeal.R_arg4 m' c), (hr c _).trans (ReferenceIdeal.R_arg5 m' c),
      (hr c _).trans (ReferenceIdeal.R_arg6 m' c), (hr c _).trans (ReferenceIdeal.R_arg7 m' c), (hr c _).trans (ReferenceIdeal.R_arg8 m' c)⟩
    unfold ReferenceIdeal.parR KernelIdeal.parOf
    rw [a0, a3, a4, a5, a6, a7, a8]

end Cert.Proof
end
-- ==== Proof.lean ====
/-
  The claim: the frames of the two programs and of the reference, and the values of the two.
-/
module

public import proofs.«01_k».proof.Defs
public import proofs.«01_k».proof.Proof.KTab
public import proofs.«01_k».proof.Proof.KITab
public import proofs.«01_k».proof.Proof.RefRun
public import proofs.«01_k».proof.Proof.Value

@[expose] public section

noncomputable section

namespace Cert.Proof

open Idealize.ShloMosaic Idealize.SL.Sem

theorem frame_kernel : Cert.quiescent_Kernel := fun m g _ =>
  θ_run_mono (Cert.Proof.Kernel.whole_run m (Cert.Proof.Kernel.tab_ok m 0) g) fun _ h => ⟨fun c => (h.1 c).2, h.2⟩

theorem frame_ideal : Cert.quiescent_KernelIdeal := fun m g _ =>
  θ_run_mono (Cert.Proof.KernelIdeal.whole_run m (Cert.Proof.KernelIdeal.tab_ok m 0) g) fun _ h => ⟨fun c => (h.1 c).2, h.2⟩

theorem frame_reference : Cert.quiescent_ReferenceIdeal := fun m g _ =>
  θ_run_mono (Cert.Proof.ReferenceIdeal.ref_run m g) fun r h => ⟨fun c =>
    ⟨(h c _).trans (ReferenceIdeal.R_arg0 m c), (h c _).trans (ReferenceIdeal.R_arg1 m c), (h c _).trans (ReferenceIdeal.R_arg2 m c),
      (h c _).trans (ReferenceIdeal.R_arg3 m c), (h c _).trans (ReferenceIdeal.R_arg4 m c), (h c _).trans (ReferenceIdeal.R_arg5 m c),
      (h c _).trans (ReferenceIdeal.R_arg6 m c), (h c _).trans (ReferenceIdeal.R_arg7 m c), (h c _).trans (ReferenceIdeal.R_arg8 m c)⟩,
    sem_eq_zero_of_no_sems (by decide) _⟩

theorem frame_ideal_tame : Cert.quiescent_KernelIdeal_pre_tame := fun m g _ =>
  θ_run_mono (Cert.Proof.KernelIdeal.whole_run m (Cert.Proof.KernelIdeal.tab_ok m 0) g) fun _ h => ⟨fun c => (h.1 c).2, h.2⟩

theorem frame_reference_tame : Cert.quiescent_ReferenceIdeal_pre_tame := fun m g _ => frame_reference m g trivial

theorem claim : Cert.Claim := ⟨Cert.Kernel.Gen.facts, Cert.KernelIdeal.Gen.facts, Cert.ReferenceIdeal.Gen.facts, tameFacts,
  frame_kernel, frame_ideal, frame_ideal_tame, frame_reference, frame_reference_tame, trivial, values_agree⟩

end Cert.Proof

end
